-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x16x768 : Shape := ⟨3, ![12, 16, 768]⟩
abbrev S768x1536 : Shape := ⟨2, ![768, 1536]⟩
abbrev S768 : Shape := ⟨1, ![768]⟩
abbrev S768x768 : Shape := ⟨2, ![768, 768]⟩
abbrev S1x768x768 : Shape := ⟨3, ![1, 768, 768]⟩
abbrev S192x768 : Shape := ⟨2, ![192, 768]⟩
abbrev S1536x768 : Shape := ⟨2, ![1536, 768]⟩
abbrev S768x2304 : Shape := ⟨2, ![768, 2304]⟩
abbrev S1x768 : Shape := ⟨2, ![1, 768]⟩
abbrev S1248x768 : Shape := ⟨2, ![1248, 768]⟩
abbrev S1248x1 : Shape := ⟨2, ![1248, 1]⟩
abbrev S1248x3072 : Shape := ⟨2, ![1248, 3072]⟩
abbrev S1248x1536 : Shape := ⟨2, ![1248, 1536]⟩
abbrev S1x1536 : Shape := ⟨2, ![1, 1536]⟩
abbrev S1x2304 : Shape := ⟨2, ![1, 2304]⟩
abbrev S192x1 : Shape := ⟨2, ![192, 1]⟩
abbrev S192x2304 : Shape := ⟨2, ![192, 2304]⟩
abbrev S176x1536 : Shape := ⟨2, ![176, 1536]⟩
abbrev S176x1 : Shape := ⟨2, ![176, 1]⟩
abbrev S176x768 : Shape := ⟨2, ![176, 768]⟩
abbrev S176 : Shape := ⟨1, ![176]⟩
abbrev S1x176x1 : Shape := ⟨3, ![1, 176, 1]⟩
abbrev S1x176x768 : Shape := ⟨3, ![1, 176, 768]⟩
abbrev S176x2304 : Shape := ⟨2, ![176, 2304]⟩
abbrev S160x1536 : Shape := ⟨2, ![160, 1536]⟩
abbrev S160x1 : Shape := ⟨2, ![160, 1]⟩
abbrev S320x1 : Shape := ⟨2, ![320, 1]⟩
abbrev S160x768 : Shape := ⟨2, ![160, 768]⟩
abbrev S320x768 : Shape := ⟨2, ![320, 768]⟩
abbrev S160 : Shape := ⟨1, ![160]⟩
abbrev S2x160x1 : Shape := ⟨3, ![2, 160, 1]⟩
abbrev S1x160x1 : Shape := ⟨3, ![1, 160, 1]⟩
abbrev S2x160x768 : Shape := ⟨3, ![2, 160, 768]⟩
abbrev S160x2304 : Shape := ⟨2, ![160, 2304]⟩
abbrev S144x1536 : Shape := ⟨2, ![144, 1536]⟩
abbrev S144x1 : Shape := ⟨2, ![144, 1]⟩
abbrev S432x1 : Shape := ⟨2, ![432, 1]⟩
abbrev S144x768 : Shape := ⟨2, ![144, 768]⟩
abbrev S432x768 : Shape := ⟨2, ![432, 768]⟩
abbrev S144 : Shape := ⟨1, ![144]⟩
abbrev S3x144x1 : Shape := ⟨3, ![3, 144, 1]⟩
abbrev S1x144x1 : Shape := ⟨3, ![1, 144, 1]⟩
abbrev S3x144x768 : Shape := ⟨3, ![3, 144, 768]⟩
abbrev S144x2304 : Shape := ⟨2, ![144, 2304]⟩
abbrev S128x1536 : Shape := ⟨2, ![128, 1536]⟩
abbrev S128x1 : Shape := ⟨2, ![128, 1]⟩
abbrev S512x1 : Shape := ⟨2, ![512, 1]⟩
abbrev S128x768 : Shape := ⟨2, ![128, 768]⟩
abbrev S512x768 : Shape := ⟨2, ![512, 768]⟩
abbrev S128 : Shape := ⟨1, ![128]⟩
abbrev S4x128x1 : Shape := ⟨3, ![4, 128, 1]⟩
abbrev S1x128x1 : Shape := ⟨3, ![1, 128, 1]⟩
abbrev S4x128x768 : Shape := ⟨3, ![4, 128, 768]⟩
abbrev S128x2304 : Shape := ⟨2, ![128, 2304]⟩
abbrev S112x1536 : Shape := ⟨2, ![112, 1536]⟩
abbrev S112x1 : Shape := ⟨2, ![112, 1]⟩
abbrev S560x1 : Shape := ⟨2, ![560, 1]⟩
abbrev S112x768 : Shape := ⟨2, ![112, 768]⟩
abbrev S560x768 : Shape := ⟨2, ![560, 768]⟩
abbrev S112 : Shape := ⟨1, ![112]⟩
abbrev S5x112x1 : Shape := ⟨3, ![5, 112, 1]⟩
abbrev S1x112x1 : Shape := ⟨3, ![1, 112, 1]⟩
abbrev S5x112x768 : Shape := ⟨3, ![5, 112, 768]⟩
abbrev S112x2304 : Shape := ⟨2, ![112, 2304]⟩
abbrev S96x1536 : Shape := ⟨2, ![96, 1536]⟩
abbrev S96x1 : Shape := ⟨2, ![96, 1]⟩
abbrev S576x1 : Shape := ⟨2, ![576, 1]⟩
abbrev S96x768 : Shape := ⟨2, ![96, 768]⟩
abbrev S576x768 : Shape := ⟨2, ![576, 768]⟩
abbrev S96 : Shape := ⟨1, ![96]⟩
abbrev S6x96x1 : Shape := ⟨3, ![6, 96, 1]⟩
abbrev S1x96x1 : Shape := ⟨3, ![1, 96, 1]⟩
abbrev S6x96x768 : Shape := ⟨3, ![6, 96, 768]⟩
abbrev S96x2304 : Shape := ⟨2, ![96, 2304]⟩
abbrev S80x1536 : Shape := ⟨2, ![80, 1536]⟩
abbrev S80x1 : Shape := ⟨2, ![80, 1]⟩
abbrev S80x768 : Shape := ⟨2, ![80, 768]⟩
abbrev S80 : Shape := ⟨1, ![80]⟩
abbrev S7x80x1 : Shape := ⟨3, ![7, 80, 1]⟩
abbrev S1x80x1 : Shape := ⟨3, ![1, 80, 1]⟩
abbrev S7x80x768 : Shape := ⟨3, ![7, 80, 768]⟩
abbrev S80x2304 : Shape := ⟨2, ![80, 2304]⟩
abbrev S64x1536 : Shape := ⟨2, ![64, 1536]⟩
abbrev S64x1 : Shape := ⟨2, ![64, 1]⟩
abbrev S64x768 : Shape := ⟨2, ![64, 768]⟩
abbrev S64 : Shape := ⟨1, ![64]⟩
abbrev S8x64x1 : Shape := ⟨3, ![8, 64, 1]⟩
abbrev S1x64x1 : Shape := ⟨3, ![1, 64, 1]⟩
abbrev S8x64x768 : Shape := ⟨3, ![8, 64, 768]⟩
abbrev S64x2304 : Shape := ⟨2, ![64, 2304]⟩
abbrev S48x1536 : Shape := ⟨2, ![48, 1536]⟩
abbrev S48x1 : Shape := ⟨2, ![48, 1]⟩
abbrev S48x768 : Shape := ⟨2, ![48, 768]⟩
abbrev S48 : Shape := ⟨1, ![48]⟩
abbrev S9x48x1 : Shape := ⟨3, ![9, 48, 1]⟩
abbrev S1x48x1 : Shape := ⟨3, ![1, 48, 1]⟩
abbrev S9x48x768 : Shape := ⟨3, ![9, 48, 768]⟩
abbrev S48x2304 : Shape := ⟨2, ![48, 2304]⟩
abbrev S32x1536 : Shape := ⟨2, ![32, 1536]⟩
abbrev S32x1 : Shape := ⟨2, ![32, 1]⟩
abbrev S32x768 : Shape := ⟨2, ![32, 768]⟩
abbrev S32 : Shape := ⟨1, ![32]⟩
abbrev S10x32x1 : Shape := ⟨3, ![10, 32, 1]⟩
abbrev S1x32x1 : Shape := ⟨3, ![1, 32, 1]⟩
abbrev S10x32x768 : Shape := ⟨3, ![10, 32, 768]⟩
abbrev S32x2304 : Shape := ⟨2, ![32, 2304]⟩
abbrev S16x1536 : Shape := ⟨2, ![16, 1536]⟩
abbrev S16x1 : Shape := ⟨2, ![16, 1]⟩
abbrev S16x768 : Shape := ⟨2, ![16, 768]⟩
abbrev S16 : Shape := ⟨1, ![16]⟩
abbrev S11x16x1 : Shape := ⟨3, ![11, 16, 1]⟩
abbrev S1x16x1 : Shape := ⟨3, ![1, 16, 1]⟩
abbrev S11x16x768 : Shape := ⟨3, ![11, 16, 768]⟩
abbrev S16x2304 : Shape := ⟨2, ![16, 2304]⟩
abbrev S1x32x768 : Shape := ⟨3, ![1, 32, 768]⟩
abbrev S2x48x1 : Shape := ⟨3, ![2, 48, 1]⟩
abbrev S2x48x768 : Shape := ⟨3, ![2, 48, 768]⟩
abbrev S3x64x1 : Shape := ⟨3, ![3, 64, 1]⟩
abbrev S3x64x768 : Shape := ⟨3, ![3, 64, 768]⟩
abbrev S4x80x1 : Shape := ⟨3, ![4, 80, 1]⟩
abbrev S4x80x768 : Shape := ⟨3, ![4, 80, 768]⟩
abbrev S480x1 : Shape := ⟨2, ![480, 1]⟩
abbrev S480x768 : Shape := ⟨2, ![480, 768]⟩
abbrev S5x96x1 : Shape := ⟨3, ![5, 96, 1]⟩
abbrev S5x96x768 : Shape := ⟨3, ![5, 96, 768]⟩
abbrev S672x1 : Shape := ⟨2, ![672, 1]⟩
abbrev S672x768 : Shape := ⟨2, ![672, 768]⟩
abbrev S6x112x1 : Shape := ⟨3, ![6, 112, 1]⟩
abbrev S6x112x768 : Shape := ⟨3, ![6, 112, 768]⟩
abbrev S896x1 : Shape := ⟨2, ![896, 1]⟩
abbrev S896x768 : Shape := ⟨2, ![896, 768]⟩
abbrev S7x128x1 : Shape := ⟨3, ![7, 128, 1]⟩
abbrev S7x128x768 : Shape := ⟨3, ![7, 128, 768]⟩
abbrev S1152x1 : Shape := ⟨2, ![1152, 1]⟩
abbrev S1152x768 : Shape := ⟨2, ![1152, 768]⟩
abbrev S8x144x1 : Shape := ⟨3, ![8, 144, 1]⟩
abbrev S8x144x768 : Shape := ⟨3, ![8, 144, 768]⟩
abbrev S1440x1 : Shape := ⟨2, ![1440, 1]⟩
abbrev S1440x768 : Shape := ⟨2, ![1440, 768]⟩
abbrev S9x160x1 : Shape := ⟨3, ![9, 160, 1]⟩
abbrev S9x160x768 : Shape := ⟨3, ![9, 160, 768]⟩
abbrev S1760x1 : Shape := ⟨2, ![1760, 1]⟩
abbrev S1760x768 : Shape := ⟨2, ![1760, 768]⟩
abbrev S10x176x1 : Shape := ⟨3, ![10, 176, 1]⟩
abbrev S10x176x768 : Shape := ⟨3, ![10, 176, 768]⟩
abbrev S2112x1 : Shape := ⟨2, ![2112, 1]⟩
abbrev S2112x768 : Shape := ⟨2, ![2112, 768]⟩
abbrev S11x192x1 : Shape := ⟨3, ![11, 192, 1]⟩
abbrev S1x192x1 : Shape := ⟨3, ![1, 192, 1]⟩
abbrev S11x192x768 : Shape := ⟨3, ![11, 192, 768]⟩
abbrev S192x1536 : Shape := ⟨2, ![192, 1536]⟩
abbrev S78x16x768 : Shape := ⟨3, ![78, 16, 768]⟩
abbrev S78x16x1 : Shape := ⟨3, ![78, 16, 1]⟩
abbrev S78x16x1538 : Shape := ⟨3, ![78, 16, 1538]⟩

abbrev nBuf : Space → Nat
  | .hbm => 26
  | .vmem => 12
  | .smem => 0
  | _ => 0

abbrev bufTy : (tb : Table) → Fin (tcTables nBuf tb) → BufTy
  | .hbm, ⟨0, _⟩ => ⟨S12x16x768, .f32⟩
  | .hbm, ⟨1, _⟩ => ⟨S768x1536, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S1x768x768, .f32⟩
  | .hbm, ⟨6, _⟩ => ⟨S768, .f32⟩
  | .hbm, ⟨7, _⟩ => ⟨S192x768, .f32⟩
  | .hbm, ⟨8, _⟩ => ⟨S1536x768, .f32⟩
  | .hbm, ⟨9, _⟩ => ⟨S768x768, .f32⟩
  | .hbm, ⟨10, _⟩ => ⟨S768x768, .f32⟩
  | .hbm, ⟨11, _⟩ => ⟨S768x768, .f32⟩
  | .hbm, ⟨12, _⟩ => ⟨S768x2304, .f32⟩
  | .hbm, ⟨13, _⟩ => ⟨S1x768, .f32⟩
  | .hbm, ⟨14, _⟩ => ⟨S768x768, .f32⟩
  | .hbm, ⟨15, _⟩ => ⟨S1x768, .f32⟩
  | .hbm, ⟨16, _⟩ => ⟨S1x768, .f32⟩
  | .hbm, ⟨17, _⟩ => ⟨S1248x768, .f32⟩
  | .hbm, ⟨18, _⟩ => ⟨S1248x1, .f32⟩
  | .hbm, ⟨19, _⟩ => ⟨S1248x768, .f32⟩
  | .hbm, ⟨20, _⟩ => ⟨S1248x1, .f32⟩
  | .hbm, ⟨21, _⟩ => ⟨S78x16x768, .f32⟩
  | .hbm, ⟨22, _⟩ => ⟨S78x16x1, .f32⟩
  | .hbm, ⟨23, _⟩ => ⟨S78x16x768, .f32⟩
  | .hbm, ⟨24, _⟩ => ⟨S78x16x1, .f32⟩
  | .hbm, ⟨25, _⟩ => ⟨S78x16x1538, .f32⟩
  | .local _ .vmem, ⟨0, _⟩ => ⟨S192x768, .f32⟩
  | .local _ .vmem, ⟨1, _⟩ => ⟨S768x2304, .f32⟩
  | .local _ .vmem, ⟨2, _⟩ => ⟨S1x768, .f32⟩
  | .local _ .vmem, ⟨3, _⟩ => ⟨S768x768, .f32⟩
  | .local _ .vmem, ⟨4, _⟩ => ⟨S1x768, .f32⟩
  | .local _ .vmem, ⟨5, _⟩ => ⟨S1x768, .f32⟩
  | .local _ .vmem, ⟨6, _⟩ => ⟨S1248x768, .f32⟩
  | .local _ .vmem, ⟨7, _⟩ => ⟨S1248x1, .f32⟩
  | .local _ .vmem, ⟨8, _⟩ => ⟨S1248x768, .f32⟩
  | .local _ .vmem, ⟨9, _⟩ => ⟨S1248x1, .f32⟩
  | .local _ .vmem, ⟨10, _⟩ => ⟨S1248x3072, .bf16⟩
  | .local _ .vmem, ⟨11, _⟩ => ⟨S1248x1536, .bf16⟩
  | _, _ => ⟨S12x16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S192x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1248x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1248x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1248x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1248x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S12x16x768 : Shape := ⟨3, ![12, 16, 768]⟩
abbrev S768x1536 : Shape := ⟨2, ![768, 1536]⟩
abbrev S768 : Shape := ⟨1, ![768]⟩
abbrev S768x768 : Shape := ⟨2, ![768, 768]⟩
abbrev S1x768x768 : Shape := ⟨3, ![1, 768, 768]⟩
abbrev S143 : Shape := ⟨1, ![143]⟩
abbrev S143x11 : Shape := ⟨2, ![143, 11]⟩
abbrev S_ : Shape := ⟨0, ![]⟩
abbrev S143x16x768 : Shape := ⟨3, ![143, 16, 768]⟩
abbrev S1x16x768 : Shape := ⟨3, ![1, 16, 768]⟩
abbrev S156x16x768 : Shape := ⟨3, ![156, 16, 768]⟩
abbrev S156x16x1 : Shape := ⟨3, ![156, 16, 1]⟩
abbrev S1 : Shape := ⟨1, ![1]⟩
abbrev S1x11 : Shape := ⟨2, ![1, 11]⟩
abbrev S11 : Shape := ⟨1, ![11]⟩
abbrev S11x1 : Shape := ⟨2, ![11, 1]⟩
abbrev S11x16x768 : Shape := ⟨3, ![11, 16, 768]⟩
abbrev S11x16 : Shape := ⟨2, ![11, 16]⟩
abbrev S11x16x1 : Shape := ⟨3, ![11, 16, 1]⟩
abbrev S11x16x1536 : Shape := ⟨3, ![11, 16, 1536]⟩
abbrev S1536x768 : Shape := ⟨2, ![1536, 768]⟩
abbrev S1x1x768 : Shape := ⟨3, ![1, 1, 768]⟩
abbrev S16x1 : Shape := ⟨2, ![16, 1]⟩
abbrev S1x16x1 : Shape := ⟨3, ![1, 16, 1]⟩
abbrev S16x768 : Shape := ⟨2, ![16, 768]⟩
abbrev S78x16x768 : Shape := ⟨3, ![78, 16, 768]⟩
abbrev S78x16x1 : Shape := ⟨3, ![78, 16, 1]⟩
abbrev S78x16x1538 : Shape := ⟨3, ![78, 16, 1538]⟩

abbrev nBuf : Space → Nat
  | .hbm => 128
  | .vmem => 0
  | .smem => 0
  | _ => 0

abbrev bufTy : (tb : Table) → Fin (tcTables nBuf tb) → BufTy
  | .hbm, ⟨0, _⟩ => ⟨S12x16x768, .f32⟩
  | .hbm, ⟨1, _⟩ => ⟨S768x1536, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S1x768x768, .f32⟩
  | .hbm, ⟨6, _⟩ => ⟨S768, .f32⟩
  | .hbm, ⟨7, _⟩ => ⟨S143, .i32⟩
  | .hbm, ⟨8, _⟩ => ⟨S143x11, .i32⟩
  | .hbm, ⟨9, _⟩ => ⟨S143x11, .i32⟩
  | .hbm, ⟨10, _⟩ => ⟨S143, .i32⟩
  | .hbm, ⟨11, _⟩ => ⟨S_, .f32⟩
  | .hbm, ⟨12, _⟩ => ⟨S143x16x768, .f32⟩
  | .hbm, ⟨13, _⟩ => ⟨S1x16x768, .f32⟩
  | .hbm, ⟨14, _⟩ => ⟨S156x16x768, .f32⟩
  | .hbm, ⟨15, _⟩ => ⟨S_, .f32⟩
  | .hbm, ⟨16, _⟩ => ⟨S156x16x1, .f32⟩
  | .hbm, ⟨17, _⟩ => ⟨S_, .i32⟩
  | .hbm, ⟨18, _⟩ => ⟨S143, .i32⟩
  | .hbm, ⟨19, _⟩ => ⟨S143x11, .i32⟩
  | .hbm, ⟨20, _⟩ => ⟨S143x11, .i32⟩
  | .hbm, ⟨21, _⟩ => ⟨S143, .i32⟩
  | .hbm, ⟨22, _⟩ => ⟨S1x768x768, .f32⟩
  | .hbm, ⟨23, _⟩ => ⟨S768x1536, .f32⟩
  | .hbm, ⟨24, _⟩ => ⟨S768, .f32⟩
  | .hbm, ⟨25, _⟩ => ⟨S768x768, .f32⟩
  | .hbm, ⟨26, _⟩ => ⟨S768, .f32⟩
  | .hbm, ⟨27, _⟩ => ⟨S_, .i32⟩
  | .hbm, ⟨28, _⟩ => ⟨S156x16x768, .f32⟩
  | .hbm, ⟨29, _⟩ => ⟨S156x16x1, .f32⟩
  | .hbm, ⟨30, _⟩ => ⟨S_, .i32⟩
  | .hbm, ⟨31, _⟩ => ⟨S_, .i1⟩
  | .hbm, ⟨32, _⟩ => ⟨S1, .i32⟩
  | .hbm, ⟨33, _⟩ => ⟨S_, .i32⟩
  | .hbm, ⟨34, _⟩ => ⟨S_, .i32⟩
  | .hbm, ⟨35, _⟩ => ⟨S1x11, .i32⟩
  | .hbm, ⟨36, _⟩ => ⟨S11, .i32⟩
  | .hbm, ⟨37, _⟩ => ⟨S_, .i32⟩
  | .hbm, ⟨38, _⟩ => ⟨S1x11, .i32⟩
  | .hbm, ⟨39, _⟩ => ⟨S11, .i32⟩
  | .hbm, ⟨40, _⟩ => ⟨S1, .i32⟩
  | .hbm, ⟨41, _⟩ => ⟨S_, .i32⟩
  | .hbm, ⟨42, _⟩ => ⟨S11x1, .i32⟩
  | .hbm, ⟨43, _⟩ => ⟨S11x16x768, .f32⟩
  | .hbm, ⟨44, _⟩ => ⟨S11x1, .i32⟩
  | .hbm, ⟨45, _⟩ => ⟨S11x16x768, .f32⟩
  | .hbm, ⟨46, _⟩ => ⟨S768x768, .f32⟩
  | .hbm, ⟨47, _⟩ => ⟨S11x16x768, .f32⟩
  | .hbm, ⟨48, _⟩ => ⟨S11x16x768, .f32⟩
  | .hbm, ⟨49, _⟩ => ⟨S_, .f32⟩
  | .hbm, ⟨50, _⟩ => ⟨S11x16, .f32⟩
  | .hbm, ⟨51, _⟩ => ⟨S11x16x1, .f32⟩
  | .hbm, ⟨52, _⟩ => ⟨S11x1, .i32⟩
  | .hbm, ⟨53, _⟩ => ⟨S11x16x1, .f32⟩
  | .hbm, ⟨54, _⟩ => ⟨S11x16x1, .f32⟩
  | .hbm, ⟨55, _⟩ => ⟨S11x1, .i32⟩
  | .hbm, ⟨56, _⟩ => ⟨S11x16x1, .f32⟩
  | .hbm, ⟨57, _⟩ => ⟨S11x16x1, .f32⟩
  | .hbm, ⟨58, _⟩ => ⟨S11x16x1536, .f32⟩
  | .hbm, ⟨59, _⟩ => ⟨S1536x768, .f32⟩
  | .hbm, ⟨60, _⟩ => ⟨S11x16x768, .f32⟩
  | .hbm, ⟨61, _⟩ => ⟨S1x1x768, .f32⟩
  | .hbm, ⟨62, _⟩ => ⟨S11x16x768, .f32⟩
  | .hbm, ⟨63, _⟩ => ⟨S11x16x768, .f32⟩
  | .hbm, ⟨64, _⟩ => ⟨S_, .f32⟩
  | .hbm, ⟨65, _⟩ => ⟨S11x16x768, .f32⟩
  | .hbm, ⟨66, _⟩ => ⟨S11x16x768, .f32⟩
  | .hbm, ⟨67, _⟩ => ⟨S768x768, .f32⟩
  | .hbm, ⟨68, _⟩ => ⟨S11x16x768, .f32⟩
  | .hbm, ⟨69, _⟩ => ⟨S1x1x768, .f32⟩
  | .hbm, ⟨70, _⟩ => ⟨S11x16x768, .f32⟩
  | .hbm, ⟨71, _⟩ => ⟨S11x16x768, .f32⟩
  | .hbm, ⟨72, _⟩ => ⟨S_, .f32⟩
  | .hbm, ⟨73, _⟩ => ⟨S11x16x768, .f32⟩
  | .hbm, ⟨74, _⟩ => ⟨S11x16x768, .f32⟩
  | .hbm, ⟨75, _⟩ => ⟨S11x16x1, .i32⟩
  | .hbm, ⟨76, _⟩ => ⟨S11x16x1, .i32⟩
  | .hbm, ⟨77, _⟩ => ⟨S11x16x1, .i1⟩
  | .hbm, ⟨78, _⟩ => ⟨S_, .f32⟩
  | .hbm, ⟨79, _⟩ => ⟨S11x16x1, .f32⟩
  | .hbm, ⟨80, _⟩ => ⟨S11x16x1, .f32⟩
  | .hbm, ⟨81, _⟩ => ⟨S_, .f32⟩
  | .hbm, ⟨82, _⟩ => ⟨S16x1, .f32⟩
  | .hbm, ⟨83, _⟩ => ⟨S_, .f32⟩
  | .hbm, ⟨84, _⟩ => ⟨S16x1, .f32⟩
  | .hbm, ⟨85, _⟩ => ⟨S16x1, .f32⟩
  | .hbm, ⟨86, _⟩ => ⟨S1x16x1, .f32⟩
  | .hbm, ⟨87, _⟩ => ⟨S_, .f32⟩
  | .hbm, ⟨88, _⟩ => ⟨S_, .f32⟩
  | .hbm, ⟨89, _⟩ => ⟨S11x16x1, .f32⟩
  | .hbm, ⟨90, _⟩ => ⟨S11x16x1, .f32⟩
  | .hbm, ⟨91, _⟩ => ⟨S11x16x1, .f32⟩
  | .hbm, ⟨92, _⟩ => ⟨S11x16x1, .f32⟩
  | .hbm, ⟨93, _⟩ => ⟨S11x16x1, .f32⟩
  | .hbm, ⟨94, _⟩ => ⟨S_, .f32⟩
  | .hbm, ⟨95, _⟩ => ⟨S11x16x1, .f32⟩
  | .hbm, ⟨96, _⟩ => ⟨S11x16x1, .f32⟩
  | .hbm, ⟨97, _⟩ => ⟨S_, .f32⟩
  | .hbm, ⟨98, _⟩ => ⟨S16x1, .f32⟩
  | .hbm, ⟨99, _⟩ => ⟨S1x16x1, .f32⟩
  | .hbm, ⟨100, _⟩ => ⟨S11x16x1, .f32⟩
  | .hbm, ⟨101, _⟩ => ⟨S11x16x1, .f32⟩
  | .hbm, ⟨102, _⟩ => ⟨S_, .i32⟩
  | .hbm, ⟨103, _⟩ => ⟨S_, .f32⟩
  | .hbm, ⟨104, _⟩ => ⟨S11x16x1, .f32⟩
  | .hbm, ⟨105, _⟩ => ⟨S11x16x1, .f32⟩
  | .hbm, ⟨106, _⟩ => ⟨S11x16x768, .f32⟩
  | .hbm, ⟨107, _⟩ => ⟨S11x16x768, .f32⟩
  | .hbm, ⟨108, _⟩ => ⟨S_, .f32⟩
  | .hbm, ⟨109, _⟩ => ⟨S16x768, .f32⟩
  | .hbm, ⟨110, _⟩ => ⟨S1x16x768, .f32⟩
  | .hbm, ⟨111, _⟩ => ⟨S_, .i32⟩
  | .hbm, ⟨112, _⟩ => ⟨S_, .i32⟩
  | .hbm, ⟨113, _⟩ => ⟨S156x16x768, .f32⟩
  | .hbm, ⟨114, _⟩ => ⟨S11x16x1, .f32⟩
  | .hbm, ⟨115, _⟩ => ⟨S_, .f32⟩
  | .hbm, ⟨116, _⟩ => ⟨S16x1, .f32⟩
  | .hbm, ⟨117, _⟩ => ⟨S1x16x1, .f32⟩
  | .hbm, ⟨118, _⟩ => ⟨S_, .i32⟩
  | .hbm, ⟨119, _⟩ => ⟨S_, .i32⟩
  | .hbm, ⟨120, _⟩ => ⟨S156x16x1, .f32⟩
  | .hbm, ⟨121, _⟩ => ⟨S_, .i32⟩
  | .hbm, ⟨122, _⟩ => ⟨S_, .i32⟩
  | .hbm, ⟨123, _⟩ => ⟨S78x16x768, .f32⟩
  | .hbm, ⟨124, _⟩ => ⟨S78x16x1, .f32⟩
  | .hbm, ⟨125, _⟩ => ⟨S78x16x768, .f32⟩
  | .hbm, ⟨126, _⟩ => ⟨S78x16x1, .f32⟩
  | .hbm, ⟨127, _⟩ => ⟨S78x16x1538, .f32⟩
  | _, _ => ⟨S12x16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_3 : Ref sig .tc := ⟨.hbm, 15, rfl⟩
abbrev main_v3 : Ref sig .tc := ⟨.hbm, 16, rfl⟩
abbrev main_c_4 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v4_5 : Ref sig .tc := ⟨.hbm, 23, rfl⟩
abbrev main_v4_6 : Ref sig .tc := ⟨.hbm, 24, rfl⟩
abbrev main_v4_7 : Ref sig .tc := ⟨.hbm, 25, rfl⟩
abbrev main_v4_8 : Ref sig .tc := ⟨.hbm, 26, rfl⟩
abbrev main_v4_9 : Ref sig .tc := ⟨.hbm, 27, rfl⟩
abbrev main_v4_10 : Ref sig .tc := ⟨.hbm, 28, rfl⟩
abbrev main_v4_11 : Ref sig .tc := ⟨.hbm, 29, rfl⟩
abbrev main_while0c_c_16 : Ref sig .tc := ⟨.hbm, 30, rfl⟩
abbrev main_while0c_v10 : Ref sig .tc := ⟨.hbm, 31, rfl⟩
abbrev main_while0b_call0_v0 : Ref sig .tc := ⟨.hbm, 32, rfl⟩
abbrev main_while0b_v10 : Ref sig .tc := ⟨.hbm, 33, rfl⟩
abbrev main_while0b_call1_c : Ref sig .tc := ⟨.hbm, 34, rfl⟩
abbrev main_while0b_call1_v0 : Ref sig .tc := ⟨.hbm, 35, rfl⟩
abbrev main_while0b_v11 : Ref sig .tc := ⟨.hbm, 36, rfl⟩
abbrev main_while0b_call2_c : Ref sig .tc := ⟨.hbm, 37, rfl⟩
abbrev main_while0b_call2_v0 : Ref sig .tc := ⟨.hbm, 38, rfl⟩
abbrev main_while0b_v12 : Ref sig .tc := ⟨.hbm, 39, rfl⟩
abbrev main_while0b_call3_v0 : Ref sig .tc := ⟨.hbm, 40, rfl⟩
abbrev main_while0b_v13 : Ref sig .tc := ⟨.hbm, 41, rfl⟩
abbrev main_while0b_v14 : Ref sig .tc := ⟨.hbm, 42, rfl⟩
abbrev main_while0b_v15 : Ref sig .tc := ⟨.hbm, 43, rfl⟩
abbrev main_while0b_v16 : Ref sig .tc := ⟨.hbm, 44, rfl⟩
abbrev main_while0b_v17 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_cst_16 : Ref sig .tc := ⟨.hbm, 49, rfl⟩
abbrev main_while0b_v21 : Ref sig .tc := ⟨.hbm, 50, rfl⟩
abbrev main_while0b_v22 : Ref sig .tc := ⟨.hbm, 51, rfl⟩
abbrev main_while0b_v23 : Ref sig .tc := ⟨.hbm, 52, rfl⟩
abbrev main_while0b_v24 : Ref sig .tc := ⟨.hbm, 53, rfl⟩
abbrev main_while0b_v25 : Ref sig .tc := ⟨.hbm, 54, rfl⟩
abbrev main_while0b_v26 : Ref sig .tc := ⟨.hbm, 55, rfl⟩
abbrev main_while0b_v27 : Ref sig .tc := ⟨.hbm, 56, rfl⟩
abbrev main_while0b_v28 : Ref sig .tc := ⟨.hbm, 57, rfl⟩
abbrev main_while0b_v29 : Ref sig .tc := ⟨.hbm, 58, rfl⟩
abbrev main_while0b_v30 : Ref sig .tc := ⟨.hbm, 59, rfl⟩
abbrev main_while0b_v31 : Ref sig .tc := ⟨.hbm, 60, rfl⟩
abbrev main_while0b_v32 : Ref sig .tc := ⟨.hbm, 61, rfl⟩
abbrev main_while0b_v33 : Ref sig .tc := ⟨.hbm, 62, rfl⟩
abbrev main_while0b_v34 : Ref sig .tc := ⟨.hbm, 63, rfl⟩
abbrev main_while0b_call4_cst : Ref sig .tc := ⟨.hbm, 64, rfl⟩
abbrev main_while0b_call4_v0 : Ref sig .tc := ⟨.hbm, 65, rfl⟩
abbrev main_while0b_v35 : Ref sig .tc := ⟨.hbm, 66, rfl⟩
abbrev main_while0b_v36 : Ref sig .tc := ⟨.hbm, 67, rfl⟩
abbrev main_while0b_v37 : Ref sig .tc := ⟨.hbm, 68, rfl⟩
abbrev main_while0b_v38 : Ref sig .tc := ⟨.hbm, 69, rfl⟩
abbrev main_while0b_v39 : Ref sig .tc := ⟨.hbm, 70, rfl⟩
abbrev main_while0b_v40 : Ref sig .tc := ⟨.hbm, 71, rfl⟩
abbrev main_while0b_call5_cst : Ref sig .tc := ⟨.hbm, 72, rfl⟩
abbrev main_while0b_call5_v0 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_cst_17 : Ref sig .tc := ⟨.hbm, 78, rfl⟩
abbrev main_while0b_call6_v0 : Ref sig .tc := ⟨.hbm, 79, rfl⟩
abbrev main_while0b_v45 : Ref sig .tc := ⟨.hbm, 80, rfl⟩
abbrev main_while0b_cst_18 : Ref sig .tc := ⟨.hbm, 81, rfl⟩
abbrev main_while0b_v46 : Ref sig .tc := ⟨.hbm, 82, rfl⟩
abbrev main_while0b_cst_19 : Ref sig .tc := ⟨.hbm, 83, rfl⟩
abbrev main_while0b_v47 : Ref sig .tc := ⟨.hbm, 84, rfl⟩
abbrev main_while0b_v48 : Ref sig .tc := ⟨.hbm, 85, rfl⟩
abbrev main_while0b_v49 : Ref sig .tc := ⟨.hbm, 86, rfl⟩
abbrev main_while0b_cst_20 : Ref sig .tc := ⟨.hbm, 87, rfl⟩
abbrev main_while0b_call7_v0 : Ref sig .tc := ⟨.hbm, 88, rfl⟩
abbrev main_while0b_call7_v1 : Ref sig .tc := ⟨.hbm, 89, rfl⟩
abbrev main_while0b_v50 : Ref sig .tc := ⟨.hbm, 90, rfl⟩
abbrev main_while0b_v51 : Ref sig .tc := ⟨.hbm, 91, rfl⟩
abbrev main_while0b_v52 : Ref sig .tc := ⟨.hbm, 92, rfl⟩
abbrev main_while0b_v53 : Ref sig .tc := ⟨.hbm, 93, rfl⟩
abbrev main_while0b_cst_21 : Ref sig .tc := ⟨.hbm, 94, rfl⟩
abbrev main_while0b_call8_v0 : Ref sig .tc := ⟨.hbm, 95, rfl⟩
abbrev main_while0b_v54 : Ref sig .tc := ⟨.hbm, 96, rfl⟩
abbrev main_while0b_cst_22 : Ref sig .tc := ⟨.hbm, 97, rfl⟩
abbrev main_while0b_v55 : Ref sig .tc := ⟨.hbm, 98, rfl⟩
abbrev main_while0b_v56 : Ref sig .tc := ⟨.hbm, 99, rfl⟩
abbrev main_while0b_v57 : Ref sig .tc := ⟨.hbm, 100, rfl⟩
abbrev main_while0b_v58 : Ref sig .tc := ⟨.hbm, 101, rfl⟩
abbrev main_while0b_c_23 : Ref sig .tc := ⟨.hbm, 102, rfl⟩
abbrev main_while0b_call9_v0 : Ref sig .tc := ⟨.hbm, 103, rfl⟩
abbrev main_while0b_call9_v1 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_cst_24 : Ref sig .tc := ⟨.hbm, 108, rfl⟩
abbrev main_while0b_v62 : Ref sig .tc := ⟨.hbm, 109, rfl⟩
abbrev main_while0b_v63 : Ref sig .tc := ⟨.hbm, 110, rfl⟩
abbrev main_while0b_c_25 : Ref sig .tc := ⟨.hbm, 111, rfl⟩
abbrev main_while0b_c_26 : Ref sig .tc := ⟨.hbm, 112, rfl⟩
abbrev main_while0b_v64 : Ref sig .tc := ⟨.hbm, 113, rfl⟩
abbrev main_while0b_v65 : Ref sig .tc := ⟨.hbm, 114, rfl⟩
abbrev main_while0b_cst_27 : Ref sig .tc := ⟨.hbm, 115, rfl⟩
abbrev main_while0b_v66 : Ref sig .tc := ⟨.hbm, 116, rfl⟩
abbrev main_while0b_v67 : Ref sig .tc := ⟨.hbm, 117, rfl⟩
abbrev main_while0b_c_28 : Ref sig .tc := ⟨.hbm, 118, rfl⟩
abbrev main_while0b_c_29 : Ref sig .tc := ⟨.hbm, 119, rfl⟩
abbrev main_while0b_v68 : Ref sig .tc := ⟨.hbm, 120, rfl⟩
abbrev main_while0b_c_30 : Ref sig .tc := ⟨.hbm, 121, rfl⟩
abbrev main_while0b_v69 : Ref sig .tc := ⟨.hbm, 122, rfl⟩
abbrev main_v5 : Ref sig .tc := ⟨.hbm, 123, rfl⟩
abbrev main_v6 : Ref sig .tc := ⟨.hbm, 124, rfl⟩
abbrev main_v7 : Ref sig .tc := ⟨.hbm, 125, rfl⟩
abbrev main_v8 : Ref sig .tc := ⟨.hbm, 126, rfl⟩
abbrev main_v9 : Ref sig .tc := ⟨.hbm, 127, rfl⟩

abbrev nD : Nat := 1
abbrev τ : Topo := Topo.v7x

variable {F : FTy → Type} [FloatOps F]

abbrev main_while0_count : Scf.Loop 32 := ⟨0#32, 143#32, 1#32⟩
-- ==== Proof.Chart.Rows.lean ====
/-
  Tables of values read at row and column numbers, and what the vector operations do to them.
-/
module

public import Idealize.ShloMosaic.Lib.Pointwise

@[expose] public section

set_option maxRecDepth 16384

noncomputable section

namespace Chart

open Idealize.ShloMosaic Idealize.ShloMosaic.Pointwise

/-- The shape of a matrix of `n` rows and `k` columns. -/
abbrev mat (n k : ℕ) : Shape := ⟨2, ![n, k]⟩

/-- The shape of `c` matrices of `n` rows and `k` columns. -/
abbrev cub (c n k : ℕ) : Shape := ⟨3, ![c, n, k]⟩

/-- The shape of a vector of `n` entries. -/
abbrev row (n : ℕ) : Shape := ⟨1, ![n]⟩

/-- The matrix `v` holds `f i j` at row `i` and column `j`. -/
def Rows {n k : ℕ} (v : (mat n k).Idx → EReal) (f : ℕ → ℕ → EReal) : Prop :=
  ∀ (i : Fin n) (j : Fin k), v (ix2 i j) = f i j

/-- The stack `v` holds `f s i j` in matrix `s` at row `i` and column `j`. -/
def Slabs {c n k : ℕ} (v : (cub c n k).Idx → EReal) (f : ℕ → ℕ → ℕ → EReal) : Prop :=
  ∀ (s : Fin c) (i : Fin n) (j : Fin k), v (ix3 s i j) = f s i j

/-- The vector `v` holds `f i` at `i`. -/
def Line {n : ℕ} (v : (row n).Idx → EReal) (f : ℕ → EReal) : Prop :=
  ∀ i : Fin n, v (ix1 i) = f i

variable {c n k m : ℕ} {φ ψ : FTy}

/-- What a matrix holds may be renamed inside its bounds. -/
theorem Rows.congr {v : (mat n k).Idx → EReal} {f g : ℕ → ℕ → EReal} (h : Rows v f)
    (e : ∀ i < n, ∀ j < k, f i j = g i j) : Rows v g :=
  fun i j => (h i j).trans (e i i.2 j j.2)

/-- What a stack holds may be renamed inside its bounds. -/
theorem Slabs.congr {v : (cub c n k).Idx → EReal} {f g : ℕ → ℕ → ℕ → EReal} (h : Slabs v f)
    (e : ∀ s < c, ∀ i < n, ∀ j < k, f s i j = g s i j) : Slabs v g :=
  fun s i j => (h s i j).trans (e s s.2 i i.2 j j.2)

/-- A cast to the same shape changes nothing. -/
theorem Rows.cast {v : (mat n k).Idx → EReal} {f : ℕ → ℕ → EReal} (h : Rows v f) (e : (mat n k).ShapeCasts (mat n k)) :
    Rows (shapeCast (mat n k) v e) f := by
  rw [shapeCast_id]; exact h

/-- A slice of columns. -/
theorem Rows.cols {v : (mat n k).Idx → EReal} {f : ℕ → ℕ → EReal} (h : Rows v f) (o : ℕ)
    (e : (mat n k).Slices ![0, o] (mat n m)) :
    Rows (extractStridedSlice (mat n m) ![0, o] v e) (fun i j => f i (o + j)) := by
  intro i j
  have hb : o + j.val < k := by
    have := e.2 1
    simp at this
    have := j.2
    omega
  refine Eq.trans ?_ (h i ⟨o + j, hb⟩)
  show v _ = v _
  congr 1
  funext a
  apply Fin.ext
  match a with
  | ⟨0, _⟩ => exact Nat.zero_add _
  | ⟨1, _⟩ => rfl

/-- The sum of two matrices. -/
theorem Rows.add {v w : FVec Ideal (mat n k) φ} {f g : ℕ → ℕ → EReal} (h : Rows v f) (h' : Rows w g) :
    Rows (addf v w) (fun i j => f i j + g i j) :=
  fun i j => congrArg₂ (· + ·) (h i j) (h' i j)

/-- The product of two matrices, entry by entry. -/
theorem Rows.mul {v w : FVec Ideal (mat n k) φ} {f g : ℕ → ℕ → EReal} (h : Rows v f) (h' : Rows w g) :
    Rows (mulf v w) (fun i j => f i j * g i j) :=
  fun i j => congrArg₂ (· * ·) (h i j) (h' i j)

/-- The larger of two matrices, entry by entry. -/
theorem Rows.max {v w : FVec Ideal (mat n k) φ} {f g : ℕ → ℕ → EReal} (h : Rows v f) (h' : Rows w g) :
    Rows (maximumf v w) (fun i j => Max.max (f i j) (g i j)) :=
  fun i j => congrArg₂ Max.max (h i j) (h' i j)

/-- A matrix of zeros. -/
theorem rows_zero32 : Rows (broadcast (mat n k) (Scalar.ofBits (F := Ideal) .f32 0x00000000#32)) (fun _ _ => 0) :=
  fun _ _ => by simp [pointwise]

/-- A matrix of zeros in the shorter format. -/
theorem rows_zero16 : Rows (broadcast (mat n k) (Scalar.ofBits (F := Ideal) .bf16 0x0000#16)) (fun _ _ => 0) :=
  fun _ _ => by simp [pointwise]

/-- One row repeated. -/
theorem Rows.repeat {v : (mat 1 k).Idx → EReal} {f : ℕ → ℕ → EReal} (h : Rows v f)
    (e : (mat 1 k).Broadcasts (mat n k)) (hk : k ≠ 1) :
    Rows (broadcastTo (mat n k) v e) (fun _ j => f 0 j) := by
  intro i j
  refine Eq.trans ?_ (h 0 j)
  show v _ = v _
  congr 1
  funext a
  apply Fin.ext
  match a with
  | ⟨0, _⟩ => rfl
  | ⟨1, _⟩ => simp [hk]

/-- The sum along each row, as a column. -/
theorem Rows.sumCols {v : FVec Ideal (mat n k) .f32} {f : ℕ → ℕ → EReal} (h : Rows v f)
    (e : (mat n k).Reduces [1] (row n)) (e' : (row n).ShapeCasts (mat n 1)) :
    Rows (shapeCast (mat n 1) (multiReduction .add [1] (row n) v 0x00000000#32 e (.inl rfl) rfl) e')
      (fun i _ => ∑ j : Fin k, f i j) := by
  intro i j
  rw [Pointwise.shapeCast_apply]
  have : Shape.reshapeEquiv e' (ix2 i j) = ix1 i := by
    refine Shape.reshapeEquiv_eq_of_vals e' _ _ i i ?_ ?_ rfl
    · rw [rowMajor_val1]; rfl
    · rw [rowMajor_val2 _ 1 rfl]; have hj := j.2
      show i.val * 1 + j.val = i.val
      omega
  rw [this]
  refine (multiReduction_add_apply ..).trans ?_
  refine (Shape.Reduces.sum_fiber_r2_a1 e (ix1 i) v).trans ?_
  exact Finset.sum_congr rfl fun x _ => h i x

/-- A matrix product with a zero accumulator: sums along rows of the first and columns of the second. -/
theorem Rows.dot {v : FVec Ideal (mat n k) φ} {w : FVec Ideal (mat k m) ψ} {f g : ℕ → ℕ → EReal}
    (h : Rows v f) (h' : Rows w g) :
    Rows (matmul (DotDims.plain n k m) none v w (constant (mat n m) .f32 0x00000000#32))
      (fun i j => ∑ l : Fin k, f i l * g l j) := by
  intro i j
  refine (Ideal.matmul_apply₁_of (DotDims.plain n k m) (a := 1) rfl (K := k) rfl v w _ (ix2 i j)
    (fun l => ix2 i l) (fun l => ix2 l j) ?_ ?_).trans ?_
  · intro l
    funext a
    match a with
    | ⟨0, _⟩ => rfl
    | ⟨1, _⟩ => rfl
  · intro l
    funext a
    match a with
    | ⟨0, _⟩ => rfl
    | ⟨1, _⟩ => rfl
  · refine (congrArg (· + _) (show _ = (0 : EReal) by simp [pointwise])).trans ?_
    rw [zero_add]
    exact Finset.sum_congr rfl fun l _ => congrArg₂ (· * ·) (h i l) (h' l j)

/-- A list of matrices, one below the other from row `o` on, holds `f`. -/
inductive Stack (k : ℕ) (f : ℕ → ℕ → EReal) : ℕ → List ((s : Shape) × (s.Idx → EReal)) → Prop
  | nil (o : ℕ) : Stack k f o []
  | cons {o n : ℕ} {v : (mat n k).Idx → EReal} {ps : List ((s : Shape) × (s.Idx → EReal))} :
      Rows v (fun i j => f (o + i) j) → Stack k f (o + n) ps → Stack k f o (⟨mat n k, v⟩ :: ps)

/-- Reading a concatenation of matrices at a row number reads what the stack holds there. -/
theorem Stack.read {f : ℕ → ℕ → EReal} {N : ℕ} (i : Fin N) (j : Fin k) {ps : List ((s : Shape) × (s.Idx → EReal))} {o : ℕ}
    (h : Stack k f o ps) :
    ∀ (hs : ∀ s ∈ ps.map (·.1), s.FitsOff (mat N k) 0) (r : ℕ) (hr : r < (axisSizes (mat N k) 0 ps).sum),
      concatenateAt (mat N k) 0 (ix2 i j) ps hs r hr = f (o + r) j := by
  induction h with
  | nil o => intro hs r hr; simp [axisSizes] at hr
  | @cons o n v ps hv _ ih =>
    intro hs r hr
    have key : ∀ (x : (mat n k).Idx) (hx : r < n), (∀ b, (x b).val = if b.val = 0 then r else j.val) →
        v x = f (o + r) j := by
      intro x hx e
      refine Eq.trans ?_ (hv ⟨r, hx⟩ j)
      congr 1
      funext b
      apply Fin.ext
      rw [e b]
      match b with
      | ⟨0, _⟩ => rfl
      | ⟨1, _⟩ => rfl
    match ps with
    | [] =>
      rw [concatenateAt_singleton]
      refine key _ ?_ ?_
      · rw [axisSizes_cons (mat N k) 0 ⟨mat n k, v⟩ [] (hs _ List.mem_cons_self)] at hr
        simpa [axisSizes] using hr
      · intro b
        match b with
        | ⟨0, _⟩ => rfl
        | ⟨1, _⟩ => rfl
    | q :: qs =>
      rw [concatenateAt_cons]
      split
      · rename_i hlt
        refine key _ hlt ?_
        intro b
        match b with
        | ⟨0, _⟩ => rfl
        | ⟨1, _⟩ => rfl
      · rename_i hlt
        have hge : n ≤ r := Nat.le_of_not_lt hlt
        refine (ih _ _ _).trans ?_
        show f (o + n + (r - n)) j = f (o + r) j
        congr 1
        omega

/-- Matrices one below the other, as one matrix. -/
theorem Stack.concat {f : ℕ → ℕ → EReal} {N : ℕ} {ps : List ((s : Shape) × (s.Idx → EReal))} (h : Stack k f 0 ps)
    (e : Shape.Concatenates (ps.map (·.1)) (mat N k) 0) : Rows (concatenate (mat N k) 0 ps e) f := by
  intro i j
  rw [concatenate_apply]
  refine (h.read i j _ _ _).trans ?_
  rw [Nat.zero_add]
  rfl

/-- A tall matrix seen as a stack of matrices. -/
theorem Rows.split {N : ℕ} {v : (mat N k).Idx → EReal} {f : ℕ → ℕ → EReal} (h : Rows v f) (hN : N = c * n)
    (e : (mat N k).ShapeCasts (cub c n k)) :
    Slabs (shapeCast (cub c n k) v e) (fun s i j => f (s * n + i) j) := by
  intro s i j
  have hb : s.val * n + i.val < N := by
    have h1 := s.2; have h2 := i.2
    have : (s.val + 1) * n ≤ c * n := Nat.mul_le_mul_right _ h1
    rw [hN]; rw [Nat.add_mul, one_mul] at this; omega
  rw [Pointwise.shapeCast_apply]
  have : Shape.reshapeEquiv e (ix3 s i j) = ix2 ⟨s * n + i, hb⟩ j := by
    refine Shape.reshapeEquiv_eq_of_vals e _ _ _ _ (rowMajor_val2 _ k rfl) (rowMajor_val3 _ (n * k) k rfl rfl) ?_
    show (s.val * n + i.val) * k + j.val = s.val * (n * k) + i.val * k + j.val
    rw [Nat.add_mul, Nat.mul_assoc]
  rw [this]
  exact h _ j

/-- The product of two stacks, entry by entry. -/
theorem Slabs.mul {v w : FVec Ideal (cub c n k) φ} {f g : ℕ → ℕ → ℕ → EReal} (h : Slabs v f) (h' : Slabs w g) :
    Slabs (mulf v w) (fun s i j => f s i j * g s i j) :=
  fun s i j => congrArg₂ (· * ·) (h s i j) (h' s i j)

/-- The sum over the matrices of a stack. -/
theorem Slabs.sum {v : FVec Ideal (cub c n k) .f32} {f : ℕ → ℕ → ℕ → EReal} (h : Slabs v f)
    (e : (cub c n k).Reduces [0] (mat n k)) :
    Rows (multiReduction .add [0] (mat n k) v 0x00000000#32 e (.inl rfl) rfl) (fun i j => ∑ s : Fin c, f s i j) := by
  intro i j
  refine (multiReduction_add_apply ..).trans ?_
  refine (Shape.Reduces.sum_fiber_r3_a0 e (ix2 i j) v).trans ?_
  exact Finset.sum_congr rfl fun s _ => h s i j

/-- The pattern of minus infinity denotes the least value. -/
theorem ofBits_negInf : (FloatOps.ofBits (F := Ideal) .f32 0xFF800000#32 : EReal) = ⊥ := by
  simp [Ideal.ofBits, Ideal.ieee]

/-- The largest entry over the matrices of a stack. -/
theorem Slabs.sup {v : FVec Ideal (cub c n k) .f32} {f : ℕ → ℕ → ℕ → EReal} (h : Slabs v f)
    (e : (cub c n k).Reduces [0] (mat n k)) :
    Rows (multiReduction .maximumf [0] (mat n k) v 0xFF800000#32 e (.inl rfl) rfl)
      (fun i j => (Finset.univ : Finset (Fin c)).fold Max.max ⊥ fun s : Fin c => f s i j) := by
  intro i j
  refine (multiReduction_maximumf_eq_fold ..).trans ?_
  refine (Shape.Reduces.fold_fiber_r3_a0 e (ix2 i j) (FloatOps.maximumf (F := Ideal) (φ := .f32)) _ v).trans ?_
  rw [ofBits_negInf]
  exact Finset.fold_congr fun s _ => h s i j

/-- One matrix repeated. -/
theorem Rows.spread {v : (mat n 1).Idx → EReal} {f : ℕ → ℕ → EReal} (h : Rows v f)
    (e : (mat n 1).ShapeCasts (cub 1 n 1)) (e' : (cub 1 n 1).Broadcasts (cub c n 1)) (hn : n ≠ 1) :
    Slabs (broadcastTo (cub c n 1) (shapeCast (cub 1 n 1) v e) e') (fun _ i j => f i j) := by
  have h1 : Slabs (shapeCast (cub 1 n 1) v e) (fun s i j => f (s * n + i) j) := h.split (one_mul n).symm e
  intro s i j
  refine Eq.trans ?_ ((h1 0 i 0).trans ?_)
  · show shapeCast (cub 1 n 1) v e _ = _
    congr 1
    funext a
    apply Fin.ext
    match a with
    | ⟨0, _⟩ => rfl
    | ⟨1, _⟩ => simp [hn]
    | ⟨2, _⟩ => rfl
  · have hj : j = 0 := Subsingleton.elim _ _
    subst hj
    simp

/-- A column of each matrix repeated along its rows. -/
theorem Slabs.widen {v : (cub c n 1).Idx → EReal} {f : ℕ → ℕ → ℕ → EReal} (h : Slabs v f)
    (e : (cub c n 1).Broadcasts (cub c n k)) (hn : n ≠ 1) :
    Slabs (broadcastTo (cub c n k) v e) (fun s i _ => f s i 0) := by
  intro s i j
  refine Eq.trans ?_ (h s i 0)
  show v _ = _
  congr 1
  funext a
  apply Fin.ext
  match a with
  | ⟨0, _⟩ =>
    by_cases hc : c = 1
    · subst hc; simp
    · simp [hc]
  | ⟨1, _⟩ => simp [hn]
  | ⟨2, _⟩ => rfl

end Chart
-- ==== Proof.Chart.Level.lean ====
/-
  One level of the chart as vector operations: the pieces of every split stacked, the composed vectors and scores, the
  softmax over the splits and the two weighted sums. Each is read at row and column numbers.
-/
module

public import Idealize.ShloMosaic.Lib.Pointwise
public import proofs.«01_k».proof.Proof.Chart.Rows

@[expose] public section

set_option maxRecDepth 16384

noncomputable section

namespace Chart

open Idealize.ShloMosaic Idealize.ShloMosaic.Pointwise

/-! ### The numbers -/

/-- The softmax weight of entry `s` among `x 0, …, x (c - 1)`. -/
def smx (c : ℕ) (x : ℕ → EReal) (s : ℕ) : EReal :=
  Ideal.div (Ideal.exp (x s - (Finset.univ : Finset (Fin c)).fold max ⊥ fun t : Fin c => x t))
    (∑ u : Fin c, Ideal.exp (x u - (Finset.univ : Finset (Fin c)).fold max ⊥ fun t : Fin c => x t))

/-- The sum of `v 0, …, v (c - 1)` weighted by the softmax of `x`. -/
def comb (c : ℕ) (x v : ℕ → EReal) : EReal := ∑ s : Fin c, smx c x s * v s

/-! ### Small facts on shapes -/

/-- Half of the columns of a wide matrix. -/
theorem slices_cols (n o : ℕ) (h : o + 768 ≤ 1536) : (mat n 1536).Slices ![0, o] (mat n 768) := by
  refine ⟨rfl, fun a => ?_⟩
  match a with
  | ⟨0, _⟩ => simp
  | ⟨1, _⟩ => exact h

/-- A shape casts to itself. -/
theorem casts_self (s : Shape) : s.ShapeCasts s := rfl

/-- A matrix of slabs one below the other, as a stack of slabs. -/
theorem casts_split {c n N k : ℕ} (hN : N = c * n) : (mat N k).ShapeCasts (cub c n k) := by
  subst hN
  simp [Shape.ShapeCasts, Shape.numel, Fin.prod_univ_succ, Nat.mul_assoc]

/-- A row of numbers as a column. -/
theorem casts_col (n : ℕ) : (row n).ShapeCasts (mat n 1) := by
  simp [Shape.ShapeCasts, Shape.numel, Fin.prod_univ_succ]

/-- A matrix as a stack of one slab. -/
theorem casts_one (n k : ℕ) : (mat n k).ShapeCasts (cub 1 n k) := casts_split (one_mul n).symm

/-- One slab repeated for every slot. -/
theorem broadcasts_slots (c n : ℕ) : (cub 1 n 1).Broadcasts (cub c n 1) := by
  refine ⟨le_rfl, fun a => ?_⟩
  match a with
  | ⟨0, _⟩ => exact .inl rfl
  | ⟨1, _⟩ => exact .inr fun _ => rfl
  | ⟨2, _⟩ => exact .inl rfl

/-- A column repeated for every column. -/
theorem broadcasts_cols (c n k : ℕ) : (cub c n 1).Broadcasts (cub c n k) := by
  refine ⟨le_rfl, fun a => ?_⟩
  match a with
  | ⟨0, _⟩ => exact .inr fun _ => rfl
  | ⟨1, _⟩ => exact .inr fun _ => rfl
  | ⟨2, _⟩ => exact .inl rfl

/-- One row repeated for every row. -/
theorem broadcasts_rows (n k : ℕ) : (mat 1 k).Broadcasts (mat n k) := by
  refine ⟨le_rfl, fun a => ?_⟩
  match a with
  | ⟨0, _⟩ => exact .inl rfl
  | ⟨1, _⟩ => exact .inr fun _ => rfl

/-- A stack summed over its slots. -/
theorem reduces_slots (c n k : ℕ) : (cub c n k).Reduces [0] (mat n k) := by
  refine ⟨rfl, Nat.two_pos, fun b => ?_⟩
  match b with
  | ⟨0, _⟩ => rfl
  | ⟨1, _⟩ => rfl

/-- A matrix summed over its columns. -/
theorem reduces_cols (n k : ℕ) : (mat n k).Reduces [1] (row n) := by
  refine ⟨rfl, Nat.one_pos, fun b => ?_⟩
  match b with
  | ⟨0, _⟩ => rfl

/-! ### The operations -/

/-- The rows one pair of loads contributes: the two children's projections, their scores, and the row numbers they
    start at. -/
structure Piece where
  n : ℕ
  lp : FVec Ideal (mat n 1536) .bf16
  rp : FVec Ideal (mat n 1536) .bf16
  sl : FVec Ideal (mat n 1) .f32
  sr : FVec Ideal (mat n 1) .f32
  a : ℕ
  b : ℕ

/-- The hidden layer of a piece. -/
def Piece.hid (p : Piece) : FVec Ideal (mat p.n 768) .bf16 :=
  maximumf (addf (extractStridedSlice (mat p.n 768) ![0, 0] p.lp (slices_cols _ _ (by decide)))
      (extractStridedSlice (mat p.n 768) ![0, 0] p.rp (slices_cols _ _ (by decide))))
    (broadcast (mat p.n 768) (Scalar.ofBits (F := Ideal) .bf16 0x0000#16))

/-- The bilinear score of a piece. -/
def Piece.dot (p : Piece) : FVec Ideal (mat p.n 1) .f32 :=
  shapeCast (mat p.n 1) (multiReduction .add [1] (row p.n)
    (extf .f32 (mulf (extractStridedSlice (mat p.n 768) ![0, 768] p.lp (slices_cols _ _ (by decide)))
      (extractStridedSlice (mat p.n 768) ![0, 768] p.rp (slices_cols _ _ (by decide)))) (by decide))
    0x00000000#32 (reduces_cols _ _) (.inl rfl) rfl) (casts_col _)

/-- The left scores of a piece. -/
def Piece.left (p : Piece) : FVec Ideal (mat p.n 1) .f32 := shapeCast (mat p.n 1) p.sl (casts_self _)

/-- The right scores of a piece. -/
def Piece.right (p : Piece) : FVec Ideal (mat p.n 1) .f32 := shapeCast (mat p.n 1) p.sr (casts_self _)

/-- The pieces' heights make up `N` rows. -/
def Fits (N : ℕ) (ps : List Piece) : Prop := 2 ≤ ps.length ∧ (ps.map Piece.n).sum = N

/-- Pieces that fit can be joined one below the other. -/
theorem Fits.concatenates {N k : ℕ} {ps : List Piece} (h : Fits N ps) (g : (p : Piece) → (mat p.n k).Idx → EReal) :
    Shape.Concatenates ((ps.map fun p => (⟨mat p.n k, g p⟩ : (s : Shape) × (s.Idx → EReal))).map (·.1)) (mat N k) 0 := by
  refine ⟨by simpa using h.1, ?_, ?_⟩
  · intro s hs
    simp only [List.map_map, List.mem_map, Function.comp_apply] at hs
    obtain ⟨p, _, rfl⟩ := hs
    refine ⟨rfl, fun b hb => ?_⟩
    match b with
    | ⟨0, _⟩ => exact absurd rfl hb
    | ⟨1, _⟩ => rfl
  · have := h.2
    simp only [List.map_map, Function.comp_def]
    exact this

/-- Something of every piece, stacked. -/
def stacked {N : ℕ} (k : ℕ) (ps : List Piece) (h : Fits N ps) (g : (p : Piece) → (mat p.n k).Idx → EReal) :
    (mat N k).Idx → EReal :=
  concatenate (mat N k) 0 (ps.map fun p => ⟨mat p.n k, g p⟩) (h.concatenates g)

/-- The hidden layer of all pieces. -/
def hids {N : ℕ} (ps : List Piece) (h : Fits N ps) : FVec Ideal (mat N 768) .bf16 := stacked 768 ps h Piece.hid

/-- The scores of all pieces. -/
def scos {N : ℕ} (ps : List Piece) (h : Fits N ps) : FVec Ideal (mat N 1) .f32 :=
  addf (addf (stacked 1 ps h Piece.dot) (stacked 1 ps h Piece.left) : FVec Ideal (mat N 1) .f32) (stacked 1 ps h Piece.right)

/-- The scores of one piece. -/
def sco (p : Piece) : FVec Ideal (mat p.n 1) .f32 := addf (addf p.dot p.left) p.right

/-- The second layer. -/
def second {N : ℕ} (x : FVec Ideal (mat N 768) .bf16) (w : FVec Ideal (mat 768 768) .bf16) (b : FVec Ideal (mat 1 768) .f32) :
    FVec Ideal (mat N 768) .f32 :=
  maximumf (addf (matmul (DotDims.plain N 768 768) none x w (constant (mat N 768) .f32 0x00000000#32))
      (broadcastTo (mat N 768) b (broadcasts_rows _ _)))
    (broadcast (mat N 768) (Scalar.ofBits (F := Ideal) .f32 0x00000000#32))

/-- The weights over `c` slots. -/
def soft {c n : ℕ} (y : FVec Ideal (cub c n 1) .f32) : FVec Ideal (cub c n 1) .f32 :=
  let e : FVec Ideal (cub c n 1) .f32 := exp (subf y (broadcastTo (cub c n 1) (shapeCast (cub 1 n 1)
    (multiReduction .maximumf [0] (mat n 1) y 0xFF800000#32 (reduces_slots _ _ _) (.inl rfl) rfl) (casts_one _ _))
    (broadcasts_slots _ _)))
  divf e (broadcastTo (cub c n 1) (shapeCast (cub 1 n 1)
    (multiReduction .add [0] (mat n 1) e 0x00000000#32 (reduces_slots _ _ _) (.inl rfl) rfl) (casts_one _ _))
    (broadcasts_slots _ _))

/-- The weight over one slot. -/
def soft₁ {n : ℕ} (y : FVec Ideal (cub 1 n 1) .f32) : FVec Ideal (cub 1 n 1) .f32 :=
  let e : FVec Ideal (cub 1 n 1) .f32 := exp (subf y (shapeCast (cub 1 n 1)
    (multiReduction .maximumf [0] (mat n 1) y 0xFF800000#32 (reduces_slots _ _ _) (.inl rfl) rfl) (casts_one _ _)))
  divf e (shapeCast (cub 1 n 1)
    (multiReduction .add [0] (mat n 1) e 0x00000000#32 (reduces_slots _ _ _) (.inl rfl) rfl) (casts_one _ _))

/-- The scores of a level, summed with weights `w`. -/
def sumS {c n : ℕ} (w y : FVec Ideal (cub c n 1) .f32) : FVec Ideal (mat n 1) .f32 :=
  multiReduction .add [0] (mat n 1) (mulf w y) 0x00000000#32 (reduces_slots _ _ _) (.inl rfl) rfl

/-- The vectors of a level, summed with weights `w`. -/
def sumV {c n : ℕ} (w : FVec Ideal (cub c n 1) .f32) (v : FVec Ideal (cub c n 768) .f32) : FVec Ideal (mat n 768) .f32 :=
  multiReduction .add [0] (mat n 768) (mulf (broadcastTo (cub c n 768) w (broadcasts_cols _ _ _)) v) 0x00000000#32
    (reduces_slots _ _ _) (.inl rfl) rfl

/-- The scores of the `c` slots of a level of `n` rows. -/
def slots {N : ℕ} (c n : ℕ) (hN : N = c * n) (y : FVec Ideal (mat N 1) .f32) : FVec Ideal (cub c n 1) .f32 :=
  shapeCast (cub c n 1) y (casts_split hN)

/-- The composed vectors of the `c` slots of a level of `n` rows. -/
def slotsV {N : ℕ} (c n : ℕ) (hN : N = c * n) (x : FVec Ideal (mat N 768) .bf16) (w : FVec Ideal (mat 768 768) .bf16)
    (b : FVec Ideal (mat 1 768) .f32) : FVec Ideal (cub c n 768) .f32 :=
  shapeCast (cub c n 768) (second x w b) (casts_split hN)

/-! ### Their values -/

variable {c n N : ℕ}

/-- The softmax over the slots, slab by slab. -/
theorem soft_slabs {y : FVec Ideal (cub c n 1) .f32} {f : ℕ → ℕ → EReal} (h : Slabs y fun s i _ => f s i) (hn : n ≠ 1) :
    Slabs (soft y) (fun s i _ => smx c (fun t => f t i) s) := by
  have hm := (h.sup (reduces_slots _ _ _)).spread (casts_one _ _) (broadcasts_slots c n) hn
  have he : Slabs (exp (subf y (broadcastTo (cub c n 1) (shapeCast (cub 1 n 1)
      (multiReduction .maximumf [0] (mat n 1) y 0xFF800000#32 (reduces_slots _ _ _) (.inl rfl) rfl) (casts_one _ _))
      (broadcasts_slots _ _))) : FVec Ideal (cub c n 1) .f32)
      (fun s i _ => Ideal.exp (f s i - (Finset.univ : Finset (Fin c)).fold max ⊥ fun t : Fin c => f t i)) :=
    fun s i j => congrArg Ideal.exp (congrArg₂ (· - ·) (h s i j) (hm s i j))
  have hs := (he.sum (reduces_slots _ _ _)).spread (casts_one _ _) (broadcasts_slots c n) hn
  exact fun s i j => congrArg₂ Ideal.div (he s i j) (hs s i j)

/-- The softmax over a single slot. -/
theorem soft₁_slabs {y : FVec Ideal (cub 1 n 1) .f32} {f : ℕ → ℕ → EReal} (h : Slabs y fun s i _ => f s i) :
    Slabs (soft₁ y) (fun s i _ => smx 1 (fun t => f t i) s) := by
  have hm := (h.sup (reduces_slots _ _ _)).split (one_mul n).symm (casts_one _ _)
  have he : Slabs (exp (subf y (shapeCast (cub 1 n 1)
      (multiReduction .maximumf [0] (mat n 1) y 0xFF800000#32 (reduces_slots _ _ _) (.inl rfl) rfl) (casts_one _ _)))
      : FVec Ideal (cub 1 n 1) .f32)
      (fun s i _ => Ideal.exp (f s i - (Finset.univ : Finset (Fin 1)).fold max ⊥ fun t : Fin 1 => f t i)) := by
    intro s i j
    refine (congrArg Ideal.exp (congrArg₂ (· - ·) (h s i j) (hm s i j))).trans ?_
    have hs : s = 0 := Subsingleton.elim _ _
    subst hs
    simp
  have hs := (he.sum (reduces_slots _ _ _)).split (one_mul n).symm (casts_one _ _)
  intro s i j
  refine (congrArg₂ Ideal.div (he s i j) (hs s i j)).trans ?_
  have hs : s = 0 := Subsingleton.elim _ _
  subst hs
  simp [smx]

/-- The mixture of the scores over the slots. -/
theorem sumS_rows {w y : FVec Ideal (cub c n 1) .f32} {f : ℕ → ℕ → EReal} (hy : Slabs y fun s i _ => f s i)
    (hw : Slabs w fun s i _ => smx c (fun t => f t i) s) :
    Rows (sumS w y) (fun i _ => comb c (fun s => f s i) (fun s => f s i)) :=
  (hw.mul hy).sum _

/-- The mixture of the vectors over the slots. -/
theorem sumV_rows {w : FVec Ideal (cub c n 1) .f32} {v : FVec Ideal (cub c n 768) .f32} {f : ℕ → ℕ → EReal}
    {g : ℕ → ℕ → ℕ → EReal} (hw : Slabs w fun s i _ => smx c (fun t => f t i) s) (hv : Slabs v g) (hn : n ≠ 1) :
    Rows (sumV w v) (fun i j => comb c (fun s => f s i) (fun s => g s i j)) :=
  ((hw.widen (broadcasts_cols c n 768) hn).mul hv).sum _

/-- The second layer, row by row. -/
theorem second_rows {x : FVec Ideal (mat N 768) .bf16} {w : FVec Ideal (mat 768 768) .bf16} {b : FVec Ideal (mat 1 768) .f32}
    {f g : ℕ → ℕ → EReal} {h : ℕ → EReal} (hx : Rows x f) (hw : Rows w g) (hb : Rows b fun _ j => h j) :
    Rows (second x w b) (fun i j => max ((∑ k : Fin 768, f i k * g k j) + h j) 0) :=
  ((hx.dot hw).add (hb.repeat (broadcasts_rows N 768) (by decide))).max rows_zero32

/-! ### Where the rows of the pieces come from -/

/-- Row `r` of the left children's rows. -/
def rowA : List (ℕ × ℕ × ℕ) → ℕ → ℕ
  | [], r => r
  | p :: ps, r => if r < p.1 then p.2.1 + r else rowA ps (r - p.1)

/-- Row `r` of the right children's rows. -/
def rowB : List (ℕ × ℕ × ℕ) → ℕ → ℕ
  | [], r => r
  | p :: ps, r => if r < p.1 then p.2.2 + r else rowB ps (r - p.1)

/-- The heights and row numbers of pieces. -/
def keys (ps : List Piece) : List (ℕ × ℕ × ℕ) := ps.map fun p => (p.n, p.a, p.b)

/-- Where the children's projections (`gL`, `gR`) and scores (`kL`, `kR`) are to be read. -/
structure Source where
  gL : ℕ → ℕ → EReal
  gR : ℕ → ℕ → EReal
  kL : ℕ → EReal
  kR : ℕ → EReal

/-- The piece holds what the sources hold from its row numbers on. -/
structure Piece.Good (S : Source) (p : Piece) : Prop where
  lp : Rows p.lp fun i j => S.gL (p.a + i) (0 + j)
  rp : Rows p.rp fun i j => S.gR (p.b + i) (1536 + j)
  sl : Rows p.sl fun i _ => S.kL (p.a + i)
  sr : Rows p.sr fun i _ => S.kR (p.b + i)

/-- The score of left row `a` with right row `b`. -/
def Source.score (S : Source) (a b : ℕ) : EReal :=
  (∑ k : Fin 768, S.gL a (0 + (768 + k)) * S.gR b (1536 + (768 + k))) + S.kL a + S.kR b

/-- The hidden layer of left row `a` with right row `b`. -/
def Source.hid (S : Source) (a b k : ℕ) : EReal := max (S.gL a (0 + (0 + k)) + S.gR b (1536 + (0 + k))) 0

/-- The vector composed of left row `a` and right row `b`. -/
def Source.vec (S : Source) (w : ℕ → ℕ → EReal) (h : ℕ → EReal) (a b j : ℕ) : EReal :=
  max ((∑ k : Fin 768, S.hid a b k * w k j) + h j) 0

variable {S : Source} {p : Piece} {ps : List Piece}

/-- The hidden layer of a piece, row by row. -/
theorem Piece.Good.hid (h : p.Good S) : Rows p.hid fun i j => S.hid (p.a + i) (p.b + i) j :=
  ((h.lp.cols 0 _).add (h.rp.cols 0 _)).max rows_zero16

/-- The bilinear scores of a piece, row by row. -/
theorem Piece.Good.dot (h : p.Good S) : Rows p.dot fun i _ =>
    ∑ k : Fin 768, S.gL (p.a + i) (0 + (768 + k)) * S.gR (p.b + i) (1536 + (768 + k)) := by
  have : Rows (mulf (extractStridedSlice (mat p.n 768) ![0, 768] p.lp (slices_cols _ _ (by decide)))
      (extractStridedSlice (mat p.n 768) ![0, 768] p.rp (slices_cols _ _ (by decide))) : FVec Ideal (mat p.n 768) .bf16) _ :=
    (h.lp.cols 768 _).mul (h.rp.cols 768 _)
  exact Rows.sumCols (v := extf .f32 _ (by decide)) this (reduces_cols _ _) (casts_col _)

/-- Pieces joined one below the other, row by row. -/
theorem stack_map {k : ℕ} (g : (p : Piece) → (mat p.n k).Idx → EReal) (F : ℕ → ℕ → ℕ → EReal) (f : ℕ → ℕ → EReal) :
    ∀ (ps : List Piece) (o : ℕ),
      (∀ r j, f (o + r) j = F (rowA (keys ps) r) (rowB (keys ps) r) j) →
      (∀ p ∈ ps, Rows (g p) fun i j => F (p.a + i) (p.b + i) j) →
      Stack k f o (ps.map fun p => ⟨mat p.n k, g p⟩) := by
  intro ps
  induction ps with
  | nil => intro o _ _; exact .nil o
  | cons p ps ih =>
    intro o hf h
    refine .cons ?_ (ih (o + p.n) (fun r j => ?_) fun q hq => h q (List.mem_cons_of_mem _ hq))
    · refine (h p List.mem_cons_self).congr fun i hi j _ => ?_
      rw [hf]
      simp [keys, rowA, rowB, hi]
    · rw [Nat.add_assoc, hf]
      simp [keys, rowA, rowB]

/-- Something of every piece, stacked, holds it at the rows the pieces come from. -/
theorem stacked_rows {k : ℕ} {g : (p : Piece) → (mat p.n k).Idx → EReal} {F : ℕ → ℕ → ℕ → EReal} (hf : Fits N ps)
    (h : ∀ p ∈ ps, Rows (g p) fun i j => F (p.a + i) (p.b + i) j) :
    Rows (stacked (N := N) k ps hf g) fun r j => F (rowA (keys ps) r) (rowB (keys ps) r) j :=
  (stack_map g F _ ps 0 (fun r j => by rw [Nat.zero_add]) h).concat _

/-- The hidden layers of all pieces, row by row. -/
theorem hids_rows (hf : Fits N ps) (h : ∀ p ∈ ps, p.Good S) :
    Rows (hids ps hf) fun r j => S.hid (rowA (keys ps) r) (rowB (keys ps) r) j :=
  stacked_rows (F := S.hid) hf fun p hp => (h p hp).hid

/-- The scores of all pieces, row by row. -/
theorem scos_rows (hf : Fits N ps) (h : ∀ p ∈ ps, p.Good S) :
    Rows (scos ps hf) fun r _ => S.score (rowA (keys ps) r) (rowB (keys ps) r) :=
  ((stacked_rows (F := fun a b _ => ∑ k : Fin 768, S.gL a (0 + (768 + k)) * S.gR b (1536 + (768 + k))) hf
      fun p hp => (h p hp).dot).add
    (stacked_rows (F := fun a _ _ => S.kL a) hf fun p hp => (h p hp).sl.cast _)).add
    (stacked_rows (F := fun _ b _ => S.kR b) hf fun p hp => (h p hp).sr.cast _)

/-- The scores of one piece, row by row. -/
theorem sco_rows (h : p.Good S) : Rows (sco p) fun r _ => S.score (p.a + r) (p.b + r) :=
  (h.dot.add (h.sl.cast _)).add (h.sr.cast _)

/-! ### A level -/

/-- The scores of a level of several slots. -/
def levelS (c n N : ℕ) (hN : N = c * n) (ps : List Piece) (hf : Fits N ps) : FVec Ideal (mat n 1) .f32 :=
  sumS (soft (slots c n hN (scos ps hf))) (slots c n hN (scos ps hf))

/-- The vectors of a level of several slots. -/
def levelV (c n N : ℕ) (hN : N = c * n) (ps : List Piece) (hf : Fits N ps) (w : FVec Ideal (mat 768 768) .bf16)
    (b : FVec Ideal (mat 1 768) .f32) : FVec Ideal (mat n 768) .f32 :=
  sumV (soft (slots c n hN (scos ps hf))) (slotsV c n hN (hids ps hf) w b)

/-- The scores of a level of one slot. -/
def levelS₁ (p : Piece) : FVec Ideal (mat p.n 1) .f32 :=
  sumS (soft₁ (slots 1 p.n (one_mul _).symm (sco p))) (slots 1 p.n (one_mul _).symm (sco p))

/-- The vectors of a level of one slot. -/
def levelV₁ (p : Piece) (w : FVec Ideal (mat 768 768) .bf16) (b : FVec Ideal (mat 1 768) .f32) :
    FVec Ideal (mat p.n 768) .f32 :=
  sumV (soft₁ (slots 1 p.n (one_mul _).symm (sco p))) (slotsV 1 p.n (one_mul _).symm p.hid w b)

/-- What the scores of row `i` of a level are: the splits' scores weighted by their softmax. -/
def Source.outS (S : Source) (T : List (ℕ × ℕ × ℕ)) (c n i : ℕ) : EReal :=
  comb c (fun s => S.score (rowA T (s * n + i)) (rowB T (s * n + i)))
    (fun s => S.score (rowA T (s * n + i)) (rowB T (s * n + i)))

/-- What the vectors of row `i` of a level are: the splits' vectors weighted by the softmax of their scores. -/
def Source.outV (S : Source) (w : ℕ → ℕ → EReal) (h : ℕ → EReal) (T : List (ℕ × ℕ × ℕ)) (c n i j : ℕ) : EReal :=
  comb c (fun s => S.score (rowA T (s * n + i)) (rowB T (s * n + i)))
    (fun s => S.vec w h (rowA T (s * n + i)) (rowB T (s * n + i)) j)

/-- The scores of a level, row by row. -/
theorem levelS_rows (hN : N = c * n) (hn : n ≠ 1) (hf : Fits N ps) (h : ∀ p ∈ ps, p.Good S) :
    Rows (levelS c n N hN ps hf) fun i _ => S.outS (keys ps) c n i :=
  have hy := (scos_rows hf h).split hN (casts_split hN)
  sumS_rows hy (soft_slabs hy hn)

/-- The vectors of a level, row by row. -/
theorem levelV_rows {w : FVec Ideal (mat 768 768) .bf16} {b : FVec Ideal (mat 1 768) .f32} {g : ℕ → ℕ → EReal} {t : ℕ → EReal}
    (hw : Rows w g) (hb : Rows b fun _ j => t j) (hN : N = c * n) (hn : n ≠ 1) (hf : Fits N ps) (h : ∀ p ∈ ps, p.Good S) :
    Rows (levelV c n N hN ps hf w b) fun i j => S.outV g t (keys ps) c n i j :=
  have hy := (scos_rows hf h).split hN (casts_split hN)
  sumV_rows (soft_slabs hy hn) ((second_rows (hids_rows hf h) hw hb).split hN (casts_split hN)) hn

/-- The score of a cell with a single pair. -/
theorem outS_one (S : Source) (n a b i : ℕ) (hi : i < n) :
    comb 1 (fun s => S.score (a + (s * n + i)) (b + (s * n + i))) (fun s => S.score (a + (s * n + i)) (b + (s * n + i)))
      = S.outS [(n, a, b)] 1 n i := by
  simp [Source.outS, comb, smx, rowA, rowB, hi]

/-- The scores of a level with one pair per cell. -/
theorem levelS₁_rows (h : p.Good S) : Rows (levelS₁ p) fun i _ => S.outS (keys [p]) 1 p.n i := by
  have hy := (sco_rows h).split (one_mul _).symm (casts_split (one_mul _).symm)
  refine (sumS_rows hy (soft₁_slabs hy)).congr fun i hi _ _ => ?_
  exact outS_one S p.n p.a p.b i hi

/-- The vectors of a level with one pair per cell. -/
theorem levelV₁_rows {w : FVec Ideal (mat 768 768) .bf16} {b : FVec Ideal (mat 1 768) .f32} {g : ℕ → ℕ → EReal} {t : ℕ → EReal}
    (hw : Rows w g) (hb : Rows b fun _ j => t j) (hn : p.n ≠ 1) (h : p.Good S) :
    Rows (levelV₁ p w b) fun i j => S.outV g t (keys [p]) 1 p.n i j := by
  have hy := (sco_rows h).split (one_mul _).symm (casts_split (one_mul _).symm)
  refine (sumV_rows (soft₁_slabs hy) ((second_rows h.hid hw hb).split (one_mul _).symm (casts_split (one_mul _).symm))
    hn).congr fun i hi j _ => ?_
  simp [Source.outV, comb, smx, rowA, rowB, hi, keys, Source.vec]

/-! ### Projections -/

/-- A product with a wide matrix, plus a row. -/
theorem proj_rows {m : ℕ} {v : FVec Ideal (mat n 768) .f32} {w : FVec Ideal (mat 768 m) .f32} {b : FVec Ideal (mat 1 m) .f32}
    {f g : ℕ → ℕ → EReal} {t : ℕ → EReal} (hv : Rows v f) (hw : Rows w g) (hb : Rows b fun _ j => t j) (hm : m ≠ 1) :
    Rows (truncf .bf16 (addf (matmul (DotDims.plain n 768 m) none v w (constant (mat n m) .f32 0x00000000#32))
      (broadcastTo (mat n m) b (broadcasts_rows _ _)) : FVec Ideal (mat n m) .f32) (by decide) : FVec Ideal (mat n m) .bf16)
      (fun i j => (∑ k : Fin 768, f i k * g k j) + t j) :=
  (hv.dot hw).add (hb.repeat (broadcasts_rows n m) hm)

end Chart
-- ==== Proof.Chart.Rec.lean ====
/-
  The chart as tables of numbers: what rows of the inside and the outside chart hold, level by level.
-/
module

public import proofs.«01_k».proof.Proof.Chart.Level

@[expose] public section

noncomputable section

namespace Chart

/-- The first row of the cells of length `L`: 16 rows a cell, the shorter cells first. -/
def off (L : ℕ) : ℕ := (78 - (14 - L) * (13 - L) / 2) * 16

/-- The splits of an inside level: heights and the children's first rows. -/
def inT (L : ℕ) : List (ℕ × ℕ × ℕ) :=
  (List.range (L - 1)).map fun s => ((13 - L) * 16, off (1 + s), off (L - 1 - s) + (1 + s) * 16)

/-- The parents and siblings of an outside level: for every slot the cells with a sibling on their left, then the cells
    with a sibling on their right. -/
def outT (L : ℕ) : List (ℕ × ℕ × ℕ) :=
  (List.range (12 - L)).flatMap fun p =>
    [((p + 1) * 16, off (12 - p), off (12 - L - p) + L * 16), ((12 - L - p) * 16, off (L + p + 1), off (p + 1))]

/-- The parameters, as tables. -/
structure Weights where
  we : ℕ → ℕ → EReal
  wf : ℕ → ℕ → EReal
  b1 : ℕ → EReal
  w2 : ℕ → ℕ → EReal
  b2 : ℕ → EReal
  rb : ℕ → EReal

/-- Rows of the inside and outside charts: vectors and scores. -/
structure Rec extends Weights where
  iv : ℕ → ℕ → EReal
  ix : ℕ → EReal
  ov : ℕ → ℕ → EReal
  ox : ℕ → EReal

/-- The bias of the projection of an inside row. -/
def Weights.bc (W : Weights) (j : ℕ) : EReal := if j < 1536 then 0 else W.b1 (j - 1536)

/-- The projections of an inside row, then the row itself. -/
def Rec.ip (C : Rec) (i j : ℕ) : EReal :=
  if j < 2304 then (∑ k : Fin 768, C.iv i k * C.wf k j) + C.bc j else C.iv i (j - 2304)

/-- The projections of an outside row. -/
def Rec.op (C : Rec) (i j : ℕ) : EReal := ∑ k : Fin 768, C.ov i k * C.wf k j

/-- What an inside level reads. -/
def Rec.inner (C : Rec) : Source := ⟨C.ip, C.ip, C.ix, C.ix⟩

/-- What an outside level reads. -/
def Rec.outer (C : Rec) : Source := ⟨C.op, C.ip, C.ox, C.ix⟩

/-- The charts satisfy the recurrence. -/
structure Rec.Holds (C : Rec) : Prop where
  leafV : ∀ i < 192, ∀ j < 768, C.iv i j = C.we i j
  leafS : ∀ i < 192, C.ix i = 0
  inV : ∀ L, 2 ≤ L → L ≤ 12 → ∀ i < (13 - L) * 16, ∀ j < 768,
    C.iv (off L + i) j = C.inner.outV C.w2 C.b2 (inT L) (L - 1) ((13 - L) * 16) i j
  inS : ∀ L, 2 ≤ L → L ≤ 12 → ∀ i < (13 - L) * 16,
    C.ix (off L + i) = C.inner.outS (inT L) (L - 1) ((13 - L) * 16) i
  rootV : ∀ i < 16, ∀ j < 768, C.ov (1232 + i) j = C.rb j
  rootS : ∀ i < 16, C.ox (1232 + i) = 0
  outV : ∀ L, 1 ≤ L → L ≤ 11 → ∀ i < (13 - L) * 16, ∀ j < 768,
    C.ov (off L + i) j = C.outer.outV C.w2 C.b2 (outT L) (12 - L) ((13 - L) * 16) i j
  outS : ∀ L, 1 ≤ L → L ≤ 11 → ∀ i < (13 - L) * 16,
    C.ox (off L + i) = C.outer.outS (outT L) (12 - L) ((13 - L) * 16) i

end Chart
-- ==== Proof.Chart.Steps.lean ====
/-
  What the kernel writes at each level is what the chart's recurrence says.
-/
module

public import proofs.«01_k».proof.Proof.Chart.Rec
public import proofs.«01_k».proof.Proof.Gen.KernelIdeal.Skeleton

@[expose] public section

set_option maxRecDepth 16384

noncomputable section

namespace Chart

open Idealize.ShloMosaic Cert.KernelIdeal Cert.KernelIdeal.Gen

/-! ### A level of one slot made of several pieces -/

section single
variable {n : ℕ} {ps : List Piece} {S : Source}

/-- Its scores. -/
def levelS₂ (n : ℕ) (ps : List Piece) (hf : Fits n ps) : FVec Ideal (mat n 1) .f32 :=
  sumS (soft₁ (slots 1 n (one_mul _).symm (scos ps hf))) (slots 1 n (one_mul _).symm (scos ps hf))

/-- Its vectors. -/
def levelV₂ (n : ℕ) (ps : List Piece) (hf : Fits n ps) (w : FVec Ideal (mat 768 768) .bf16)
    (b : FVec Ideal (mat 1 768) .f32) : FVec Ideal (mat n 768) .f32 :=
  sumV (soft₁ (slots 1 n (one_mul _).symm (scos ps hf))) (slotsV 1 n (one_mul _).symm (hids ps hf) w b)

/-- The scores of a level with one cell. -/
theorem levelS₂_rows (hf : Fits n ps) (h : ∀ p ∈ ps, p.Good S) :
    Rows (levelS₂ n ps hf) fun i _ => S.outS (keys ps) 1 n i := by
  have hy := (scos_rows hf h).split (one_mul _).symm (casts_split (one_mul _).symm)
  exact sumS_rows hy (soft₁_slabs hy)

/-- The vectors of a level with one cell. -/
theorem levelV₂_rows {w : FVec Ideal (mat 768 768) .bf16} {b : FVec Ideal (mat 1 768) .f32} {g : ℕ → ℕ → EReal} {t : ℕ → EReal}
    (hw : Rows w g) (hb : Rows b fun _ j => t j) (hn : n ≠ 1) (hf : Fits n ps) (h : ∀ p ∈ ps, p.Good S) :
    Rows (levelV₂ n ps hf w b) fun i j => S.outV g t (keys ps) 1 n i j := by
  have hy := (scos_rows hf h).split (one_mul _).symm (casts_split (one_mul _).symm)
  exact sumV_rows (soft₁_slabs hy) ((second_rows (hids_rows hf h) hw hb).split (one_mul _).symm (casts_split (one_mul _).symm)) hn

end single

/-! ### The levels of the chart -/

/-- Every piece of a list holds what the sources hold. -/
def AllGood (S : Source) : List Piece → Prop
  | [] => True
  | p :: ps => p.Good S ∧ AllGood S ps

/-- No pieces are all good. -/
theorem AllGood.nil {S : Source} : AllGood S [] := trivial

/-- One more piece of an inside level. -/
theorem AllGood.inner {C : Rec} {n a b : ℕ} {lp rp : FVec Ideal (mat n 1536) .bf16} {sl sr : FVec Ideal (mat n 1) .f32}
    {ps : List Piece} (h1 : Rows lp fun i j => C.ip (a + i) (0 + j)) (h2 : Rows rp fun i j => C.ip (b + i) (1536 + j))
    (h3 : Rows sl fun i _ => C.ix (a + i)) (h4 : Rows sr fun i _ => C.ix (b + i)) (t : AllGood C.inner ps) :
    AllGood C.inner (⟨n, lp, rp, sl, sr, a, b⟩ :: ps) := ⟨⟨h1, h2, h3, h4⟩, t⟩

/-- One more piece of an outside level. -/
theorem AllGood.outer {C : Rec} {n a b : ℕ} {lp rp : FVec Ideal (mat n 1536) .bf16} {sl sr : FVec Ideal (mat n 1) .f32}
    {ps : List Piece} (h1 : Rows lp fun i j => C.op (a + i) (0 + j)) (h2 : Rows rp fun i j => C.ip (b + i) (1536 + j))
    (h3 : Rows sl fun i _ => C.ox (a + i)) (h4 : Rows sr fun i _ => C.ix (b + i)) (t : AllGood C.outer ps) :
    AllGood C.outer (⟨n, lp, rp, sl, sr, a, b⟩ :: ps) := ⟨⟨h1, h2, h3, h4⟩, t⟩

/-- Each of several good pieces is good. -/
theorem AllGood.mem {S : Source} : ∀ {ps : List Piece}, AllGood S ps → ∀ p ∈ ps, p.Good S
  | [], _, _, h => by simp at h
  | q :: ps, h, p, hp => by
    rcases List.mem_cons.mp hp with rfl | hp
    · exact h.1
    · exact AllGood.mem h.2 p hp

variable {C : Rec} {c n N r : ℕ} {ps : List Piece} {w : FVec Ideal (mat 768 768) .bf16} {b : FVec Ideal (mat 1 768) .f32}

/-- The scores of an inside level are the chart's. -/
theorem Rec.Holds.inS_rows (hC : C.Holds) (L : ℕ)
    (hk : 2 ≤ L ∧ L ≤ 12 ∧ off L = r ∧ L - 1 = c ∧ (13 - L) * 16 = n ∧ N = c * n ∧ n ≠ 1)
    (hf : Fits N ps) (hp : keys ps = inT L) (h : AllGood C.inner ps) :
    Rows (levelS c n N hk.2.2.2.2.2.1 ps hf) fun i _ => C.ix (r + i) := by
  obtain ⟨h1, h2, rfl, rfl, rfl, hN, hn⟩ := hk
  refine (levelS_rows hN hn hf h.mem).congr fun i hi _ _ => ?_
  rw [hp, hC.inS L h1 h2 i hi]

/-- The vectors of an inside level are the chart's. -/
theorem Rec.Holds.inV_rows (hC : C.Holds) (hw : Rows w C.w2) (hb : Rows b fun _ j => C.b2 j) (L : ℕ)
    (hk : 2 ≤ L ∧ L ≤ 12 ∧ off L = r ∧ L - 1 = c ∧ (13 - L) * 16 = n ∧ N = c * n ∧ n ≠ 1)
    (hf : Fits N ps) (hp : keys ps = inT L) (h : AllGood C.inner ps) :
    Rows (levelV c n N hk.2.2.2.2.2.1 ps hf w b) fun i j => C.iv (r + i) j := by
  obtain ⟨h1, h2, rfl, rfl, rfl, hN, hn⟩ := hk
  refine (levelV_rows hw hb hN hn hf h.mem).congr fun i hi j hj => ?_
  rw [hp, hC.inV L h1 h2 i hi j hj]

/-- The scores of an outside level are the chart's. -/
theorem Rec.Holds.outS_rows (hC : C.Holds) (L : ℕ)
    (hk : 1 ≤ L ∧ L ≤ 11 ∧ off L = r ∧ 12 - L = c ∧ (13 - L) * 16 = n ∧ N = c * n ∧ n ≠ 1)
    (hf : Fits N ps) (hp : keys ps = outT L) (h : AllGood C.outer ps) :
    Rows (levelS c n N hk.2.2.2.2.2.1 ps hf) fun i _ => C.ox (r + i) := by
  obtain ⟨h1, h2, rfl, rfl, rfl, hN, hn⟩ := hk
  refine (levelS_rows hN hn hf h.mem).congr fun i hi _ _ => ?_
  rw [hp, hC.outS L h1 h2 i hi]

/-- The vectors of an outside level are the chart's. -/
theorem Rec.Holds.outV_rows (hC : C.Holds) (hw : Rows w C.w2) (hb : Rows b fun _ j => C.b2 j) (L : ℕ)
    (hk : 1 ≤ L ∧ L ≤ 11 ∧ off L = r ∧ 12 - L = c ∧ (13 - L) * 16 = n ∧ N = c * n ∧ n ≠ 1)
    (hf : Fits N ps) (hp : keys ps = outT L) (h : AllGood C.outer ps) :
    Rows (levelV c n N hk.2.2.2.2.2.1 ps hf w b) fun i j => C.ov (r + i) j := by
  obtain ⟨h1, h2, rfl, rfl, rfl, hN, hn⟩ := hk
  refine (levelV_rows hw hb hN hn hf h.mem).congr fun i hi j hj => ?_
  rw [hp, hC.outV L h1 h2 i hi j hj]

/-- The scores of the inside level of one split. -/
theorem Rec.Holds.inS₁_rows (hC : C.Holds) {p : Piece} (hp : (p.n, p.a, p.b) = (176, 0, 16)) (h : p.Good C.inner) :
    Rows (levelS₁ p) fun i _ => C.ix (192 + i) := by
  have hk : keys [p] = inT 2 := by simp only [keys, List.map, hp]; rfl
  have hn : p.n = 176 := congrArg Prod.fst hp
  refine (levelS₁_rows h).congr fun i hi _ _ => ?_
  rw [hk, hn]
  exact (hC.inS 2 (by omega) (by omega) i (by omega)).symm

/-- Its vectors. -/
theorem Rec.Holds.inV₁_rows (hC : C.Holds) (hw : Rows w C.w2) (hb : Rows b fun _ j => C.b2 j) {p : Piece}
    (hp : (p.n, p.a, p.b) = (176, 0, 16)) (h : p.Good C.inner) : Rows (levelV₁ p w b) fun i j => C.iv (192 + i) j := by
  have hk : keys [p] = inT 2 := by simp only [keys, List.map, hp]; rfl
  have hn : p.n = 176 := congrArg Prod.fst hp
  refine (levelV₁_rows hw hb (by omega) h).congr fun i hi j hj => ?_
  rw [hk, hn]
  exact (hC.inV 2 (by omega) (by omega) i (by omega) j hj).symm

/-- The scores of the outside level of one slot. -/
theorem Rec.Holds.outS₂_rows (hC : C.Holds) (hf : Fits 32 ps) (hp : keys ps = outT 11) (h : AllGood C.outer ps) :
    Rows (levelS₂ 32 ps hf) fun i _ => C.ox (1200 + i) := by
  refine (levelS₂_rows hf h.mem).congr fun i hi _ _ => ?_
  rw [hp]
  exact (hC.outS 11 (by omega) (by omega) i (by omega)).symm

/-- Its vectors. -/
theorem Rec.Holds.outV₂_rows (hC : C.Holds) (hw : Rows w C.w2) (hb : Rows b fun _ j => C.b2 j) (hf : Fits 32 ps)
    (hp : keys ps = outT 11) (h : AllGood C.outer ps) : Rows (levelV₂ 32 ps hf w b) fun i j => C.ov (1200 + i) j := by
  refine (levelV₂_rows hw hb (by omega) hf h.mem).congr fun i hi j hj => ?_
  rw [hp]
  exact (hC.outV 11 (by omega) (by omega) i (by omega) j hj).symm

/-- The vectors of the root. -/
theorem Rec.Holds.rootV_rows (hC : C.Holds) {v : FVec Ideal (mat 1 768) .f32} (h : Rows v fun _ j => C.rb j) :
    Rows (k0_pay259 (F := Ideal) v) fun i j => C.ov (1232 + i) j :=
  (((h.cast _).cast _).repeat (broadcasts_rows 16 768) (by omega)).congr fun i hi j hj => (hC.rootV i hi j hj).symm

/-- Its scores. -/
theorem Rec.Holds.rootS_rows (hC : C.Holds) : Rows (k0_pay260 (F := Ideal)) fun i _ => C.ox (1232 + i) :=
  rows_zero32.congr fun i hi _ _ => (hC.rootS i hi).symm

/-! ### Projections -/

/-- The bias row of the inside projections. -/
theorem bias_rows {v : FVec Ideal (mat 1 768) .f32} (h : Rows v fun _ j => C.b1 j) : Rows (k0_pay3 (F := Ideal) v) fun _ j => C.bc j := by
  intro i j
  unfold k0_pay3
  show concatenate (mat 1 2304) 1 _ _ (ix2 i j) = _
  rw [concatenate_apply, concatenateAt_cons]
  split
  · rename_i hlt
    have hlt : j.val < 1536 := hlt
    show _ = if j.val < 1536 then (0 : EReal) else C.b1 (j - 1536)
    rw [if_pos hlt]
    simp [pointwise]
  · rename_i hge
    have hge : ¬ j.val < 1536 := hge
    show _ = if j.val < 1536 then (0 : EReal) else C.b1 (j - 1536)
    rw [concatenateAt_singleton, if_neg hge, shapeCast_id]
    refine Eq.trans ?_ (h 0 ⟨j - 1536, by omega⟩)
    congr 1
    funext a
    apply Fin.ext
    match a with
    | ⟨0, _⟩ => show i.val = 0; omega
    | ⟨1, _⟩ => rfl

/-- The projections of inside rows. -/
theorem inP_rows {v : FVec Ideal (mat n 768) .f32} {x : FVec Ideal (mat 768 2304) .f32} {t : FVec Ideal (mat 1 2304) .f32}
    (hv : Rows v fun i j => C.iv (r + i) j) (hx : Rows x C.wf) (ht : Rows t fun _ j => C.bc j) :
    Rows (truncf .bf16 (addf (matmul (DotDims.plain n 768 2304) none v x (constant (mat n 2304) .f32 0x00000000#32))
      (broadcastTo (mat n 2304) t (broadcasts_rows _ _)) : FVec Ideal (mat n 2304) .f32) (by decide) : FVec Ideal (mat n 2304) .bf16)
      fun i j => C.ip (r + i) j :=
  (proj_rows hv hx ht (by omega)).congr fun i _ j hj => by rw [Rec.ip, if_pos hj]

/-- The projections of outside rows. -/
theorem outP_rows {v : FVec Ideal (mat n 768) .f32} {x : FVec Ideal (mat 768 2304) .f32}
    {e : (mat 768 2304).Slices ![0, 0] (mat 768 1536)}
    (hv : Rows v fun i j => C.ov (r + i) j) (hx : Rows x C.wf) :
    Rows (truncf .bf16 (matmul (DotDims.plain n 768 1536) none v (extractStridedSlice (mat 768 1536) ![0, 0] x e)
      (constant (mat n 1536) .f32 0x00000000#32) : FVec Ideal (mat n 1536) .f32) (by decide) : FVec Ideal (mat n 1536) .bf16)
      fun i j => C.op (r + i) j :=
  (Rows.dot (φ := .f32) (ψ := .f32) hv (hx.cols 0 e)).congr fun i _ j _ => by simp only [Rec.op, Nat.zero_add]

end Chart
-- ==== Proof.Chart.Held.lean ====
/-
  What the kernel's buffers hold in mid-run, and how a load or a store at the head of the program uses and changes it.
-/
module

public import proofs.«01_k».proof.Proof.Chart.Rec
public import proofs.«01_k».proof.Proof.Gen.KernelIdeal.Launch
public import Idealize.ShloMosaic.Lib.MemrefSat
public import Idealize.ShloMosaic.Rules

@[expose] public section

set_option maxRecDepth 16384

noncomputable section

namespace Chart

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-! ### A list of resources -/

/-- All of a list of resources. -/
def all : List (sProp 𝕄) → sProp 𝕄
  | [] => iprop(emp)
  | P :: l => iprop(P ∗ all l)

/-- One of several things held can be taken out, with a place left for it. -/
theorem all_take : ∀ (l : List (sProp 𝕄)) (i : ℕ) (P : sProp 𝕄), l[i]? = some P →
    all l ⊢ iprop(P ∗ all (l.eraseIdx i))
  | [], i, P, h => by simp at h
  | R :: l, 0, P, h => by
    simp at h
    subst h
    exact .rfl
  | R :: l, i + 1, P, h => by
    have ih := all_take l i P (by simpa using h)
    show iprop(R ∗ all l) ⊢ iprop(P ∗ (R ∗ all (l.eraseIdx i)))
    refine (sep_mono_right ih).trans ?_
    iintro ⟨H1, H2, H3⟩
    isplitl [H2]
    · iexact H2
    isplitl [H1]
    · iexact H1
    iexact H3

/-- A thing can be put in the place of another among several held. -/
theorem all_put : ∀ (l : List (sProp 𝕄)) (i : ℕ) (P : sProp 𝕄), i < l.length →
    iprop(P ∗ all (l.eraseIdx i)) ⊢ all (l.set i P)
  | [], i, P, h => by simp at h
  | R :: l, 0, P, h => .rfl
  | R :: l, i + 1, P, h => by
    have ih := all_put l i P (by simpa using h)
    show iprop(P ∗ (R ∗ all (l.eraseIdx i))) ⊢ iprop(R ∗ all (l.set i P))
    refine BIBase.Entails.trans ?_ (sep_mono_right ih)
    iintro ⟨H1, H2, H3⟩
    isplitl [H2]
    · iexact H2
    isplitl [H1]
    · iexact H1
    iexact H3

/-! ### The buffers -/

/-- The kernel's buffers. -/
structure Args where
  a0 : Memref sig .tc .vmem S192x768 .f32
  a1 : Memref sig .tc .vmem S768x2304 .f32
  a2 : Memref sig .tc .vmem S1x768 .f32
  a3 : Memref sig .tc .vmem S768x768 .f32
  a4 : Memref sig .tc .vmem S1x768 .f32
  a5 : Memref sig .tc .vmem S1x768 .f32
  a6 : Memref sig .tc .vmem S1248x768 .f32
  a7 : Memref sig .tc .vmem S1248x1 .f32
  a8 : Memref sig .tc .vmem S1248x768 .f32
  a9 : Memref sig .tc .vmem S1248x1 .f32
  a10 : Memref sig .tc .vmem S1248x3072 .bf16
  a11 : Memref sig .tc .vmem S1248x1536 .bf16

/-- How far the run has come: the inside buffers are right below rows `iv`, `ix`, `ipA` (projections), `ipB` (the rows
    themselves), the outside buffers from rows `ov`, `ox`, `op` on. -/
structure St where
  iv : ℕ
  ix : ℕ
  ipA : ℕ
  ipB : ℕ
  ov : ℕ
  ox : ℕ
  op : ℕ

/-- A matrix holds `f` where `D` says so. -/
def Known {N K : ℕ} (D : ℕ → ℕ → Prop) (f : ℕ → ℕ → EReal) (X : (mat N K).Idx → EReal) : Prop :=
  ∀ (i : Fin N) (j : Fin K), D i j → X (ix2 i j) = f i j

/-- The rows below `n`. -/
def below (n : ℕ) (i _ : ℕ) : Prop := i < n

/-- The rows from `n` on. -/
def above (n : ℕ) (i _ : ℕ) : Prop := n ≤ i

/-- The rows below `n` of the first 2304 columns and below `m` of the others. -/
def split (n m : ℕ) (i j : ℕ) : Prop := (j < 2304 ∧ i < n) ∨ (2304 ≤ j ∧ i < m)

variable (c : Dev nD) (A : Args) (C : Rec)

/-- What the buffers hold in mid-run, as a list. -/
def parts (s : St) : List (sProp 𝕄) :=
  [ownsSat (c : Thread nD τ) A.a0 fullShare (Rows · C.we),
   ownsSat (c : Thread nD τ) A.a1 fullShare (Rows · C.wf),
   ownsSat (c : Thread nD τ) A.a2 fullShare (Rows · fun _ j => C.b1 j),
   ownsSat (c : Thread nD τ) A.a3 fullShare (Rows · C.w2),
   ownsSat (c : Thread nD τ) A.a4 fullShare (Rows · fun _ j => C.b2 j),
   ownsSat (c : Thread nD τ) A.a5 fullShare (Rows · fun _ j => C.rb j),
   ownsSat (c : Thread nD τ) A.a6 fullShare (Known (below s.iv) C.iv),
   ownsSat (c : Thread nD τ) A.a7 fullShare (Known (below s.ix) fun i _ => C.ix i),
   ownsSat (c : Thread nD τ) A.a8 fullShare (Known (above s.ov) C.ov),
   ownsSat (c : Thread nD τ) A.a9 fullShare (Known (above s.ox) fun i _ => C.ox i),
   ownsSat (c : Thread nD τ) A.a10 fullShare (Known (split s.ipA s.ipB) C.ip),
   ownsSat (c : Thread nD τ) A.a11 fullShare (Known (above s.op) C.op)]

variable {α β : Type} (E : Set ℕ)

/-- From what the buffers hold at `s` the program `p` reaches `Q`. -/
def Tr (s : St) (p : Prog (TpuEff nD τ sig (Elt Ideal) Λ₀ .tc) α) (Q : α → sProp 𝕄) : Prop :=
  all (parts c A C s) ⊢ wp frame (wpE (defs₀ (F := Ideal)) Variants.none (c : Thread nD τ) none) E p Q

variable {c A C E} {s s' : St} {Q : β → sProp 𝕄}

/-- A part of the program, then the rest. -/
theorem Tr.bind {p : Prog (TpuEff nD τ sig (Elt Ideal) Λ₀ .tc) α} {k : α → Prog (TpuEff nD τ sig (Elt Ideal) Λ₀ .tc) β}
    (h : Tr c A C E s p fun a => wp frame (wpE (defs₀ (F := Ideal)) Variants.none (c : Thread nD τ) none) E (k a) Q) :
    Tr c A C E s (p >>= k) Q := by
  unfold Tr
  rw [wp_bind]
  exact h

/-- A part that ends hands its values to the rest. -/
theorem Tr.done {a : α} {k : α → Prog (TpuEff nD τ sig (Elt Ideal) Λ₀ .tc) β} (h : Tr c A C E s (k a) Q) :
    Tr c A C E s (pure a) fun a => wp frame (wpE (defs₀ (F := Ideal)) Variants.none (c : Thread nD τ) none) E (k a) Q := by
  unfold Tr
  rw [wp_pure]
  exact h.trans (fupd_intro)

/-- Named contents out of a buffer that is known to hold something. -/
theorem sat_elim {sh : Shape} {e : EltTy} {m : Memref sig .tc .vmem sh e} {Φ : (sh.Idx → Elt Ideal e) → Prop} {R G : sProp 𝕄}
    (h : ∀ f, Φ (m.view.read (Elt Ideal) f) → iprop(R ∗ (m.view.loc (c : Thread nD τ) ↦[m.view.set]{fullShare} f)) ⊢ G) :
    iprop(ownsSat (c : Thread nD τ) m fullShare Φ ∗ R) ⊢ G := by
  unfold ownsSat
  iintro ⟨⟨%f, %hf, H⟩, HR⟩
  iapply (h f hf)
  isplitl [HR]
  · iexact HR
  iexact H

/-- An element of a rectangle of a matrix, by its row and column. -/
theorem rect_idx {N K n k r0 c0 : ℕ} (inb : ∀ a, (![r0, c0] : Fin 2 → ℕ) a + (mat n k).size a ≤ (mat N K).size a)
    (i : Fin n) (j : Fin k) (hi : r0 + i.val < N) (hj : c0 + j.val < K) :
    (Rect.unit (s := mat N K) ![r0, c0] (mat n k).size inb).emb (ix2 i j) = ix2 ⟨r0 + i, hi⟩ ⟨c0 + j, hj⟩ := by
  funext a
  apply Fin.ext
  match a with
  | ⟨0, _⟩ => show r0 + 1 * i.val = r0 + i.val; omega
  | ⟨1, _⟩ => show c0 + 1 * j.val = c0 + j.val; omega

/-- A load at the head of the program. -/
theorem Tr.load {N K n k : ℕ} {e : EltTy} (i : ℕ) {m : Memref sig .tc .vmem (mat N K) e}
    {Φ : ((mat N K).Idx → Elt Ideal e) → Prop} {r0 c0 : ℕ} {inb} {hl}
    {p : ((mat n k).Idx → Elt Ideal e) → Prog (TpuEff nD τ sig (Elt Ideal) Λ₀ .tc) β}
    (hi : (parts c A C s)[i]? = some (ownsSat (c : Thread nD τ) m fullShare Φ))
    (h : ∀ (X : (mat N K).Idx → Elt Ideal e) (v : (mat n k).Idx → Elt Ideal e), Φ X →
      (∀ (i : Fin n) (j : Fin k) (hi : r0 + i.val < N) (hj : c0 + j.val < K), v (ix2 i j) = X (ix2 ⟨r0 + i, hi⟩ ⟨c0 + j, hj⟩)) →
      Tr c A C E s (p v) Q) :
    Tr c A C E s (Prog.lift (.load m (Rect.unit (s := mat N K) ![r0, c0] (mat n k).size inb).toLoadRect hl) >>= p) Q := by
  unfold Tr
  refine (all_take _ i _ hi).trans (sat_elim fun f hf => ?_)
  show _ ⊢ wp frame (wpE (defs₀ (F := Ideal)) Variants.none (c : Thread nD τ) none) E (.op (.load m _ hl) p) Q
  have hS : (m.access (Rect.unit (s := mat N K) ![r0, c0] (mat n k).size inb)).set ⊆ m.view.set := View.set_slice_subset _ _
  have key := wp_load_rect (Γ := .empty) (defs := defs₀ (F := Ideal)) Variants.none (c : Thread nD τ) none E (m := m) (hl := hl) (k := p)
    (Q := Q) (q := fullShare) (f := f) hS
  refine exec_frame BiEntails.rfl BiEntails.rfl key ?_
  refine BIBase.Entails.trans ?_ (h _ ((m.access (Rect.unit (s := mat N K) ![r0, c0] (mat n k).size inb)).read (Elt Ideal) f) hf
    fun i j hi hj => ?_)
  · obtain ⟨h1, h2⟩ := List.getElem?_eq_some_iff.mp hi
    have hp := all_put (parts c A C s) i (ownsSat (c : Thread nD τ) m fullShare Φ) h1
    rw [← h2, List.set_getElem_self h1, h2] at hp
    refine BIBase.Entails.trans ?_ hp
    iintro ⟨HR, H⟩
    isplitl [H]
    · iapply (ownsSat_of (c : Thread nD τ) m fullShare hf)
      iexact H
    iexact HR
  · rw [← rect_idx inb i j hi hj]
    rfl

/-- A store at the head of the program. -/
theorem Tr.store {N K n k : ℕ} {e : EltTy} (i : ℕ) {m : Memref sig .tc .vmem (mat N K) e}
    {Φ Ψ : ((mat N K).Idx → Elt Ideal e) → Prop} {r0 c0 : ℕ} {inb} {hx} {hm}
    {p : PUnit → Prog (TpuEff nD τ sig (Elt Ideal) Λ₀ .tc) β} {w : (mat n k).Idx → Elt Ideal e}
    (hi : (parts c A C s)[i]? = some (ownsSat (c : Thread nD τ) m fullShare Φ))
    (hi' : (parts c A C s).set i (ownsSat (c : Thread nD τ) m fullShare Ψ) = parts c A C s')
    (hw : ∀ (X Y : (mat N K).Idx → Elt Ideal e), Φ X →
      (∀ (i : Fin n) (j : Fin k) (hi : r0 + i.val < N) (hj : c0 + j.val < K), Y (ix2 ⟨r0 + i, hi⟩ ⟨c0 + j, hj⟩) = w (ix2 i j)) →
      (∀ (i : Fin N) (j : Fin K), ¬ (r0 ≤ i.val ∧ i.val < r0 + n ∧ c0 ≤ j.val ∧ j.val < c0 + k) → Y (ix2 i j) = X (ix2 i j)) → Ψ Y)
    (h : Tr c A C E s' (p ⟨⟩) Q) :
    Tr c A C E s (Prog.lift (.store m (Rect.unit (s := mat N K) ![r0, c0] (mat n k).size inb) w Finset.univ hx hm) >>= p) Q := by
  unfold Tr
  refine (all_take _ i _ hi).trans (sat_elim fun f hf => ?_)
  show _ ⊢ wp frame (wpE (defs₀ (F := Ideal)) Variants.none (c : Thread nD τ) none) E (.op (.store m _ w Finset.univ hx hm) p) Q
  have hS : (m.access (Rect.unit (s := mat N K) ![r0, c0] (mat n k).size inb)).setOn Finset.univ ⊆ m.view.set :=
    (View.setOn_subset_set _ _).trans (View.set_slice_subset _ _)
  have key := wp_store (Γ := .empty) (defs := defs₀ (F := Ideal)) Variants.none (c : Thread nD τ) none E (m := m) (w := w) (Mk := Finset.univ) (hx := hx) (hm := hm)
    (k := p) (Q := Q) (f := f) hS
  refine exec_frame BiEntails.rfl BiEntails.rfl key ?_
  refine BIBase.Entails.trans ?_ h
  obtain ⟨h1, h2⟩ := List.getElem?_eq_some_iff.mp hi
  have hp := all_put (parts c A C s) i (ownsSat (c : Thread nD τ) m fullShare Ψ) h1
  rw [hi'] at hp
  refine BIBase.Entails.trans ?_ hp
  have hY := hw (m.view.read (Elt Ideal) f)
    (m.view.read (Elt Ideal) ((m.access (Rect.unit (s := mat N K) ![r0, c0] (mat n k).size inb)).write (Elt Ideal) f w Finset.univ)) hf
    (fun i j hi hj => by
      rw [← rect_idx inb i j hi hj]
      exact View.read_slice_write_emb (v := m.view) (Rect.unit (s := mat N K) ![r0, c0] (mat n k).size inb) f w (Finset.mem_univ _))
    (fun i j hn => by
      refine View.read_slice_write_of_not_mem (v := m.view) (Rect.unit (s := mat N K) ![r0, c0] (mat n k).size inb) f w Finset.univ fun hmem => hn ?_
      obtain ⟨x, -, hx'⟩ := Finset.mem_map.mp hmem
      have e0 : r0 + 1 * (x 0).val = i.val := congrArg Fin.val (congrFun hx' 0)
      have e1 : c0 + 1 * (x 1).val = j.val := congrArg Fin.val (congrFun hx' 1)
      have l0 : (x 0).val < n := (x 0).isLt
      have l1 : (x 1).val < k := (x 1).isLt
      omega)
  iintro ⟨HR, H⟩
  isplitl [H]
  · iapply (ownsSat_of (c : Thread nD τ) m fullShare hY)
    iexact H
  iexact HR

end Chart
-- ==== Proof.Chart.Moves.lean ====
/-
  The loads and stores of the kernel's buffers, each with what it reads or leaves.
-/
module

public import proofs.«01_k».proof.Proof.Chart.Held

@[expose] public section

set_option maxRecDepth 16384

noncomputable section

namespace Chart

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {c : Dev nD} {A : Args} {C : Rec} {E : Set ℕ} {s : St} {β : Type}
local notation "𝕄" => MT nD τ sig Unit (Elt Ideal) ℕ (UR sig nD τ) ℕ
variable {Q : β → sProp 𝕄} {n k r0 c0 iv ix ipA ipB ov ox op : ℕ}

/-! ### Parameters -/

section params
variable {inb} {hl}

/-- A load of the leaf vectors in full. -/
theorem Tr.ld0 {p : ((mat 192 768).Idx → EReal) → Prog (TpuEff nD τ sig (Elt Ideal) Λ₀ .tc) β}
    (h : ∀ v, Rows v C.we → Tr c A C E s (p v) Q) :
    Tr c A C E s (Prog.lift (.load A.a0 (Rect.unit (s := mat 192 768) ![0, 0] (mat 192 768).size inb).toLoadRect hl) >>= p) Q := by
  refine Tr.load 0 rfl fun X v hX hv => h v fun i j => ?_
  rw [hv i j (by omega) (by omega), hX]; simp

/-- A load of the joined weights in full. -/
theorem Tr.ld1 {p : ((mat 768 2304).Idx → EReal) → Prog (TpuEff nD τ sig (Elt Ideal) Λ₀ .tc) β}
    (h : ∀ v, Rows v C.wf → Tr c A C E s (p v) Q) :
    Tr c A C E s (Prog.lift (.load A.a1 (Rect.unit (s := mat 768 2304) ![0, 0] (mat 768 2304).size inb).toLoadRect hl) >>= p) Q := by
  refine Tr.load 1 rfl fun X v hX hv => h v fun i j => ?_
  rw [hv i j (by omega) (by omega), hX]; simp

/-- A load of the first bias in full. -/
theorem Tr.ld2 {p : ((mat 1 768).Idx → EReal) → Prog (TpuEff nD τ sig (Elt Ideal) Λ₀ .tc) β}
    (h : ∀ v, Rows v (fun _ j => C.b1 j) → Tr c A C E s (p v) Q) :
    Tr c A C E s (Prog.lift (.load A.a2 (Rect.unit (s := mat 1 768) ![0, 0] (mat 1 768).size inb).toLoadRect hl) >>= p) Q := by
  refine Tr.load 2 rfl fun X v hX hv => h v fun i j => ?_
  rw [hv i j (by omega) (by omega), hX]; simp

/-- A load of the second-layer weights in full. -/
theorem Tr.ld3 {p : ((mat 768 768).Idx → EReal) → Prog (TpuEff nD τ sig (Elt Ideal) Λ₀ .tc) β}
    (h : ∀ v, Rows v C.w2 → Tr c A C E s (p v) Q) :
    Tr c A C E s (Prog.lift (.load A.a3 (Rect.unit (s := mat 768 768) ![0, 0] (mat 768 768).size inb).toLoadRect hl) >>= p) Q := by
  refine Tr.load 3 rfl fun X v hX hv => h v fun i j => ?_
  rw [hv i j (by omega) (by omega), hX]; simp

/-- A load of the second bias in full. -/
theorem Tr.ld4 {p : ((mat 1 768).Idx → EReal) → Prog (TpuEff nD τ sig (Elt Ideal) Λ₀ .tc) β}
    (h : ∀ v, Rows v (fun _ j => C.b2 j) → Tr c A C E s (p v) Q) :
    Tr c A C E s (Prog.lift (.load A.a4 (Rect.unit (s := mat 1 768) ![0, 0] (mat 1 768).size inb).toLoadRect hl) >>= p) Q := by
  refine Tr.load 4 rfl fun X v hX hv => h v fun i j => ?_
  rw [hv i j (by omega) (by omega), hX]; simp

/-- A load of the root vector in full. -/
theorem Tr.ld5 {p : ((mat 1 768).Idx → EReal) → Prog (TpuEff nD τ sig (Elt Ideal) Λ₀ .tc) β}
    (h : ∀ v, Rows v (fun _ j => C.rb j) → Tr c A C E s (p v) Q) :
    Tr c A C E s (Prog.lift (.load A.a5 (Rect.unit (s := mat 1 768) ![0, 0] (mat 1 768).size inb).toLoadRect hl) >>= p) Q := by
  refine Tr.load 5 rfl fun X v hX hv => h v fun i j => ?_
  rw [hv i j (by omega) (by omega), hX]; simp

end params

/-! ### Chart rows -/

section loads
variable {inb} {hl}

/-- Inside scores. -/
theorem Tr.ld7 {p : ((mat n 1).Idx → EReal) → Prog (TpuEff nD τ sig (Elt Ideal) Λ₀ .tc) β} (hr : r0 + n ≤ ix)
    (h : ∀ v, Rows v (fun i _ => C.ix (r0 + i)) → Tr c A C E ⟨iv, ix, ipA, ipB, ov, ox, op⟩ (p v) Q) :
    Tr c A C E ⟨iv, ix, ipA, ipB, ov, ox, op⟩
      (Prog.lift (.load A.a7 (Rect.unit (s := mat 1248 1) ![r0, 0] (mat n 1).size inb).toLoadRect hl) >>= p) Q := by
  refine Tr.load 7 rfl fun X v hX hv => h v fun i j => ?_
  have h0 : r0 + n ≤ 1248 := inb 0
  rw [hv i j (by omega) (by omega)]
  exact hX _ _ (show r0 + i.val < ix by omega)

/-- Outside scores. -/
theorem Tr.ld9 {p : ((mat n 1).Idx → EReal) → Prog (TpuEff nD τ sig (Elt Ideal) Λ₀ .tc) β} (hr : ox ≤ r0)
    (h : ∀ v, Rows v (fun i _ => C.ox (r0 + i)) → Tr c A C E ⟨iv, ix, ipA, ipB, ov, ox, op⟩ (p v) Q) :
    Tr c A C E ⟨iv, ix, ipA, ipB, ov, ox, op⟩
      (Prog.lift (.load A.a9 (Rect.unit (s := mat 1248 1) ![r0, 0] (mat n 1).size inb).toLoadRect hl) >>= p) Q := by
  refine Tr.load 9 rfl fun X v hX hv => h v fun i j => ?_
  have h0 : r0 + n ≤ 1248 := inb 0
  rw [hv i j (by omega) (by omega)]
  exact hX _ _ (show ox ≤ r0 + i.val by omega)

/-- Inside projections. -/
theorem Tr.ld10 {p : ((mat n 1536).Idx → EReal) → Prog (TpuEff nD τ sig (Elt Ideal) Λ₀ .tc) β}
    (hr : r0 + n ≤ ipA ∧ (c0 + 1536 ≤ 2304 ∨ r0 + n ≤ ipB))
    (h : ∀ v, Rows v (fun i j => C.ip (r0 + i) (c0 + j)) → Tr c A C E ⟨iv, ix, ipA, ipB, ov, ox, op⟩ (p v) Q) :
    Tr c A C E ⟨iv, ix, ipA, ipB, ov, ox, op⟩
      (Prog.lift (.load A.a10 (Rect.unit (s := mat 1248 3072) ![r0, c0] (mat n 1536).size inb).toLoadRect hl) >>= p) Q := by
  refine Tr.load 10 rfl fun X v hX hv => h v fun i j => ?_
  have h0 : r0 + n ≤ 1248 := inb 0
  have h1 : c0 + 1536 ≤ 3072 := inb 1
  rw [hv i j (by omega) (by omega)]
  refine hX _ _ ?_
  show (c0 + j.val < 2304 ∧ r0 + i.val < ipA) ∨ (2304 ≤ c0 + j.val ∧ r0 + i.val < ipB)
  omega

/-- Outside projections. -/
theorem Tr.ld11 {p : ((mat n 1536).Idx → EReal) → Prog (TpuEff nD τ sig (Elt Ideal) Λ₀ .tc) β} (hr : op ≤ r0)
    (h : ∀ v, Rows v (fun i j => C.op (r0 + i) (0 + j)) → Tr c A C E ⟨iv, ix, ipA, ipB, ov, ox, op⟩ (p v) Q) :
    Tr c A C E ⟨iv, ix, ipA, ipB, ov, ox, op⟩
      (Prog.lift (.load A.a11 (Rect.unit (s := mat 1248 1536) ![r0, 0] (mat n 1536).size inb).toLoadRect hl) >>= p) Q := by
  refine Tr.load 11 rfl fun X v hX hv => h v fun i j => ?_
  have h0 : r0 + n ≤ 1248 := inb 0
  rw [hv i j (by omega) (by omega)]
  exact hX _ _ (show op ≤ r0 + i.val by omega)

/-- A load whose value is not used. -/
theorem Tr.skip {N K : ℕ} {e : EltTy} (b : ℕ) {inb} {m : Memref sig .tc .vmem (mat N K) e} {Φ : ((mat N K).Idx → Elt Ideal e) → Prop}
    {p : ((mat n k).Idx → Elt Ideal e) → Prog (TpuEff nD τ sig (Elt Ideal) Λ₀ .tc) β}
    {hl : m.view.LoadsAt (Rect.unit (s := mat N K) ![r0, c0] (mat n k).size inb).toLoadRect}
    (hi : (parts c A C s)[b]? = some (ownsSat (c : Thread nD τ) m fullShare Φ))
    (h : ∀ v, Tr c A C E s (p v) Q) :
    Tr c A C E s (Prog.lift (.load m (Rect.unit (s := mat N K) ![r0, c0] (mat n k).size inb).toLoadRect hl) >>= p) Q :=
  Tr.load b hi fun _ v _ _ => h v

end loads

section stores
variable {r1 : ℕ} {inb} {hx} {hm}

/-- Inside vectors. -/
theorem Tr.st6 {p : PUnit → Prog (TpuEff nD τ sig (Elt Ideal) Λ₀ .tc) β} {w : (mat n 768).Idx → EReal} (hr : iv + n = r1)
    (hw : Rows w fun i j => C.iv (iv + i) j) (h : (Rows w fun i j => C.iv (iv + i) j) → Tr c A C E ⟨r1, ix, ipA, ipB, ov, ox, op⟩ (p ⟨⟩) Q) :
    Tr c A C E ⟨iv, ix, ipA, ipB, ov, ox, op⟩
      (Prog.lift (.store A.a6 (Rect.unit (s := mat 1248 768) ![iv, 0] (mat n 768).size inb) w Finset.univ hx hm) >>= p) Q := by
  refine Tr.store (s' := ⟨r1, ix, ipA, ipB, ov, ox, op⟩) (Ψ := Known (below r1) (C.iv)) 6 rfl rfl (fun X Y hX hY hZ i j hi => ?_) (h hw)
  have hi : i.val < r1 := hi
  by_cases hb : iv ≤ i.val
  · have := hY ⟨i - iv, by omega⟩ ⟨j, j.2⟩ (by show iv + (i.val - iv) < 1248; omega) (by show 0 + j.val < 768; omega)
    rw [hw] at this
    have e0 : (⟨iv + (i.val - iv), by omega⟩ : Fin 1248) = i := Fin.ext (by show iv + (i.val - iv) = i; omega)
    have e1 : (⟨0 + j.val, by omega⟩ : Fin 768) = j := Fin.ext (by show 0 + j.val = j; omega)
    simp only [e0, e1] at this
    rw [this]; congr 1; show iv + (i.val - iv) = i; omega
  · rw [hZ i j (by omega)]
    exact hX _ _ (show i.val < iv by omega)

/-- Inside scores. -/
theorem Tr.st7 {p : PUnit → Prog (TpuEff nD τ sig (Elt Ideal) Λ₀ .tc) β} {w : (mat n 1).Idx → EReal} (hr : ix + n = r1)
    (hw : Rows w fun i _ => C.ix (ix + i)) (h : Tr c A C E ⟨iv, r1, ipA, ipB, ov, ox, op⟩ (p ⟨⟩) Q) :
    Tr c A C E ⟨iv, ix, ipA, ipB, ov, ox, op⟩
      (Prog.lift (.store A.a7 (Rect.unit (s := mat 1248 1) ![ix, 0] (mat n 1).size inb) w Finset.univ hx hm) >>= p) Q := by
  refine Tr.store (s' := ⟨iv, r1, ipA, ipB, ov, ox, op⟩) (Ψ := Known (below r1) (fun i _ => C.ix i)) 7 rfl rfl (fun X Y hX hY hZ i j hi => ?_) h
  have hi : i.val < r1 := hi
  by_cases hb : ix ≤ i.val
  · have := hY ⟨i - ix, by omega⟩ ⟨j, j.2⟩ (by show ix + (i.val - ix) < 1248; omega) (by show 0 + j.val < 1; omega)
    rw [hw] at this
    have e0 : (⟨ix + (i.val - ix), by omega⟩ : Fin 1248) = i := Fin.ext (by show ix + (i.val - ix) = i; omega)
    have e1 : (⟨0 + j.val, by omega⟩ : Fin 1) = j := Fin.ext (by show 0 + j.val = j; omega)
    simp only [e0, e1] at this
    rw [this]; congr 1; show ix + (i.val - ix) = i; omega
  · rw [hZ i j (by omega)]
    exact hX _ _ (show i.val < ix by omega)

/-- Inside projections. -/
theorem Tr.st10A {p : PUnit → Prog (TpuEff nD τ sig (Elt Ideal) Λ₀ .tc) β} {w : (mat n 2304).Idx → EReal} (hr : ipA + n = r1)
    (hw : Rows w fun i j => C.ip (ipA + i) j) (h : Tr c A C E ⟨iv, ix, r1, ipB, ov, ox, op⟩ (p ⟨⟩) Q) :
    Tr c A C E ⟨iv, ix, ipA, ipB, ov, ox, op⟩
      (Prog.lift (.store A.a10 (Rect.unit (s := mat 1248 3072) ![ipA, 0] (mat n 2304).size inb) w Finset.univ hx hm) >>= p) Q := by
  refine Tr.store (s' := ⟨iv, ix, r1, ipB, ov, ox, op⟩) (Ψ := Known (split r1 ipB) (C.ip)) 10 rfl rfl (fun X Y hX hY hZ i j hi => ?_) h
  have hi : (j.val < 2304 ∧ i.val < r1) ∨ (2304 ≤ j.val ∧ i.val < ipB) := hi
  by_cases hb : ipA ≤ i.val ∧ i.val < r1 ∧ j.val < 2304
  · have := hY ⟨i - ipA, by omega⟩ ⟨j, by omega⟩ (by show ipA + (i.val - ipA) < 1248; omega) (by show 0 + j.val < 3072; omega)
    rw [hw] at this
    have e0 : (⟨ipA + (i.val - ipA), by omega⟩ : Fin 1248) = i := Fin.ext (by show ipA + (i.val - ipA) = i; omega)
    have e1 : (⟨0 + j.val, by omega⟩ : Fin 3072) = j := Fin.ext (by show 0 + j.val = j; omega)
    simp only [e0, e1] at this
    rw [this]; congr 1; show ipA + (i.val - ipA) = i; omega
  · rw [hZ i j (by omega)]
    exact hX _ _ (show (j.val < 2304 ∧ i.val < ipA) ∨ (2304 ≤ j.val ∧ i.val < ipB) by omega)

/-- Inside rows beside their projections. -/
theorem Tr.st10B {p : PUnit → Prog (TpuEff nD τ sig (Elt Ideal) Λ₀ .tc) β} {w : (mat n 768).Idx → EReal} (hr : ipB + n = r1)
    (hw : Rows w fun i j => C.iv (ipB + i) j) (h : Tr c A C E ⟨iv, ix, ipA, r1, ov, ox, op⟩ (p ⟨⟩) Q) :
    Tr c A C E ⟨iv, ix, ipA, ipB, ov, ox, op⟩
      (Prog.lift (.store A.a10 (Rect.unit (s := mat 1248 3072) ![ipB, 2304] (mat n 768).size inb) w Finset.univ hx hm) >>= p) Q := by
  refine Tr.store (s' := ⟨iv, ix, ipA, r1, ov, ox, op⟩) (Ψ := Known (split ipA r1) (C.ip)) 10 rfl rfl (fun X Y hX hY hZ i j hi => ?_) h
  have hi : (j.val < 2304 ∧ i.val < ipA) ∨ (2304 ≤ j.val ∧ i.val < r1) := hi
  by_cases hb : ipB ≤ i.val ∧ i.val < r1 ∧ 2304 ≤ j.val
  · have := hY ⟨i - ipB, by omega⟩ ⟨j - 2304, by omega⟩ (by show ipB + (i.val - ipB) < 1248; omega)
      (by show 2304 + (j.val - 2304) < 3072; omega)
    rw [hw] at this
    have e0 : (⟨ipB + (i.val - ipB), by omega⟩ : Fin 1248) = i := Fin.ext (by show ipB + (i.val - ipB) = i; omega)
    have e1 : (⟨2304 + (j.val - 2304), by omega⟩ : Fin 3072) = j := Fin.ext (by show 2304 + (j.val - 2304) = j; omega)
    simp only [e0, e1] at this
    rw [this, Rec.ip, if_neg (by omega)]; congr 1; show ipB + (i.val - ipB) = i; omega
  · rw [hZ i j (by omega)]
    exact hX _ _ (show (j.val < 2304 ∧ i.val < ipA) ∨ (2304 ≤ j.val ∧ i.val < ipB) by omega)

/-- Outside vectors. -/
theorem Tr.st8 {p : PUnit → Prog (TpuEff nD τ sig (Elt Ideal) Λ₀ .tc) β} {w : (mat n 768).Idx → EReal} (hr : r1 + n = ov)
    (hw : Rows w fun i j => C.ov (r1 + i) j) (h : (Rows w fun i j => C.ov (r1 + i) j) → Tr c A C E ⟨iv, ix, ipA, ipB, r1, ox, op⟩ (p ⟨⟩) Q) :
    Tr c A C E ⟨iv, ix, ipA, ipB, ov, ox, op⟩
      (Prog.lift (.store A.a8 (Rect.unit (s := mat 1248 768) ![r1, 0] (mat n 768).size inb) w Finset.univ hx hm) >>= p) Q := by
  refine Tr.store (s' := ⟨iv, ix, ipA, ipB, r1, ox, op⟩) (Ψ := Known (above r1) (C.ov)) 8 rfl rfl (fun X Y hX hY hZ i j hi => ?_) (h hw)
  have hi : r1 ≤ i.val := hi
  by_cases hb : i.val < ov
  · have := hY ⟨i - r1, by omega⟩ ⟨j, j.2⟩ (by show r1 + (i.val - r1) < 1248; omega) (by show 0 + j.val < 768; omega)
    rw [hw] at this
    have e0 : (⟨r1 + (i.val - r1), by omega⟩ : Fin 1248) = i := Fin.ext (by show r1 + (i.val - r1) = i; omega)
    have e1 : (⟨0 + j.val, by omega⟩ : Fin 768) = j := Fin.ext (by show 0 + j.val = j; omega)
    simp only [e0, e1] at this
    rw [this]; congr 1; show r1 + (i.val - r1) = i; omega
  · rw [hZ i j (by omega)]
    exact hX _ _ (show ov ≤ i.val by omega)

/-- Outside scores. -/
theorem Tr.st9 {p : PUnit → Prog (TpuEff nD τ sig (Elt Ideal) Λ₀ .tc) β} {w : (mat n 1).Idx → EReal} (hr : r1 + n = ox)
    (hw : Rows w fun i _ => C.ox (r1 + i)) (h : Tr c A C E ⟨iv, ix, ipA, ipB, ov, r1, op⟩ (p ⟨⟩) Q) :
    Tr c A C E ⟨iv, ix, ipA, ipB, ov, ox, op⟩
      (Prog.lift (.store A.a9 (Rect.unit (s := mat 1248 1) ![r1, 0] (mat n 1).size inb) w Finset.univ hx hm) >>= p) Q := by
  refine Tr.store (s' := ⟨iv, ix, ipA, ipB, ov, r1, op⟩) (Ψ := Known (above r1) (fun i _ => C.ox i)) 9 rfl rfl (fun X Y hX hY hZ i j hi => ?_) h
  have hi : r1 ≤ i.val := hi
  by_cases hb : i.val < ox
  · have := hY ⟨i - r1, by omega⟩ ⟨j, j.2⟩ (by show r1 + (i.val - r1) < 1248; omega) (by show 0 + j.val < 1; omega)
    rw [hw] at this
    have e0 : (⟨r1 + (i.val - r1), by omega⟩ : Fin 1248) = i := Fin.ext (by show r1 + (i.val - r1) = i; omega)
    have e1 : (⟨0 + j.val, by omega⟩ : Fin 1) = j := Fin.ext (by show 0 + j.val = j; omega)
    simp only [e0, e1] at this
    rw [this]; congr 1; show r1 + (i.val - r1) = i; omega
  · rw [hZ i j (by omega)]
    exact hX _ _ (show ox ≤ i.val by omega)

/-- Outside projections. -/
theorem Tr.st11 {p : PUnit → Prog (TpuEff nD τ sig (Elt Ideal) Λ₀ .tc) β} {w : (mat n 1536).Idx → EReal} (hr : r1 + n = op)
    (hw : Rows w fun i j => C.op (r1 + i) j) (h : Tr c A C E ⟨iv, ix, ipA, ipB, ov, ox, r1⟩ (p ⟨⟩) Q) :
    Tr c A C E ⟨iv, ix, ipA, ipB, ov, ox, op⟩
      (Prog.lift (.store A.a11 (Rect.unit (s := mat 1248 1536) ![r1, 0] (mat n 1536).size inb) w Finset.univ hx hm) >>= p) Q := by
  refine Tr.store (s' := ⟨iv, ix, ipA, ipB, ov, ox, r1⟩) (Ψ := Known (above r1) (C.op)) 11 rfl rfl (fun X Y hX hY hZ i j hi => ?_) h
  have hi : r1 ≤ i.val := hi
  by_cases hb : i.val < op
  · have := hY ⟨i - r1, by omega⟩ ⟨j, j.2⟩ (by show r1 + (i.val - r1) < 1248; omega) (by show 0 + j.val < 1536; omega)
    rw [hw] at this
    have e0 : (⟨r1 + (i.val - r1), by omega⟩ : Fin 1248) = i := Fin.ext (by show r1 + (i.val - r1) = i; omega)
    have e1 : (⟨0 + j.val, by omega⟩ : Fin 1536) = j := Fin.ext (by show 0 + j.val = j; omega)
    simp only [e0, e1] at this
    rw [this]; congr 1; show r1 + (i.val - r1) = i; omega
  · rw [hZ i j (by omega)]
    exact hX _ _ (show op ≤ i.val by omega)

end stores

end Chart
-- ==== Proof.Chart.Run.lean ====
/-
  The kernel's body, load by load and store by store.
-/
module

public import proofs.«01_k».proof.Proof.Chart.Steps
public import proofs.«01_k».proof.Proof.Chart.Moves

@[expose] public section

set_option maxRecDepth 16384

noncomputable section

namespace Chart

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {c : Dev nD} {A : Args} {C : Rec} {E : Set ℕ}
local notation "𝕄" => MT nD τ sig Unit (Elt Ideal) ℕ (UR sig nD τ) ℕ

variable (h0 : A.a0.IsWhole) (h1 : A.a1.IsWhole) (h2 : A.a2.IsWhole) (h3 : A.a3.IsWhole) (h4 : A.a4.IsWhole) (h5 : A.a5.IsWhole)
  (h6 : A.a6.IsWhole) (h7 : A.a7.IsWhole) (h8 : A.a8.IsWhole) (h9 : A.a9.IsWhole) (h10 : A.a10.IsWhole) (h11 : A.a11.IsWhole)

set_option maxHeartbeats 20000000 in
/-- The body, from buffers of which only the parameters are known, leaves the chart. -/
theorem body_run (hC : C.Holds) {Q : PUnit → sProp 𝕄} (hQ : Tr c A C E ⟨1248, 1248, 1248, 1248, 0, 0, 0⟩ (pure ⟨⟩) Q) :
    Tr c A C E ⟨0, 0, 0, 0, 1248, 1248, 1248⟩
      (cc0__body (F := Ideal) A.a0 h0 A.a1 h1 A.a2 h2 A.a3 h3 A.a4 h4 A.a5 h5 A.a6 h6 A.a7 h7 A.a8 h8 A.a9 h9 A.a10 h10 A.a11 h11) Q := by
  rw [cc0__body_eq_skeleton]; unfold cc0__body_skel
  refine Tr.bind ?_
  rw [k0_part111_eq_skeleton]; unfold k0_part111_skel
  refine Tr.bind ?_
  rw [k0_part1_eq_skeleton]
  unfold k0_part1_skel
  refine Tr.ld1 fun v1 hv1 => Tr.ld2 fun v2 hv2 => Tr.ld3 fun v3 hv3 => Tr.ld4 fun v4 hv4 => Tr.ld0 fun v0 hv0 => ?_
  have hx : Rows (k0_pay2 (F := Ideal) v1) C.wf := hv1.cast _
  have ht := bias_rows hv2
  have hw : Rows (k0_pay4 (F := Ideal) v3) C.w2 := hv3.cast _
  have hb : Rows (k0_pay5 (F := Ideal) v4) fun _ j => C.b2 j := hv4.cast _
  have hl : Rows (k0_pay6 (F := Ideal) v0) fun i j => C.iv (0 + i) j :=
    (hv0.cast _).congr fun i hi j hj => by rw [Nat.zero_add, hC.leafV i hi j hj]
  refine Tr.skip 6 rfl fun _ => Tr.st6 (r1 := 192) rfl hl fun _ => ?_
  refine Tr.skip 7 rfl fun _ => Tr.st7 (r1 := 192) rfl (rows_zero32.congr fun i hi _ _ => (hC.leafS (0 + i) (by omega)).symm) ?_
  refine Tr.skip 10 rfl fun _ => Tr.st10A (r1 := 192) rfl ((inP_rows hl hx ht).cast _) ?_
  refine Tr.skip 10 rfl fun _ => Tr.st10B (r1 := 192) rfl (hl.cast _) ?_
  refine Tr.ld10 (by decide) fun _ _ => Tr.ld10 (by decide) fun _ _ => Tr.done ?_
  generalize k0_pay2 (F := Ideal) v1 = x at hx ⊢
  generalize k0_pay3 (F := Ideal) v2 = t at ht ⊢
  generalize k0_pay4 (F := Ideal) v3 = w at hw ⊢
  generalize k0_pay5 (F := Ideal) v4 = b at hb ⊢
  clear hv0 hv1 hv2 hv3 hv4 hl
  refine Tr.bind ?_
  rw [k0_part2_eq_skeleton]; unfold k0_part2_skel
  refine Tr.ld7 (by decide) fun _ _ => Tr.ld7 (by decide) fun _ _ => ?_
  refine Tr.skip 6 rfl fun _ => Tr.st6 (r1 := 368) rfl (hC.inV₁_rows (p := ⟨176, _, _, _, _, 0, 16⟩) hw hb rfl
    (by constructor <;> assumption)) fun hv => ?_
  refine Tr.skip 7 rfl fun _ => Tr.st7 (r1 := 368) rfl (hC.inS₁_rows (p := ⟨176, _, _, _, _, 0, 16⟩) rfl
    (by constructor <;> assumption)) ?_
  refine Tr.done ?_
  refine Tr.bind ?_
  rw [k0_part3_eq_skeleton]; unfold k0_part3_skel
  refine Tr.skip 10 rfl fun _ => Tr.st10A (r1 := 368) rfl ((inP_rows hv hx ht).cast _) ?_
  refine Tr.skip 10 rfl fun _ => Tr.st10B (r1 := 368) rfl (hv.cast _) ?_
  clear * - hC hQ hw hb hx ht
  refine Tr.ld10 (by decide) fun _ k1 => Tr.ld10 (by decide) fun _ k2 => Tr.ld7 (by decide) fun _ k3 =>
      Tr.ld7 (by decide) fun _ k4 => Tr.ld10 (by decide) fun _ k5 => Tr.ld10 (by decide) fun _ k6 => Tr.ld7 (by decide) fun _ k7 =>
      Tr.ld7 (by decide) fun _ k8 => ?_
  refine Tr.done ?_
  refine Tr.bind ?_
  rw [k0_part4_eq_skeleton]; unfold k0_part4_skel
  have hg := AllGood.inner k1 k2 k3 k4 <| .inner k5 k6 k7 k8 <| .nil
  refine Tr.skip 6 rfl fun _ => Tr.st6 (r1 := 528) rfl (hC.inV_rows hw hb 3 (c := 2) (n := 160) (N := 320) (ps :=
    [⟨160, _, _, _, _, 0, 208⟩, ⟨160, _, _, _, _, 192, 32⟩]) (by decide) ⟨by simp, by simp⟩ (by simp only [keys, List.map]; decide)
    (by exact hg)) fun hv => ?_
  refine Tr.skip 7 rfl fun _ => Tr.st7 (r1 := 528) rfl (hC.inS_rows 3 (c := 2) (n := 160) (N := 320) (ps :=
    [⟨160, _, _, _, _, 0, 208⟩, ⟨160, _, _, _, _, 192, 32⟩]) (by decide) ⟨by simp, by simp⟩ (by simp only [keys, List.map]; decide)
    (by exact hg)) ?_
  refine Tr.skip 10 rfl fun _ => Tr.st10A (r1 := 528) rfl ((inP_rows hv hx ht).cast _) ?_
  refine Tr.done ?_
  refine Tr.bind ?_
  rw [k0_part5_eq_skeleton]; unfold k0_part5_skel
  refine Tr.skip 10 rfl fun _ => Tr.st10B (r1 := 528) rfl (hv.cast _) ?_
  clear * - hC hQ hw hb hx ht
  refine Tr.ld10 (by decide) fun _ k1 => Tr.ld10 (by decide) fun _ k2 => Tr.ld7 (by decide) fun _ k3 =>
      Tr.ld7 (by decide) fun _ k4 => Tr.ld10 (by decide) fun _ k5 => Tr.ld10 (by decide) fun _ k6 => Tr.ld7 (by decide) fun _ k7 =>
      Tr.ld7 (by decide) fun _ k8 => Tr.ld10 (by decide) fun _ k9 => Tr.ld10 (by decide) fun _ k10 => Tr.ld7 (by decide) fun _ k11 =>
      Tr.ld7 (by decide) fun _ k12 => ?_
  refine Tr.done ?_
  refine Tr.bind ?_
  rw [k0_part6_eq_skeleton]; unfold k0_part6_skel
  refine Tr.done ?_
  refine Tr.bind ?_
  rw [k0_part7_eq_skeleton]; unfold k0_part7_skel
  have hg := AllGood.inner k1 k2 k3 k4 <| .inner k5 k6 k7 k8 <| .inner k9 k10 k11 k12 <| .nil
  refine Tr.skip 6 rfl fun _ => Tr.st6 (r1 := 672) rfl (hC.inV_rows hw hb 4 (c := 3) (n := 144) (N := 432) (ps :=
    [⟨144, _, _, _, _, 0, 384⟩, ⟨144, _, _, _, _, 192, 224⟩, ⟨144, _, _, _, _, 368, 48⟩]) (by decide) ⟨by simp, by simp⟩ (by simp only [keys, List.map]; decide)
    (by exact hg)) fun hv => ?_
  refine Tr.skip 7 rfl fun _ => Tr.st7 (r1 := 672) rfl (hC.inS_rows 4 (c := 3) (n := 144) (N := 432) (ps :=
    [⟨144, _, _, _, _, 0, 384⟩, ⟨144, _, _, _, _, 192, 224⟩, ⟨144, _, _, _, _, 368, 48⟩]) (by decide) ⟨by simp, by simp⟩ (by simp only [keys, List.map]; decide)
    (by exact hg)) ?_
  refine Tr.skip 10 rfl fun _ => Tr.st10A (r1 := 672) rfl ((inP_rows hv hx ht).cast _) ?_
  refine Tr.skip 10 rfl fun _ => Tr.st10B (r1 := 672) rfl (hv.cast _) ?_
  clear * - hC hQ hw hb hx ht
  refine Tr.ld10 (by decide) fun _ k1 => Tr.ld10 (by decide) fun _ k2 => Tr.ld7 (by decide) fun _ k3 =>
      Tr.ld7 (by decide) fun _ k4 => Tr.ld10 (by decide) fun _ k5 => Tr.ld10 (by decide) fun _ k6 => Tr.ld7 (by decide) fun _ k7 =>
      Tr.ld7 (by decide) fun _ k8 => Tr.ld10 (by decide) fun _ k9 => Tr.ld10 (by decide) fun _ k10 => ?_
  refine Tr.done ?_
  refine Tr.bind ?_
  rw [k0_part8_eq_skeleton]; unfold k0_part8_skel
  refine Tr.ld7 (by decide) fun _ k11 => Tr.ld7 (by decide) fun _ k12 => Tr.ld10 (by decide) fun _ k13 =>
      Tr.ld10 (by decide) fun _ k14 => Tr.ld7 (by decide) fun _ k15 => Tr.ld7 (by decide) fun _ k16 => ?_
  refine Tr.done ?_
  refine Tr.bind ?_
  rw [k0_part9_eq_skeleton]; unfold k0_part9_skel
  have hg := AllGood.inner k1 k2 k3 k4 <| .inner k5 k6 k7 k8 <| .inner k9 k10 k11 k12 <| .inner k13 k14 k15 k16 <|
    .nil
  refine Tr.skip 6 rfl fun _ => Tr.st6 (r1 := 800) rfl (hC.inV_rows hw hb 5 (c := 4) (n := 128) (N := 512) (ps :=
    [⟨128, _, _, _, _, 0, 544⟩, ⟨128, _, _, _, _, 192, 400⟩, ⟨128, _, _, _, _, 368, 240⟩,
    ⟨128, _, _, _, _, 528, 64⟩]) (by decide) ⟨by simp, by simp⟩ (by simp only [keys, List.map]; decide)
    (by exact hg)) fun hv => ?_
  refine Tr.skip 7 rfl fun _ => Tr.st7 (r1 := 800) rfl (hC.inS_rows 5 (c := 4) (n := 128) (N := 512) (ps :=
    [⟨128, _, _, _, _, 0, 544⟩, ⟨128, _, _, _, _, 192, 400⟩, ⟨128, _, _, _, _, 368, 240⟩,
    ⟨128, _, _, _, _, 528, 64⟩]) (by decide) ⟨by simp, by simp⟩ (by simp only [keys, List.map]; decide)
    (by exact hg)) ?_
  refine Tr.done ?_
  refine Tr.bind ?_
  rw [k0_part10_eq_skeleton]; unfold k0_part10_skel
  refine Tr.skip 10 rfl fun _ => Tr.st10A (r1 := 800) rfl ((inP_rows hv hx ht).cast _) ?_
  refine Tr.skip 10 rfl fun _ => Tr.st10B (r1 := 800) rfl (hv.cast _) ?_
  clear * - hC hQ hw hb hx ht
  refine Tr.ld10 (by decide) fun _ k1 => Tr.ld10 (by decide) fun _ k2 => Tr.ld7 (by decide) fun _ k3 =>
      Tr.ld7 (by decide) fun _ k4 => Tr.ld10 (by decide) fun _ k5 => Tr.ld10 (by decide) fun _ k6 => Tr.ld7 (by decide) fun _ k7 =>
      Tr.ld7 (by decide) fun _ k8 => Tr.ld10 (by decide) fun _ k9 => Tr.ld10 (by decide) fun _ k10 => Tr.ld7 (by decide) fun _ k11 =>
      Tr.ld7 (by decide) fun _ k12 => Tr.ld10 (by decide) fun _ k13 => Tr.ld10 (by decide) fun _ k14 => ?_
  refine Tr.done ?_
  refine Tr.bind ?_
  rw [k0_part11_eq_skeleton]; unfold k0_part11_skel
  refine Tr.ld7 (by decide) fun _ k15 => Tr.ld7 (by decide) fun _ k16 => Tr.ld10 (by decide) fun _ k17 =>
      Tr.ld10 (by decide) fun _ k18 => Tr.ld7 (by decide) fun _ k19 => Tr.ld7 (by decide) fun _ k20 => ?_
  refine Tr.done ?_
  refine Tr.bind ?_
  rw [k0_part12_eq_skeleton]; unfold k0_part12_skel
  refine Tr.done ?_
  refine Tr.bind ?_
  rw [k0_part13_eq_skeleton]; unfold k0_part13_skel
  have hg := AllGood.inner k1 k2 k3 k4 <| .inner k5 k6 k7 k8 <| .inner k9 k10 k11 k12 <| .inner k13 k14 k15 k16 <|
    .inner k17 k18 k19 k20 <| .nil
  refine Tr.skip 6 rfl fun _ => Tr.st6 (r1 := 912) rfl (hC.inV_rows hw hb 6 (c := 5) (n := 112) (N := 560) (ps :=
    [⟨112, _, _, _, _, 0, 688⟩, ⟨112, _, _, _, _, 192, 560⟩, ⟨112, _, _, _, _, 368, 416⟩,
    ⟨112, _, _, _, _, 528, 256⟩, ⟨112, _, _, _, _, 672, 80⟩]) (by decide) ⟨by simp, by simp⟩ (by simp only [keys, List.map]; decide)
    (by exact hg)) fun hv => ?_
  refine Tr.skip 7 rfl fun _ => Tr.st7 (r1 := 912) rfl (hC.inS_rows 6 (c := 5) (n := 112) (N := 560) (ps :=
    [⟨112, _, _, _, _, 0, 688⟩, ⟨112, _, _, _, _, 192, 560⟩, ⟨112, _, _, _, _, 368, 416⟩,
    ⟨112, _, _, _, _, 528, 256⟩, ⟨112, _, _, _, _, 672, 80⟩]) (by decide) ⟨by simp, by simp⟩ (by simp only [keys, List.map]; decide)
    (by exact hg)) ?_
  refine Tr.skip 10 rfl fun _ => Tr.st10A (r1 := 912) rfl ((inP_rows hv hx ht).cast _) ?_
  refine Tr.skip 10 rfl fun _ => Tr.st10B (r1 := 912) rfl (hv.cast _) ?_
  clear * - hC hQ hw hb hx ht
  refine Tr.ld10 (by decide) fun _ k1 => Tr.ld10 (by decide) fun _ k2 => Tr.ld7 (by decide) fun _ k3 =>
      Tr.ld7 (by decide) fun _ k4 => Tr.ld10 (by decide) fun _ k5 => Tr.ld10 (by decide) fun _ k6 => Tr.ld7 (by decide) fun _ k7 =>
      Tr.ld7 (by decide) fun _ k8 => Tr.ld10 (by decide) fun _ k9 => Tr.ld10 (by decide) fun _ k10 => ?_
  refine Tr.done ?_
  refine Tr.bind ?_
  rw [k0_part14_eq_skeleton]; unfold k0_part14_skel
  refine Tr.ld7 (by decide) fun _ k11 => Tr.ld7 (by decide) fun _ k12 => Tr.ld10 (by decide) fun _ k13 =>
      Tr.ld10 (by decide) fun _ k14 => Tr.ld7 (by decide) fun _ k15 => Tr.ld7 (by decide) fun _ k16 => Tr.ld10 (by decide) fun _ k17 =>
      Tr.ld10 (by decide) fun _ k18 => Tr.ld7 (by decide) fun _ k19 => Tr.ld7 (by decide) fun _ k20 => Tr.ld10 (by decide) fun _ k21 =>
      Tr.ld10 (by decide) fun _ k22 => Tr.ld7 (by decide) fun _ k23 => Tr.ld7 (by decide) fun _ k24 => ?_
  refine Tr.done ?_
  refine Tr.bind ?_
  rw [k0_part15_eq_skeleton]; unfold k0_part15_skel
  refine Tr.done ?_
  refine Tr.bind ?_
  rw [k0_part16_eq_skeleton]; unfold k0_part16_skel
  have hg := AllGood.inner k1 k2 k3 k4 <| .inner k5 k6 k7 k8 <| .inner k9 k10 k11 k12 <| .inner k13 k14 k15 k16 <|
    .inner k17 k18 k19 k20 <| .inner k21 k22 k23 k24 <| .nil
  refine Tr.skip 6 rfl fun _ => Tr.st6 (r1 := 1008) rfl (hC.inV_rows hw hb 7 (c := 6) (n := 96) (N := 576) (ps :=
    [⟨96, _, _, _, _, 0, 816⟩, ⟨96, _, _, _, _, 192, 704⟩, ⟨96, _, _, _, _, 368, 576⟩,
    ⟨96, _, _, _, _, 528, 432⟩, ⟨96, _, _, _, _, 672, 272⟩, ⟨96, _, _, _, _, 800, 96⟩]) (by decide) ⟨by simp, by simp⟩ (by simp only [keys, List.map]; decide)
    (by exact hg)) fun hv => ?_
  refine Tr.skip 7 rfl fun _ => Tr.st7 (r1 := 1008) rfl (hC.inS_rows 7 (c := 6) (n := 96) (N := 576) (ps :=
    [⟨96, _, _, _, _, 0, 816⟩, ⟨96, _, _, _, _, 192, 704⟩, ⟨96, _, _, _, _, 368, 576⟩,
    ⟨96, _, _, _, _, 528, 432⟩, ⟨96, _, _, _, _, 672, 272⟩, ⟨96, _, _, _, _, 800, 96⟩]) (by decide) ⟨by simp, by simp⟩ (by simp only [keys, List.map]; decide)
    (by exact hg)) ?_
  refine Tr.skip 10 rfl fun _ => Tr.st10A (r1 := 1008) rfl ((inP_rows hv hx ht).cast _) ?_
  refine Tr.done ?_
  refine Tr.bind ?_
  rw [k0_part17_eq_skeleton]; unfold k0_part17_skel
  refine Tr.skip 10 rfl fun _ => Tr.st10B (r1 := 1008) rfl (hv.cast _) ?_
  clear * - hC hQ hw hb hx ht
  refine Tr.ld10 (by decide) fun _ k1 => Tr.ld10 (by decide) fun _ k2 => Tr.ld7 (by decide) fun _ k3 =>
      Tr.ld7 (by decide) fun _ k4 => Tr.ld10 (by decide) fun _ k5 => Tr.ld10 (by decide) fun _ k6 => Tr.ld7 (by decide) fun _ k7 =>
      Tr.ld7 (by decide) fun _ k8 => Tr.ld10 (by decide) fun _ k9 => Tr.ld10 (by decide) fun _ k10 => Tr.ld7 (by decide) fun _ k11 =>
      Tr.ld7 (by decide) fun _ k12 => Tr.ld10 (by decide) fun _ k13 => Tr.ld10 (by decide) fun _ k14 =>
      Tr.ld7 (by decide) fun _ k15 => ?_
  refine Tr.done ?_
  refine Tr.bind ?_
  rw [k0_part18_eq_skeleton]; unfold k0_part18_skel
  refine Tr.ld7 (by decide) fun _ k16 => Tr.ld10 (by decide) fun _ k17 => Tr.ld10 (by decide) fun _ k18 =>
      Tr.ld7 (by decide) fun _ k19 => Tr.ld7 (by decide) fun _ k20 => Tr.ld10 (by decide) fun _ k21 => Tr.ld10 (by decide) fun _ k22 =>
      Tr.ld7 (by decide) fun _ k23 => Tr.ld7 (by decide) fun _ k24 => Tr.ld10 (by decide) fun _ k25 => Tr.ld10 (by decide) fun _ k26 =>
      Tr.ld7 (by decide) fun _ k27 => Tr.ld7 (by decide) fun _ k28 => ?_
  refine Tr.done ?_
  refine Tr.bind ?_
  rw [k0_part19_eq_skeleton]; unfold k0_part19_skel
  refine Tr.done ?_
  refine Tr.bind ?_
  rw [k0_part20_eq_skeleton]; unfold k0_part20_skel
  have hg := AllGood.inner k1 k2 k3 k4 <| .inner k5 k6 k7 k8 <| .inner k9 k10 k11 k12 <| .inner k13 k14 k15 k16 <|
    .inner k17 k18 k19 k20 <| .inner k21 k22 k23 k24 <| .inner k25 k26 k27 k28 <| .nil
  refine Tr.skip 6 rfl fun _ => Tr.st6 (r1 := 1088) rfl (hC.inV_rows hw hb 8 (c := 7) (n := 80) (N := 560) (ps :=
    [⟨80, _, _, _, _, 0, 928⟩, ⟨80, _, _, _, _, 192, 832⟩, ⟨80, _, _, _, _, 368, 720⟩,
    ⟨80, _, _, _, _, 528, 592⟩, ⟨80, _, _, _, _, 672, 448⟩, ⟨80, _, _, _, _, 800, 288⟩,
    ⟨80, _, _, _, _, 912, 112⟩]) (by decide) ⟨by simp, by simp⟩ (by simp only [keys, List.map]; decide)
    (by exact hg)) fun hv => ?_
  refine Tr.skip 7 rfl fun _ => Tr.st7 (r1 := 1088) rfl (hC.inS_rows 8 (c := 7) (n := 80) (N := 560) (ps :=
    [⟨80, _, _, _, _, 0, 928⟩, ⟨80, _, _, _, _, 192, 832⟩, ⟨80, _, _, _, _, 368, 720⟩,
    ⟨80, _, _, _, _, 528, 592⟩, ⟨80, _, _, _, _, 672, 448⟩, ⟨80, _, _, _, _, 800, 288⟩,
    ⟨80, _, _, _, _, 912, 112⟩]) (by decide) ⟨by simp, by simp⟩ (by simp only [keys, List.map]; decide)
    (by exact hg)) ?_
  refine Tr.done ?_
  refine Tr.bind ?_
  rw [k0_part21_eq_skeleton]; unfold k0_part21_skel
  refine Tr.skip 10 rfl fun _ => Tr.st10A (r1 := 1088) rfl ((inP_rows hv hx ht).cast _) ?_
  refine Tr.skip 10 rfl fun _ => Tr.st10B (r1 := 1088) rfl (hv.cast _) ?_
  clear * - hC hQ hw hb hx ht
  refine Tr.ld10 (by decide) fun _ k1 => Tr.ld10 (by decide) fun _ k2 => Tr.ld7 (by decide) fun _ k3 =>
      Tr.ld7 (by decide) fun _ k4 => Tr.ld10 (by decide) fun _ k5 => Tr.ld10 (by decide) fun _ k6 => Tr.ld7 (by decide) fun _ k7 =>
      Tr.ld7 (by decide) fun _ k8 => Tr.ld10 (by decide) fun _ k9 => Tr.ld10 (by decide) fun _ k10 => Tr.ld7 (by decide) fun _ k11 =>
      Tr.ld7 (by decide) fun _ k12 => Tr.ld10 (by decide) fun _ k13 => ?_
  refine Tr.done ?_
  refine Tr.bind ?_
  rw [k0_part22_eq_skeleton]; unfold k0_part22_skel
  refine Tr.ld10 (by decide) fun _ k14 => Tr.ld7 (by decide) fun _ k15 => Tr.ld7 (by decide) fun _ k16 =>
      Tr.ld10 (by decide) fun _ k17 => Tr.ld10 (by decide) fun _ k18 => Tr.ld7 (by decide) fun _ k19 => Tr.ld7 (by decide) fun _ k20 =>
      Tr.ld10 (by decide) fun _ k21 => Tr.ld10 (by decide) fun _ k22 => Tr.ld7 (by decide) fun _ k23 => Tr.ld7 (by decide) fun _ k24 =>
      Tr.ld10 (by decide) fun _ k25 => Tr.ld10 (by decide) fun _ k26 => Tr.ld7 (by decide) fun _ k27 => Tr.ld7 (by decide) fun _ k28 =>
      Tr.ld10 (by decide) fun _ k29 => Tr.ld10 (by decide) fun _ k30 => ?_
  refine Tr.done ?_
  refine Tr.bind ?_
  rw [k0_part23_eq_skeleton]; unfold k0_part23_skel
  refine Tr.ld7 (by decide) fun _ k31 => Tr.ld7 (by decide) fun _ k32 => ?_
  refine Tr.done ?_
  refine Tr.bind ?_
  rw [k0_part24_eq_skeleton]; unfold k0_part24_skel
  refine Tr.done ?_
  refine Tr.bind ?_
  rw [k0_part25_eq_skeleton]; unfold k0_part25_skel
  have hg := AllGood.inner k1 k2 k3 k4 <| .inner k5 k6 k7 k8 <| .inner k9 k10 k11 k12 <| .inner k13 k14 k15 k16 <|
    .inner k17 k18 k19 k20 <| .inner k21 k22 k23 k24 <| .inner k25 k26 k27 k28 <| .inner k29 k30 k31 k32 <| .nil
  refine Tr.skip 6 rfl fun _ => Tr.st6 (r1 := 1152) rfl (hC.inV_rows hw hb 9 (c := 8) (n := 64) (N := 512) (ps :=
    [⟨64, _, _, _, _, 0, 1024⟩, ⟨64, _, _, _, _, 192, 944⟩, ⟨64, _, _, _, _, 368, 848⟩,
    ⟨64, _, _, _, _, 528, 736⟩, ⟨64, _, _, _, _, 672, 608⟩, ⟨64, _, _, _, _, 800, 464⟩,
    ⟨64, _, _, _, _, 912, 304⟩, ⟨64, _, _, _, _, 1008, 128⟩]) (by decide) ⟨by simp, by simp⟩ (by simp only [keys, List.map]; decide)
    (by exact hg)) fun hv => ?_
  refine Tr.skip 7 rfl fun _ => Tr.st7 (r1 := 1152) rfl (hC.inS_rows 9 (c := 8) (n := 64) (N := 512) (ps :=
    [⟨64, _, _, _, _, 0, 1024⟩, ⟨64, _, _, _, _, 192, 944⟩, ⟨64, _, _, _, _, 368, 848⟩,
    ⟨64, _, _, _, _, 528, 736⟩, ⟨64, _, _, _, _, 672, 608⟩, ⟨64, _, _, _, _, 800, 464⟩,
    ⟨64, _, _, _, _, 912, 304⟩, ⟨64, _, _, _, _, 1008, 128⟩]) (by decide) ⟨by simp, by simp⟩ (by simp only [keys, List.map]; decide)
    (by exact hg)) ?_
  refine Tr.skip 10 rfl fun _ => Tr.st10A (r1 := 1152) rfl ((inP_rows hv hx ht).cast _) ?_
  refine Tr.skip 10 rfl fun _ => Tr.st10B (r1 := 1152) rfl (hv.cast _) ?_
  clear * - hC hQ hw hb hx ht
  refine Tr.ld10 (by decide) fun _ k1 => Tr.ld10 (by decide) fun _ k2 => Tr.ld7 (by decide) fun _ k3 => ?_
  refine Tr.done ?_
  refine Tr.bind ?_
  rw [k0_part26_eq_skeleton]; unfold k0_part26_skel
  refine Tr.ld7 (by decide) fun _ k4 => Tr.ld10 (by decide) fun _ k5 => Tr.ld10 (by decide) fun _ k6 =>
      Tr.ld7 (by decide) fun _ k7 => Tr.ld7 (by decide) fun _ k8 => Tr.ld10 (by decide) fun _ k9 => Tr.ld10 (by decide) fun _ k10 =>
      Tr.ld7 (by decide) fun _ k11 => Tr.ld7 (by decide) fun _ k12 => Tr.ld10 (by decide) fun _ k13 => Tr.ld10 (by decide) fun _ k14 =>
      Tr.ld7 (by decide) fun _ k15 => Tr.ld7 (by decide) fun _ k16 => Tr.ld10 (by decide) fun _ k17 => Tr.ld10 (by decide) fun _ k18 =>
      Tr.ld7 (by decide) fun _ k19 => Tr.ld7 (by decide) fun _ k20 => ?_
  refine Tr.done ?_
  refine Tr.bind ?_
  rw [k0_part27_eq_skeleton]; unfold k0_part27_skel
  refine Tr.ld10 (by decide) fun _ k21 => Tr.ld10 (by decide) fun _ k22 => Tr.ld7 (by decide) fun _ k23 =>
      Tr.ld7 (by decide) fun _ k24 => Tr.ld10 (by decide) fun _ k25 => Tr.ld10 (by decide) fun _ k26 => Tr.ld7 (by decide) fun _ k27 =>
      Tr.ld7 (by decide) fun _ k28 => Tr.ld10 (by decide) fun _ k29 => Tr.ld10 (by decide) fun _ k30 => Tr.ld7 (by decide) fun _ k31 =>
      Tr.ld7 (by decide) fun _ k32 => Tr.ld10 (by decide) fun _ k33 => Tr.ld10 (by decide) fun _ k34 => Tr.ld7 (by decide) fun _ k35 =>
      Tr.ld7 (by decide) fun _ k36 => ?_
  refine Tr.done ?_
  refine Tr.bind ?_
  rw [k0_part28_eq_skeleton]; unfold k0_part28_skel
  refine Tr.done ?_
  refine Tr.bind ?_
  rw [k0_part29_eq_skeleton]; unfold k0_part29_skel
  refine Tr.done ?_
  refine Tr.bind ?_
  rw [k0_part30_eq_skeleton]; unfold k0_part30_skel
  have hg := AllGood.inner k1 k2 k3 k4 <| .inner k5 k6 k7 k8 <| .inner k9 k10 k11 k12 <| .inner k13 k14 k15 k16 <|
    .inner k17 k18 k19 k20 <| .inner k21 k22 k23 k24 <| .inner k25 k26 k27 k28 <| .inner k29 k30 k31 k32 <|
    .inner k33 k34 k35 k36 <| .nil
  refine Tr.skip 6 rfl fun _ => Tr.st6 (r1 := 1200) rfl (hC.inV_rows hw hb 10 (c := 9) (n := 48) (N := 432) (ps :=
    [⟨48, _, _, _, _, 0, 1104⟩, ⟨48, _, _, _, _, 192, 1040⟩, ⟨48, _, _, _, _, 368, 960⟩,
    ⟨48, _, _, _, _, 528, 864⟩, ⟨48, _, _, _, _, 672, 752⟩, ⟨48, _, _, _, _, 800, 624⟩,
    ⟨48, _, _, _, _, 912, 480⟩, ⟨48, _, _, _, _, 1008, 320⟩, ⟨48, _, _, _, _, 1088, 144⟩]) (by decide) ⟨by simp, by simp⟩ (by simp only [keys, List.map]; decide)
    (by exact hg)) fun hv => ?_
  refine Tr.skip 7 rfl fun _ => Tr.st7 (r1 := 1200) rfl (hC.inS_rows 10 (c := 9) (n := 48) (N := 432) (ps :=
    [⟨48, _, _, _, _, 0, 1104⟩, ⟨48, _, _, _, _, 192, 1040⟩, ⟨48, _, _, _, _, 368, 960⟩,
    ⟨48, _, _, _, _, 528, 864⟩, ⟨48, _, _, _, _, 672, 752⟩, ⟨48, _, _, _, _, 800, 624⟩,
    ⟨48, _, _, _, _, 912, 480⟩, ⟨48, _, _, _, _, 1008, 320⟩, ⟨48, _, _, _, _, 1088, 144⟩]) (by decide) ⟨by simp, by simp⟩ (by simp only [keys, List.map]; decide)
    (by exact hg)) ?_
  refine Tr.skip 10 rfl fun _ => Tr.st10A (r1 := 1200) rfl ((inP_rows hv hx ht).cast _) ?_
  refine Tr.skip 10 rfl fun _ => Tr.st10B (r1 := 1200) rfl (hv.cast _) ?_
  clear * - hC hQ hw hb hx ht
  refine Tr.ld10 (by decide) fun _ k1 => Tr.ld10 (by decide) fun _ k2 => ?_
  refine Tr.done ?_
  refine Tr.bind ?_
  rw [k0_part31_eq_skeleton]; unfold k0_part31_skel
  refine Tr.ld7 (by decide) fun _ k3 => Tr.ld7 (by decide) fun _ k4 => Tr.ld10 (by decide) fun _ k5 =>
      Tr.ld10 (by decide) fun _ k6 => Tr.ld7 (by decide) fun _ k7 => Tr.ld7 (by decide) fun _ k8 => Tr.ld10 (by decide) fun _ k9 =>
      Tr.ld10 (by decide) fun _ k10 => Tr.ld7 (by decide) fun _ k11 => Tr.ld7 (by decide) fun _ k12 => Tr.ld10 (by decide) fun _ k13 =>
      Tr.ld10 (by decide) fun _ k14 => Tr.ld7 (by decide) fun _ k15 => Tr.ld7 (by decide) fun _ k16 => Tr.ld10 (by decide) fun _ k17 =>
      Tr.ld10 (by decide) fun _ k18 => Tr.ld7 (by decide) fun _ k19 => ?_
  refine Tr.done ?_
  refine Tr.bind ?_
  rw [k0_part32_eq_skeleton]; unfold k0_part32_skel
  refine Tr.ld7 (by decide) fun _ k20 => Tr.ld10 (by decide) fun _ k21 => Tr.ld10 (by decide) fun _ k22 =>
      Tr.ld7 (by decide) fun _ k23 => Tr.ld7 (by decide) fun _ k24 => Tr.ld10 (by decide) fun _ k25 => Tr.ld10 (by decide) fun _ k26 =>
      Tr.ld7 (by decide) fun _ k27 => Tr.ld7 (by decide) fun _ k28 => Tr.ld10 (by decide) fun _ k29 => Tr.ld10 (by decide) fun _ k30 =>
      Tr.ld7 (by decide) fun _ k31 => Tr.ld7 (by decide) fun _ k32 => Tr.ld10 (by decide) fun _ k33 => Tr.ld10 (by decide) fun _ k34 =>
      Tr.ld7 (by decide) fun _ k35 => Tr.ld7 (by decide) fun _ k36 => ?_
  refine Tr.done ?_
  refine Tr.bind ?_
  rw [k0_part33_eq_skeleton]; unfold k0_part33_skel
  refine Tr.ld10 (by decide) fun _ k37 => Tr.ld10 (by decide) fun _ k38 => Tr.ld7 (by decide) fun _ k39 =>
      Tr.ld7 (by decide) fun _ k40 => ?_
  refine Tr.done ?_
  refine Tr.bind ?_
  rw [k0_part34_eq_skeleton]; unfold k0_part34_skel
  refine Tr.done ?_
  refine Tr.bind ?_
  rw [k0_part35_eq_skeleton]; unfold k0_part35_skel
  have hg := AllGood.inner k1 k2 k3 k4 <| .inner k5 k6 k7 k8 <| .inner k9 k10 k11 k12 <| .inner k13 k14 k15 k16 <|
    .inner k17 k18 k19 k20 <| .inner k21 k22 k23 k24 <| .inner k25 k26 k27 k28 <| .inner k29 k30 k31 k32 <|
    .inner k33 k34 k35 k36 <| .inner k37 k38 k39 k40 <| .nil
  refine Tr.skip 6 rfl fun _ => Tr.st6 (r1 := 1232) rfl (hC.inV_rows hw hb 11 (c := 10) (n := 32) (N := 320) (ps :=
    [⟨32, _, _, _, _, 0, 1168⟩, ⟨32, _, _, _, _, 192, 1120⟩, ⟨32, _, _, _, _, 368, 1056⟩,
    ⟨32, _, _, _, _, 528, 976⟩, ⟨32, _, _, _, _, 672, 880⟩, ⟨32, _, _, _, _, 800, 768⟩,
    ⟨32, _, _, _, _, 912, 640⟩, ⟨32, _, _, _, _, 1008, 496⟩, ⟨32, _, _, _, _, 1088, 336⟩,
    ⟨32, _, _, _, _, 1152, 160⟩]) (by decide) ⟨by simp, by simp⟩ (by simp only [keys, List.map]; decide)
    (by exact hg)) fun hv => ?_
  refine Tr.done ?_
  refine Tr.bind ?_
  rw [k0_part36_eq_skeleton]; unfold k0_part36_skel
  refine Tr.skip 7 rfl fun _ => Tr.st7 (r1 := 1232) rfl (hC.inS_rows 11 (c := 10) (n := 32) (N := 320) (ps :=
    [⟨32, _, _, _, _, 0, 1168⟩, ⟨32, _, _, _, _, 192, 1120⟩, ⟨32, _, _, _, _, 368, 1056⟩,
    ⟨32, _, _, _, _, 528, 976⟩, ⟨32, _, _, _, _, 672, 880⟩, ⟨32, _, _, _, _, 800, 768⟩,
    ⟨32, _, _, _, _, 912, 640⟩, ⟨32, _, _, _, _, 1008, 496⟩, ⟨32, _, _, _, _, 1088, 336⟩,
    ⟨32, _, _, _, _, 1152, 160⟩]) (by decide) ⟨by simp, by simp⟩ (by simp only [keys, List.map]; decide)
    (by exact hg)) ?_
  refine Tr.skip 10 rfl fun _ => Tr.st10A (r1 := 1232) rfl ((inP_rows hv hx ht).cast _) ?_
  refine Tr.skip 10 rfl fun _ => Tr.st10B (r1 := 1232) rfl (hv.cast _) ?_
  clear * - hC hQ hw hb hx ht
  refine Tr.ld10 (by decide) fun _ k1 => Tr.ld10 (by decide) fun _ k2 => Tr.ld7 (by decide) fun _ k3 =>
      Tr.ld7 (by decide) fun _ k4 => Tr.ld10 (by decide) fun _ k5 => Tr.ld10 (by decide) fun _ k6 => Tr.ld7 (by decide) fun _ k7 =>
      Tr.ld7 (by decide) fun _ k8 => Tr.ld10 (by decide) fun _ k9 => Tr.ld10 (by decide) fun _ k10 =>
      Tr.ld7 (by decide) fun _ k11 => ?_
  refine Tr.done ?_
  refine Tr.bind ?_
  rw [k0_part37_eq_skeleton]; unfold k0_part37_skel
  refine Tr.ld7 (by decide) fun _ k12 => Tr.ld10 (by decide) fun _ k13 => Tr.ld10 (by decide) fun _ k14 =>
      Tr.ld7 (by decide) fun _ k15 => Tr.ld7 (by decide) fun _ k16 => Tr.ld10 (by decide) fun _ k17 => Tr.ld10 (by decide) fun _ k18 =>
      Tr.ld7 (by decide) fun _ k19 => Tr.ld7 (by decide) fun _ k20 => Tr.ld10 (by decide) fun _ k21 => Tr.ld10 (by decide) fun _ k22 =>
      Tr.ld7 (by decide) fun _ k23 => Tr.ld7 (by decide) fun _ k24 => Tr.ld10 (by decide) fun _ k25 => Tr.ld10 (by decide) fun _ k26 =>
      Tr.ld7 (by decide) fun _ k27 => Tr.ld7 (by decide) fun _ k28 => ?_
  refine Tr.done ?_
  refine Tr.bind ?_
  rw [k0_part38_eq_skeleton]; unfold k0_part38_skel
  refine Tr.ld10 (by decide) fun _ k29 => Tr.ld10 (by decide) fun _ k30 => Tr.ld7 (by decide) fun _ k31 =>
      Tr.ld7 (by decide) fun _ k32 => Tr.ld10 (by decide) fun _ k33 => Tr.ld10 (by decide) fun _ k34 => Tr.ld7 (by decide) fun _ k35 =>
      Tr.ld7 (by decide) fun _ k36 => Tr.ld10 (by decide) fun _ k37 => Tr.ld10 (by decide) fun _ k38 => Tr.ld7 (by decide) fun _ k39 =>
      Tr.ld7 (by decide) fun _ k40 => Tr.ld10 (by decide) fun _ k41 => Tr.ld10 (by decide) fun _ k42 => Tr.ld7 (by decide) fun _ k43 =>
      Tr.ld7 (by decide) fun _ k44 => ?_
  refine Tr.done ?_
  refine Tr.bind ?_
  rw [k0_part39_eq_skeleton]; unfold k0_part39_skel
  refine Tr.done ?_
  refine Tr.bind ?_
  rw [k0_part40_eq_skeleton]; unfold k0_part40_skel
  refine Tr.done ?_
  refine Tr.bind ?_
  rw [k0_part41_eq_skeleton]; unfold k0_part41_skel
  have hg := AllGood.inner k1 k2 k3 k4 <| .inner k5 k6 k7 k8 <| .inner k9 k10 k11 k12 <| .inner k13 k14 k15 k16 <|
    .inner k17 k18 k19 k20 <| .inner k21 k22 k23 k24 <| .inner k25 k26 k27 k28 <| .inner k29 k30 k31 k32 <|
    .inner k33 k34 k35 k36 <| .inner k37 k38 k39 k40 <| .inner k41 k42 k43 k44 <| .nil
  refine Tr.skip 6 rfl fun _ => Tr.st6 (r1 := 1248) rfl (hC.inV_rows hw hb 12 (c := 11) (n := 16) (N := 176) (ps :=
    [⟨16, _, _, _, _, 0, 1216⟩, ⟨16, _, _, _, _, 192, 1184⟩, ⟨16, _, _, _, _, 368, 1136⟩,
    ⟨16, _, _, _, _, 528, 1072⟩, ⟨16, _, _, _, _, 672, 992⟩, ⟨16, _, _, _, _, 800, 896⟩,
    ⟨16, _, _, _, _, 912, 784⟩, ⟨16, _, _, _, _, 1008, 656⟩, ⟨16, _, _, _, _, 1088, 512⟩,
    ⟨16, _, _, _, _, 1152, 352⟩, ⟨16, _, _, _, _, 1200, 176⟩]) (by decide) ⟨by simp, by simp⟩ (by simp only [keys, List.map]; decide)
    (by exact hg)) fun hv => ?_
  refine Tr.skip 7 rfl fun _ => Tr.st7 (r1 := 1248) rfl (hC.inS_rows 12 (c := 11) (n := 16) (N := 176) (ps :=
    [⟨16, _, _, _, _, 0, 1216⟩, ⟨16, _, _, _, _, 192, 1184⟩, ⟨16, _, _, _, _, 368, 1136⟩,
    ⟨16, _, _, _, _, 528, 1072⟩, ⟨16, _, _, _, _, 672, 992⟩, ⟨16, _, _, _, _, 800, 896⟩,
    ⟨16, _, _, _, _, 912, 784⟩, ⟨16, _, _, _, _, 1008, 656⟩, ⟨16, _, _, _, _, 1088, 512⟩,
    ⟨16, _, _, _, _, 1152, 352⟩, ⟨16, _, _, _, _, 1200, 176⟩]) (by decide) ⟨by simp, by simp⟩ (by simp only [keys, List.map]; decide)
    (by exact hg)) ?_
  refine Tr.done ?_
  refine Tr.bind ?_
  rw [k0_part42_eq_skeleton]; unfold k0_part42_skel
  refine Tr.skip 10 rfl fun _ => Tr.st10A (r1 := 1248) rfl ((inP_rows hv hx ht).cast _) ?_
  refine Tr.skip 10 rfl fun _ => Tr.st10B (r1 := 1248) rfl (hv.cast _) ?_
  clear * - hC hQ hw hb hx ht
  refine Tr.ld5 fun _ _ => ?_
  refine Tr.skip 8 rfl fun _ => Tr.st8 (r1 := 1232) rfl (hC.rootV_rows (by assumption)) fun hv => ?_
  refine Tr.skip 9 rfl fun _ => Tr.st9 (r1 := 1232) rfl hC.rootS_rows ?_
  refine Tr.skip 11 rfl fun _ => Tr.st11 (r1 := 1232) rfl ((outP_rows hv hx).cast _) ?_
  clear * - hC hQ hw hb hx ht
  refine Tr.ld11 (by decide) fun _ k1 => Tr.ld10 (by decide) fun _ k2 => Tr.ld9 (by decide) fun _ k3 =>
      Tr.ld7 (by decide) fun _ k4 => Tr.ld11 (by decide) fun _ k5 => ?_
  refine Tr.done ?_
  refine Tr.bind ?_
  rw [k0_part43_eq_skeleton]; unfold k0_part43_skel
  refine Tr.ld10 (by decide) fun _ k6 => Tr.ld9 (by decide) fun _ k7 => Tr.ld7 (by decide) fun _ k8 => ?_
  refine Tr.done ?_
  refine Tr.bind ?_
  rw [k0_part44_eq_skeleton]; unfold k0_part44_skel
  have hg := AllGood.outer k1 k2 k3 k4 <| .outer k5 k6 k7 k8 <| .nil
  refine Tr.skip 8 rfl fun _ => Tr.st8 (r1 := 1200) rfl (hC.outV₂_rows hw hb (ps :=
    [⟨16, _, _, _, _, 1232, 176⟩, ⟨16, _, _, _, _, 1232, 0⟩]) ⟨by simp, by simp⟩ (by simp only [keys, List.map]; decide)
    (by exact hg)) fun hv => ?_
  refine Tr.skip 9 rfl fun _ => Tr.st9 (r1 := 1200) rfl (hC.outS₂_rows (ps :=
    [⟨16, _, _, _, _, 1232, 176⟩, ⟨16, _, _, _, _, 1232, 0⟩]) ⟨by simp, by simp⟩ (by simp only [keys, List.map]; decide)
    (by exact hg)) ?_
  refine Tr.skip 11 rfl fun _ => Tr.st11 (r1 := 1200) rfl ((outP_rows hv hx).cast _) ?_
  clear * - hC hQ hw hb hx ht
  refine Tr.ld11 (by decide) fun _ k1 => Tr.ld10 (by decide) fun _ k2 => Tr.ld9 (by decide) fun _ k3 =>
      Tr.ld7 (by decide) fun _ k4 => Tr.ld11 (by decide) fun _ k5 => Tr.ld10 (by decide) fun _ k6 => Tr.ld9 (by decide) fun _ k7 =>
      Tr.ld7 (by decide) fun _ k8 => Tr.ld11 (by decide) fun _ k9 => Tr.ld10 (by decide) fun _ k10 => ?_
  refine Tr.done ?_
  refine Tr.bind ?_
  rw [k0_part45_eq_skeleton]; unfold k0_part45_skel
  refine Tr.ld9 (by decide) fun _ k11 => Tr.ld7 (by decide) fun _ k12 => Tr.ld11 (by decide) fun _ k13 =>
      Tr.ld10 (by decide) fun _ k14 => Tr.ld9 (by decide) fun _ k15 => Tr.ld7 (by decide) fun _ k16 => ?_
  refine Tr.done ?_
  refine Tr.bind ?_
  rw [k0_part46_eq_skeleton]; unfold k0_part46_skel
  have hg := AllGood.outer k1 k2 k3 k4 <| .outer k5 k6 k7 k8 <| .outer k9 k10 k11 k12 <| .outer k13 k14 k15 k16 <|
    .nil
  refine Tr.skip 8 rfl fun _ => Tr.st8 (r1 := 1152) rfl (hC.outV_rows hw hb 10 (c := 2) (n := 48) (N := 96) (ps :=
    [⟨16, _, _, _, _, 1232, 352⟩, ⟨32, _, _, _, _, 1200, 0⟩, ⟨32, _, _, _, _, 1200, 160⟩,
    ⟨16, _, _, _, _, 1232, 192⟩]) (by decide) ⟨by simp, by simp⟩ (by simp only [keys, List.map]; decide)
    (by exact hg)) fun hv => ?_
  refine Tr.skip 9 rfl fun _ => Tr.st9 (r1 := 1152) rfl (hC.outS_rows 10 (c := 2) (n := 48) (N := 96) (ps :=
    [⟨16, _, _, _, _, 1232, 352⟩, ⟨32, _, _, _, _, 1200, 0⟩, ⟨32, _, _, _, _, 1200, 160⟩,
    ⟨16, _, _, _, _, 1232, 192⟩]) (by decide) ⟨by simp, by simp⟩ (by simp only [keys, List.map]; decide)
    (by exact hg)) ?_
  refine Tr.done ?_
  refine Tr.bind ?_
  rw [k0_part47_eq_skeleton]; unfold k0_part47_skel
  refine Tr.skip 11 rfl fun _ => Tr.st11 (r1 := 1152) rfl ((outP_rows hv hx).cast _) ?_
  clear * - hC hQ hw hb hx ht
  refine Tr.ld11 (by decide) fun _ k1 => Tr.ld10 (by decide) fun _ k2 => Tr.ld9 (by decide) fun _ k3 =>
      Tr.ld7 (by decide) fun _ k4 => Tr.ld11 (by decide) fun _ k5 => Tr.ld10 (by decide) fun _ k6 => Tr.ld9 (by decide) fun _ k7 =>
      Tr.ld7 (by decide) fun _ k8 => Tr.ld11 (by decide) fun _ k9 => Tr.ld10 (by decide) fun _ k10 => Tr.ld9 (by decide) fun _ k11 =>
      Tr.ld7 (by decide) fun _ k12 => Tr.ld11 (by decide) fun _ k13 => Tr.ld10 (by decide) fun _ k14 => Tr.ld9 (by decide) fun _ k15 =>
      Tr.ld7 (by decide) fun _ k16 => ?_
  refine Tr.done ?_
  refine Tr.bind ?_
  rw [k0_part48_eq_skeleton]; unfold k0_part48_skel
  refine Tr.ld11 (by decide) fun _ k17 => Tr.ld10 (by decide) fun _ k18 => Tr.ld9 (by decide) fun _ k19 =>
      Tr.ld7 (by decide) fun _ k20 => Tr.ld11 (by decide) fun _ k21 => Tr.ld10 (by decide) fun _ k22 => Tr.ld9 (by decide) fun _ k23 =>
      Tr.ld7 (by decide) fun _ k24 => ?_
  refine Tr.done ?_
  refine Tr.bind ?_
  rw [k0_part49_eq_skeleton]; unfold k0_part49_skel
  refine Tr.done ?_
  refine Tr.bind ?_
  rw [k0_part50_eq_skeleton]; unfold k0_part50_skel
  have hg := AllGood.outer k1 k2 k3 k4 <| .outer k5 k6 k7 k8 <| .outer k9 k10 k11 k12 <| .outer k13 k14 k15 k16 <|
    .outer k17 k18 k19 k20 <| .outer k21 k22 k23 k24 <| .nil
  refine Tr.skip 8 rfl fun _ => Tr.st8 (r1 := 1088) rfl (hC.outV_rows hw hb 9 (c := 3) (n := 64) (N := 192) (ps :=
    [⟨16, _, _, _, _, 1232, 512⟩, ⟨48, _, _, _, _, 1152, 0⟩, ⟨32, _, _, _, _, 1200, 336⟩,
    ⟨32, _, _, _, _, 1200, 192⟩, ⟨48, _, _, _, _, 1152, 144⟩, ⟨16, _, _, _, _, 1232, 368⟩]) (by decide) ⟨by simp, by simp⟩ (by simp only [keys, List.map]; decide)
    (by exact hg)) fun hv => ?_
  refine Tr.skip 9 rfl fun _ => Tr.st9 (r1 := 1088) rfl (hC.outS_rows 9 (c := 3) (n := 64) (N := 192) (ps :=
    [⟨16, _, _, _, _, 1232, 512⟩, ⟨48, _, _, _, _, 1152, 0⟩, ⟨32, _, _, _, _, 1200, 336⟩,
    ⟨32, _, _, _, _, 1200, 192⟩, ⟨48, _, _, _, _, 1152, 144⟩, ⟨16, _, _, _, _, 1232, 368⟩]) (by decide) ⟨by simp, by simp⟩ (by simp only [keys, List.map]; decide)
    (by exact hg)) ?_
  refine Tr.skip 11 rfl fun _ => Tr.st11 (r1 := 1088) rfl ((outP_rows hv hx).cast _) ?_
  clear * - hC hQ hw hb hx ht
  refine Tr.ld11 (by decide) fun _ k1 => Tr.ld10 (by decide) fun _ k2 => Tr.ld9 (by decide) fun _ k3 =>
      Tr.ld7 (by decide) fun _ k4 => Tr.ld11 (by decide) fun _ k5 => Tr.ld10 (by decide) fun _ k6 => ?_
  refine Tr.done ?_
  refine Tr.bind ?_
  rw [k0_part51_eq_skeleton]; unfold k0_part51_skel
  refine Tr.ld9 (by decide) fun _ k7 => Tr.ld7 (by decide) fun _ k8 => Tr.ld11 (by decide) fun _ k9 =>
      Tr.ld10 (by decide) fun _ k10 => Tr.ld9 (by decide) fun _ k11 => Tr.ld7 (by decide) fun _ k12 => Tr.ld11 (by decide) fun _ k13 =>
      Tr.ld10 (by decide) fun _ k14 => Tr.ld9 (by decide) fun _ k15 => Tr.ld7 (by decide) fun _ k16 => Tr.ld11 (by decide) fun _ k17 =>
      Tr.ld10 (by decide) fun _ k18 => Tr.ld9 (by decide) fun _ k19 => Tr.ld7 (by decide) fun _ k20 => Tr.ld11 (by decide) fun _ k21 =>
      Tr.ld10 (by decide) fun _ k22 => Tr.ld9 (by decide) fun _ k23 => ?_
  refine Tr.done ?_
  refine Tr.bind ?_
  rw [k0_part52_eq_skeleton]; unfold k0_part52_skel
  refine Tr.ld7 (by decide) fun _ k24 => Tr.ld11 (by decide) fun _ k25 => Tr.ld10 (by decide) fun _ k26 =>
      Tr.ld9 (by decide) fun _ k27 => Tr.ld7 (by decide) fun _ k28 => Tr.ld11 (by decide) fun _ k29 => Tr.ld10 (by decide) fun _ k30 =>
      Tr.ld9 (by decide) fun _ k31 => Tr.ld7 (by decide) fun _ k32 => ?_
  refine Tr.done ?_
  refine Tr.bind ?_
  rw [k0_part53_eq_skeleton]; unfold k0_part53_skel
  refine Tr.done ?_
  refine Tr.bind ?_
  rw [k0_part54_eq_skeleton]; unfold k0_part54_skel
  have hg := AllGood.outer k1 k2 k3 k4 <| .outer k5 k6 k7 k8 <| .outer k9 k10 k11 k12 <| .outer k13 k14 k15 k16 <|
    .outer k17 k18 k19 k20 <| .outer k21 k22 k23 k24 <| .outer k25 k26 k27 k28 <| .outer k29 k30 k31 k32 <| .nil
  refine Tr.skip 8 rfl fun _ => Tr.st8 (r1 := 1008) rfl (hC.outV_rows hw hb 8 (c := 4) (n := 80) (N := 320) (ps :=
    [⟨16, _, _, _, _, 1232, 656⟩, ⟨64, _, _, _, _, 1088, 0⟩, ⟨32, _, _, _, _, 1200, 496⟩,
    ⟨48, _, _, _, _, 1152, 192⟩, ⟨48, _, _, _, _, 1152, 320⟩, ⟨32, _, _, _, _, 1200, 368⟩,
    ⟨64, _, _, _, _, 1088, 128⟩, ⟨16, _, _, _, _, 1232, 528⟩]) (by decide) ⟨by simp, by simp⟩ (by simp only [keys, List.map]; decide)
    (by exact hg)) fun hv => ?_
  refine Tr.skip 9 rfl fun _ => Tr.st9 (r1 := 1008) rfl (hC.outS_rows 8 (c := 4) (n := 80) (N := 320) (ps :=
    [⟨16, _, _, _, _, 1232, 656⟩, ⟨64, _, _, _, _, 1088, 0⟩, ⟨32, _, _, _, _, 1200, 496⟩,
    ⟨48, _, _, _, _, 1152, 192⟩, ⟨48, _, _, _, _, 1152, 320⟩, ⟨32, _, _, _, _, 1200, 368⟩,
    ⟨64, _, _, _, _, 1088, 128⟩, ⟨16, _, _, _, _, 1232, 528⟩]) (by decide) ⟨by simp, by simp⟩ (by simp only [keys, List.map]; decide)
    (by exact hg)) ?_
  refine Tr.done ?_
  refine Tr.bind ?_
  rw [k0_part55_eq_skeleton]; unfold k0_part55_skel
  refine Tr.skip 11 rfl fun _ => Tr.st11 (r1 := 1008) rfl ((outP_rows hv hx).cast _) ?_
  clear * - hC hQ hw hb hx ht
  refine Tr.ld11 (by decide) fun _ k1 => Tr.ld10 (by decide) fun _ k2 => Tr.ld9 (by decide) fun _ k3 =>
      Tr.ld7 (by decide) fun _ k4 => Tr.ld11 (by decide) fun _ k5 => Tr.ld10 (by decide) fun _ k6 => Tr.ld9 (by decide) fun _ k7 =>
      Tr.ld7 (by decide) fun _ k8 => Tr.ld11 (by decide) fun _ k9 => Tr.ld10 (by decide) fun _ k10 => Tr.ld9 (by decide) fun _ k11 =>
      Tr.ld7 (by decide) fun _ k12 => Tr.ld11 (by decide) fun _ k13 => Tr.ld10 (by decide) fun _ k14 => Tr.ld9 (by decide) fun _ k15 =>
      Tr.ld7 (by decide) fun _ k16 => ?_
  refine Tr.done ?_
  refine Tr.bind ?_
  rw [k0_part56_eq_skeleton]; unfold k0_part56_skel
  refine Tr.ld11 (by decide) fun _ k17 => Tr.ld10 (by decide) fun _ k18 => Tr.ld9 (by decide) fun _ k19 =>
      Tr.ld7 (by decide) fun _ k20 => Tr.ld11 (by decide) fun _ k21 => Tr.ld10 (by decide) fun _ k22 => Tr.ld9 (by decide) fun _ k23 =>
      Tr.ld7 (by decide) fun _ k24 => Tr.ld11 (by decide) fun _ k25 => Tr.ld10 (by decide) fun _ k26 => Tr.ld9 (by decide) fun _ k27 =>
      Tr.ld7 (by decide) fun _ k28 => Tr.ld11 (by decide) fun _ k29 => Tr.ld10 (by decide) fun _ k30 => Tr.ld9 (by decide) fun _ k31 =>
      Tr.ld7 (by decide) fun _ k32 => Tr.ld11 (by decide) fun _ k33 => ?_
  refine Tr.done ?_
  refine Tr.bind ?_
  rw [k0_part57_eq_skeleton]; unfold k0_part57_skel
  refine Tr.ld10 (by decide) fun _ k34 => Tr.ld9 (by decide) fun _ k35 => Tr.ld7 (by decide) fun _ k36 =>
      Tr.ld11 (by decide) fun _ k37 => Tr.ld10 (by decide) fun _ k38 => Tr.ld9 (by decide) fun _ k39 =>
      Tr.ld7 (by decide) fun _ k40 => ?_
  refine Tr.done ?_
  refine Tr.bind ?_
  rw [k0_part58_eq_skeleton]; unfold k0_part58_skel
  refine Tr.done ?_
  refine Tr.bind ?_
  rw [k0_part59_eq_skeleton]; unfold k0_part59_skel
  refine Tr.done ?_
  refine Tr.bind ?_
  rw [k0_part60_eq_skeleton]; unfold k0_part60_skel
  have hg := AllGood.outer k1 k2 k3 k4 <| .outer k5 k6 k7 k8 <| .outer k9 k10 k11 k12 <| .outer k13 k14 k15 k16 <|
    .outer k17 k18 k19 k20 <| .outer k21 k22 k23 k24 <| .outer k25 k26 k27 k28 <| .outer k29 k30 k31 k32 <|
    .outer k33 k34 k35 k36 <| .outer k37 k38 k39 k40 <| .nil
  refine Tr.skip 8 rfl fun _ => Tr.st8 (r1 := 912) rfl (hC.outV_rows hw hb 7 (c := 5) (n := 96) (N := 480) (ps :=
    [⟨16, _, _, _, _, 1232, 784⟩, ⟨80, _, _, _, _, 1008, 0⟩, ⟨32, _, _, _, _, 1200, 640⟩,
    ⟨64, _, _, _, _, 1088, 192⟩, ⟨48, _, _, _, _, 1152, 480⟩, ⟨48, _, _, _, _, 1152, 368⟩,
    ⟨64, _, _, _, _, 1088, 304⟩, ⟨32, _, _, _, _, 1200, 528⟩, ⟨80, _, _, _, _, 1008, 112⟩,
    ⟨16, _, _, _, _, 1232, 672⟩]) (by decide) ⟨by simp, by simp⟩ (by simp only [keys, List.map]; decide)
    (by exact hg)) fun hv => ?_
  refine Tr.skip 9 rfl fun _ => Tr.st9 (r1 := 912) rfl (hC.outS_rows 7 (c := 5) (n := 96) (N := 480) (ps :=
    [⟨16, _, _, _, _, 1232, 784⟩, ⟨80, _, _, _, _, 1008, 0⟩, ⟨32, _, _, _, _, 1200, 640⟩,
    ⟨64, _, _, _, _, 1088, 192⟩, ⟨48, _, _, _, _, 1152, 480⟩, ⟨48, _, _, _, _, 1152, 368⟩,
    ⟨64, _, _, _, _, 1088, 304⟩, ⟨32, _, _, _, _, 1200, 528⟩, ⟨80, _, _, _, _, 1008, 112⟩,
    ⟨16, _, _, _, _, 1232, 672⟩]) (by decide) ⟨by simp, by simp⟩ (by simp only [keys, List.map]; decide)
    (by exact hg)) ?_
  refine Tr.skip 11 rfl fun _ => Tr.st11 (r1 := 912) rfl ((outP_rows hv hx).cast _) ?_
  clear * - hC hQ hw hb hx ht
  refine Tr.ld11 (by decide) fun _ k1 => Tr.ld10 (by decide) fun _ k2 => Tr.ld9 (by decide) fun _ k3 =>
      Tr.ld7 (by decide) fun _ k4 => Tr.ld11 (by decide) fun _ k5 => Tr.ld10 (by decide) fun _ k6 => Tr.ld9 (by decide) fun _ k7 =>
      Tr.ld7 (by decide) fun _ k8 => Tr.ld11 (by decide) fun _ k9 => Tr.ld10 (by decide) fun _ k10 => ?_
  refine Tr.done ?_
  refine Tr.done ?_
  refine Tr.bind ?_
  rw [k0_part112_eq_skeleton]; unfold k0_part112_skel
  refine Tr.bind ?_
  rw [k0_part61_eq_skeleton]; unfold k0_part61_skel
  refine Tr.ld9 (by decide) fun _ k11 => Tr.ld7 (by decide) fun _ k12 => Tr.ld11 (by decide) fun _ k13 =>
      Tr.ld10 (by decide) fun _ k14 => Tr.ld9 (by decide) fun _ k15 => Tr.ld7 (by decide) fun _ k16 => Tr.ld11 (by decide) fun _ k17 =>
      Tr.ld10 (by decide) fun _ k18 => Tr.ld9 (by decide) fun _ k19 => Tr.ld7 (by decide) fun _ k20 => Tr.ld11 (by decide) fun _ k21 =>
      Tr.ld10 (by decide) fun _ k22 => Tr.ld9 (by decide) fun _ k23 => Tr.ld7 (by decide) fun _ k24 => Tr.ld11 (by decide) fun _ k25 =>
      Tr.ld10 (by decide) fun _ k26 => Tr.ld9 (by decide) fun _ k27 => ?_
  refine Tr.done ?_
  refine Tr.bind ?_
  rw [k0_part62_eq_skeleton]; unfold k0_part62_skel
  refine Tr.ld7 (by decide) fun _ k28 => Tr.ld11 (by decide) fun _ k29 => Tr.ld10 (by decide) fun _ k30 =>
      Tr.ld9 (by decide) fun _ k31 => Tr.ld7 (by decide) fun _ k32 => Tr.ld11 (by decide) fun _ k33 => Tr.ld10 (by decide) fun _ k34 =>
      Tr.ld9 (by decide) fun _ k35 => Tr.ld7 (by decide) fun _ k36 => Tr.ld11 (by decide) fun _ k37 => Tr.ld10 (by decide) fun _ k38 =>
      Tr.ld9 (by decide) fun _ k39 => Tr.ld7 (by decide) fun _ k40 => Tr.ld11 (by decide) fun _ k41 => Tr.ld10 (by decide) fun _ k42 =>
      Tr.ld9 (by decide) fun _ k43 => Tr.ld7 (by decide) fun _ k44 => ?_
  refine Tr.done ?_
  refine Tr.bind ?_
  rw [k0_part63_eq_skeleton]; unfold k0_part63_skel
  refine Tr.ld11 (by decide) fun _ k45 => Tr.ld10 (by decide) fun _ k46 => Tr.ld9 (by decide) fun _ k47 =>
      Tr.ld7 (by decide) fun _ k48 => ?_
  refine Tr.done ?_
  refine Tr.bind ?_
  rw [k0_part64_eq_skeleton]; unfold k0_part64_skel
  refine Tr.done ?_
  refine Tr.bind ?_
  rw [k0_part65_eq_skeleton]; unfold k0_part65_skel
  refine Tr.done ?_
  refine Tr.bind ?_
  rw [k0_part66_eq_skeleton]; unfold k0_part66_skel
  have hg := AllGood.outer k1 k2 k3 k4 <| .outer k5 k6 k7 k8 <| .outer k9 k10 k11 k12 <| .outer k13 k14 k15 k16 <|
    .outer k17 k18 k19 k20 <| .outer k21 k22 k23 k24 <| .outer k25 k26 k27 k28 <| .outer k29 k30 k31 k32 <|
    .outer k33 k34 k35 k36 <| .outer k37 k38 k39 k40 <| .outer k41 k42 k43 k44 <| .outer k45 k46 k47 k48 <| .nil
  refine Tr.skip 8 rfl fun _ => Tr.st8 (r1 := 800) rfl (hC.outV_rows hw hb 6 (c := 6) (n := 112) (N := 672) (ps :=
    [⟨16, _, _, _, _, 1232, 896⟩, ⟨96, _, _, _, _, 912, 0⟩, ⟨32, _, _, _, _, 1200, 768⟩,
    ⟨80, _, _, _, _, 1008, 192⟩, ⟨48, _, _, _, _, 1152, 624⟩, ⟨64, _, _, _, _, 1088, 368⟩,
    ⟨64, _, _, _, _, 1088, 464⟩, ⟨48, _, _, _, _, 1152, 528⟩, ⟨80, _, _, _, _, 1008, 288⟩,
    ⟨32, _, _, _, _, 1200, 672⟩, ⟨96, _, _, _, _, 912, 96⟩, ⟨16, _, _, _, _, 1232, 800⟩]) (by decide) ⟨by simp, by simp⟩ (by simp only [keys, List.map]; decide)
    (by exact hg)) fun hv => ?_
  refine Tr.skip 9 rfl fun _ => Tr.st9 (r1 := 800) rfl (hC.outS_rows 6 (c := 6) (n := 112) (N := 672) (ps :=
    [⟨16, _, _, _, _, 1232, 896⟩, ⟨96, _, _, _, _, 912, 0⟩, ⟨32, _, _, _, _, 1200, 768⟩,
    ⟨80, _, _, _, _, 1008, 192⟩, ⟨48, _, _, _, _, 1152, 624⟩, ⟨64, _, _, _, _, 1088, 368⟩,
    ⟨64, _, _, _, _, 1088, 464⟩, ⟨48, _, _, _, _, 1152, 528⟩, ⟨80, _, _, _, _, 1008, 288⟩,
    ⟨32, _, _, _, _, 1200, 672⟩, ⟨96, _, _, _, _, 912, 96⟩, ⟨16, _, _, _, _, 1232, 800⟩]) (by decide) ⟨by simp, by simp⟩ (by simp only [keys, List.map]; decide)
    (by exact hg)) ?_
  refine Tr.skip 11 rfl fun _ => Tr.st11 (r1 := 800) rfl ((outP_rows hv hx).cast _) ?_
  clear * - hC hQ hw hb hx ht
  refine Tr.ld11 (by decide) fun _ k1 => Tr.ld10 (by decide) fun _ k2 => Tr.ld9 (by decide) fun _ k3 =>
      Tr.ld7 (by decide) fun _ k4 => Tr.ld11 (by decide) fun _ k5 => ?_
  refine Tr.done ?_
  refine Tr.bind ?_
  rw [k0_part67_eq_skeleton]; unfold k0_part67_skel
  refine Tr.ld10 (by decide) fun _ k6 => Tr.ld9 (by decide) fun _ k7 => Tr.ld7 (by decide) fun _ k8 =>
      Tr.ld11 (by decide) fun _ k9 => Tr.ld10 (by decide) fun _ k10 => Tr.ld9 (by decide) fun _ k11 => Tr.ld7 (by decide) fun _ k12 =>
      Tr.ld11 (by decide) fun _ k13 => Tr.ld10 (by decide) fun _ k14 => Tr.ld9 (by decide) fun _ k15 => Tr.ld7 (by decide) fun _ k16 =>
      Tr.ld11 (by decide) fun _ k17 => Tr.ld10 (by decide) fun _ k18 => Tr.ld9 (by decide) fun _ k19 => Tr.ld7 (by decide) fun _ k20 =>
      Tr.ld11 (by decide) fun _ k21 => Tr.ld10 (by decide) fun _ k22 => Tr.ld9 (by decide) fun _ k23 => ?_
  refine Tr.done ?_
  refine Tr.bind ?_
  rw [k0_part68_eq_skeleton]; unfold k0_part68_skel
  refine Tr.ld7 (by decide) fun _ k24 => Tr.ld11 (by decide) fun _ k25 => Tr.ld10 (by decide) fun _ k26 =>
      Tr.ld9 (by decide) fun _ k27 => Tr.ld7 (by decide) fun _ k28 => Tr.ld11 (by decide) fun _ k29 => Tr.ld10 (by decide) fun _ k30 =>
      Tr.ld9 (by decide) fun _ k31 => Tr.ld7 (by decide) fun _ k32 => Tr.ld11 (by decide) fun _ k33 => Tr.ld10 (by decide) fun _ k34 =>
      Tr.ld9 (by decide) fun _ k35 => Tr.ld7 (by decide) fun _ k36 => Tr.ld11 (by decide) fun _ k37 => Tr.ld10 (by decide) fun _ k38 =>
      Tr.ld9 (by decide) fun _ k39 => Tr.ld7 (by decide) fun _ k40 => ?_
  refine Tr.done ?_
  refine Tr.bind ?_
  rw [k0_part69_eq_skeleton]; unfold k0_part69_skel
  refine Tr.ld11 (by decide) fun _ k41 => Tr.ld10 (by decide) fun _ k42 => Tr.ld9 (by decide) fun _ k43 =>
      Tr.ld7 (by decide) fun _ k44 => Tr.ld11 (by decide) fun _ k45 => Tr.ld10 (by decide) fun _ k46 => Tr.ld9 (by decide) fun _ k47 =>
      Tr.ld7 (by decide) fun _ k48 => Tr.ld11 (by decide) fun _ k49 => Tr.ld10 (by decide) fun _ k50 => Tr.ld9 (by decide) fun _ k51 =>
      Tr.ld7 (by decide) fun _ k52 => Tr.ld11 (by decide) fun _ k53 => Tr.ld10 (by decide) fun _ k54 => Tr.ld9 (by decide) fun _ k55 =>
      Tr.ld7 (by decide) fun _ k56 => ?_
  refine Tr.done ?_
  refine Tr.bind ?_
  rw [k0_part70_eq_skeleton]; unfold k0_part70_skel
  refine Tr.done ?_
  refine Tr.bind ?_
  rw [k0_part71_eq_skeleton]; unfold k0_part71_skel
  refine Tr.done ?_
  refine Tr.bind ?_
  rw [k0_part72_eq_skeleton]; unfold k0_part72_skel
  refine Tr.done ?_
  refine Tr.bind ?_
  rw [k0_part73_eq_skeleton]; unfold k0_part73_skel
  have hg := AllGood.outer k1 k2 k3 k4 <| .outer k5 k6 k7 k8 <| .outer k9 k10 k11 k12 <| .outer k13 k14 k15 k16 <|
    .outer k17 k18 k19 k20 <| .outer k21 k22 k23 k24 <| .outer k25 k26 k27 k28 <| .outer k29 k30 k31 k32 <|
    .outer k33 k34 k35 k36 <| .outer k37 k38 k39 k40 <| .outer k41 k42 k43 k44 <| .outer k45 k46 k47 k48 <|
    .outer k49 k50 k51 k52 <| .outer k53 k54 k55 k56 <| .nil
  refine Tr.skip 8 rfl fun _ => Tr.st8 (r1 := 672) rfl (hC.outV_rows hw hb 5 (c := 7) (n := 128) (N := 896) (ps :=
    [⟨16, _, _, _, _, 1232, 992⟩, ⟨112, _, _, _, _, 800, 0⟩, ⟨32, _, _, _, _, 1200, 880⟩,
    ⟨96, _, _, _, _, 912, 192⟩, ⟨48, _, _, _, _, 1152, 752⟩, ⟨80, _, _, _, _, 1008, 368⟩,
    ⟨64, _, _, _, _, 1088, 608⟩, ⟨64, _, _, _, _, 1088, 528⟩, ⟨80, _, _, _, _, 1008, 448⟩,
    ⟨48, _, _, _, _, 1152, 672⟩, ⟨96, _, _, _, _, 912, 272⟩, ⟨32, _, _, _, _, 1200, 800⟩,
    ⟨112, _, _, _, _, 800, 80⟩, ⟨16, _, _, _, _, 1232, 912⟩]) (by decide) ⟨by simp, by simp⟩ (by simp only [keys, List.map]; decide)
    (by exact hg)) fun hv => ?_
  refine Tr.skip 9 rfl fun _ => Tr.st9 (r1 := 672) rfl (hC.outS_rows 5 (c := 7) (n := 128) (N := 896) (ps :=
    [⟨16, _, _, _, _, 1232, 992⟩, ⟨112, _, _, _, _, 800, 0⟩, ⟨32, _, _, _, _, 1200, 880⟩,
    ⟨96, _, _, _, _, 912, 192⟩, ⟨48, _, _, _, _, 1152, 752⟩, ⟨80, _, _, _, _, 1008, 368⟩,
    ⟨64, _, _, _, _, 1088, 608⟩, ⟨64, _, _, _, _, 1088, 528⟩, ⟨80, _, _, _, _, 1008, 448⟩,
    ⟨48, _, _, _, _, 1152, 672⟩, ⟨96, _, _, _, _, 912, 272⟩, ⟨32, _, _, _, _, 1200, 800⟩,
    ⟨112, _, _, _, _, 800, 80⟩, ⟨16, _, _, _, _, 1232, 912⟩]) (by decide) ⟨by simp, by simp⟩ (by simp only [keys, List.map]; decide)
    (by exact hg)) ?_
  refine Tr.skip 11 rfl fun _ => Tr.st11 (r1 := 672) rfl ((outP_rows hv hx).cast _) ?_
  clear * - hC hQ hw hb hx ht
  refine Tr.ld11 (by decide) fun _ k1 => Tr.ld10 (by decide) fun _ k2 => Tr.ld9 (by decide) fun _ k3 => ?_
  refine Tr.done ?_
  refine Tr.bind ?_
  rw [k0_part74_eq_skeleton]; unfold k0_part74_skel
  refine Tr.ld7 (by decide) fun _ k4 => Tr.ld11 (by decide) fun _ k5 => Tr.ld10 (by decide) fun _ k6 =>
      Tr.ld9 (by decide) fun _ k7 => Tr.ld7 (by decide) fun _ k8 => Tr.ld11 (by decide) fun _ k9 => Tr.ld10 (by decide) fun _ k10 =>
      Tr.ld9 (by decide) fun _ k11 => Tr.ld7 (by decide) fun _ k12 => Tr.ld11 (by decide) fun _ k13 => Tr.ld10 (by decide) fun _ k14 =>
      Tr.ld9 (by decide) fun _ k15 => Tr.ld7 (by decide) fun _ k16 => Tr.ld11 (by decide) fun _ k17 => Tr.ld10 (by decide) fun _ k18 =>
      Tr.ld9 (by decide) fun _ k19 => Tr.ld7 (by decide) fun _ k20 => ?_
  refine Tr.done ?_
  refine Tr.bind ?_
  rw [k0_part75_eq_skeleton]; unfold k0_part75_skel
  refine Tr.ld11 (by decide) fun _ k21 => Tr.ld10 (by decide) fun _ k22 => Tr.ld9 (by decide) fun _ k23 =>
      Tr.ld7 (by decide) fun _ k24 => Tr.ld11 (by decide) fun _ k25 => Tr.ld10 (by decide) fun _ k26 => Tr.ld9 (by decide) fun _ k27 =>
      Tr.ld7 (by decide) fun _ k28 => Tr.ld11 (by decide) fun _ k29 => Tr.ld10 (by decide) fun _ k30 => Tr.ld9 (by decide) fun _ k31 =>
      Tr.ld7 (by decide) fun _ k32 => Tr.ld11 (by decide) fun _ k33 => Tr.ld10 (by decide) fun _ k34 => Tr.ld9 (by decide) fun _ k35 =>
      Tr.ld7 (by decide) fun _ k36 => Tr.ld11 (by decide) fun _ k37 => ?_
  refine Tr.done ?_
  refine Tr.bind ?_
  rw [k0_part76_eq_skeleton]; unfold k0_part76_skel
  refine Tr.ld10 (by decide) fun _ k38 => Tr.ld9 (by decide) fun _ k39 => Tr.ld7 (by decide) fun _ k40 =>
      Tr.ld11 (by decide) fun _ k41 => Tr.ld10 (by decide) fun _ k42 => Tr.ld9 (by decide) fun _ k43 => Tr.ld7 (by decide) fun _ k44 =>
      Tr.ld11 (by decide) fun _ k45 => Tr.ld10 (by decide) fun _ k46 => Tr.ld9 (by decide) fun _ k47 => Tr.ld7 (by decide) fun _ k48 =>
      Tr.ld11 (by decide) fun _ k49 => Tr.ld10 (by decide) fun _ k50 => Tr.ld9 (by decide) fun _ k51 => Tr.ld7 (by decide) fun _ k52 =>
      Tr.ld11 (by decide) fun _ k53 => Tr.ld10 (by decide) fun _ k54 => ?_
  refine Tr.done ?_
  refine Tr.bind ?_
  rw [k0_part77_eq_skeleton]; unfold k0_part77_skel
  refine Tr.ld9 (by decide) fun _ k55 => Tr.ld7 (by decide) fun _ k56 => Tr.ld11 (by decide) fun _ k57 =>
      Tr.ld10 (by decide) fun _ k58 => Tr.ld9 (by decide) fun _ k59 => Tr.ld7 (by decide) fun _ k60 => Tr.ld11 (by decide) fun _ k61 =>
      Tr.ld10 (by decide) fun _ k62 => Tr.ld9 (by decide) fun _ k63 => Tr.ld7 (by decide) fun _ k64 => ?_
  refine Tr.done ?_
  refine Tr.bind ?_
  rw [k0_part78_eq_skeleton]; unfold k0_part78_skel
  refine Tr.done ?_
  refine Tr.bind ?_
  rw [k0_part79_eq_skeleton]; unfold k0_part79_skel
  refine Tr.done ?_
  refine Tr.bind ?_
  rw [k0_part80_eq_skeleton]; unfold k0_part80_skel
  refine Tr.done ?_
  refine Tr.bind ?_
  rw [k0_part81_eq_skeleton]; unfold k0_part81_skel
  have hg := AllGood.outer k1 k2 k3 k4 <| .outer k5 k6 k7 k8 <| .outer k9 k10 k11 k12 <| .outer k13 k14 k15 k16 <|
    .outer k17 k18 k19 k20 <| .outer k21 k22 k23 k24 <| .outer k25 k26 k27 k28 <| .outer k29 k30 k31 k32 <|
    .outer k33 k34 k35 k36 <| .outer k37 k38 k39 k40 <| .outer k41 k42 k43 k44 <| .outer k45 k46 k47 k48 <|
    .outer k49 k50 k51 k52 <| .outer k53 k54 k55 k56 <| .outer k57 k58 k59 k60 <| .outer k61 k62 k63 k64 <| .nil
  refine Tr.skip 8 rfl fun _ => Tr.st8 (r1 := 528) rfl (hC.outV_rows hw hb 4 (c := 8) (n := 144) (N := 1152) (ps :=
    [⟨16, _, _, _, _, 1232, 1072⟩, ⟨128, _, _, _, _, 672, 0⟩, ⟨32, _, _, _, _, 1200, 976⟩,
    ⟨112, _, _, _, _, 800, 192⟩, ⟨48, _, _, _, _, 1152, 864⟩, ⟨96, _, _, _, _, 912, 368⟩,
    ⟨64, _, _, _, _, 1088, 736⟩, ⟨80, _, _, _, _, 1008, 528⟩, ⟨80, _, _, _, _, 1008, 592⟩,
    ⟨64, _, _, _, _, 1088, 672⟩, ⟨96, _, _, _, _, 912, 432⟩, ⟨48, _, _, _, _, 1152, 800⟩,
    ⟨112, _, _, _, _, 800, 256⟩, ⟨32, _, _, _, _, 1200, 912⟩, ⟨128, _, _, _, _, 672, 64⟩,
    ⟨16, _, _, _, _, 1232, 1008⟩]) (by decide) ⟨by simp, by simp⟩ (by simp only [keys, List.map]; decide)
    (by exact hg)) fun hv => ?_
  refine Tr.skip 9 rfl fun _ => Tr.st9 (r1 := 528) rfl (hC.outS_rows 4 (c := 8) (n := 144) (N := 1152) (ps :=
    [⟨16, _, _, _, _, 1232, 1072⟩, ⟨128, _, _, _, _, 672, 0⟩, ⟨32, _, _, _, _, 1200, 976⟩,
    ⟨112, _, _, _, _, 800, 192⟩, ⟨48, _, _, _, _, 1152, 864⟩, ⟨96, _, _, _, _, 912, 368⟩,
    ⟨64, _, _, _, _, 1088, 736⟩, ⟨80, _, _, _, _, 1008, 528⟩, ⟨80, _, _, _, _, 1008, 592⟩,
    ⟨64, _, _, _, _, 1088, 672⟩, ⟨96, _, _, _, _, 912, 432⟩, ⟨48, _, _, _, _, 1152, 800⟩,
    ⟨112, _, _, _, _, 800, 256⟩, ⟨32, _, _, _, _, 1200, 912⟩, ⟨128, _, _, _, _, 672, 64⟩,
    ⟨16, _, _, _, _, 1232, 1008⟩]) (by decide) ⟨by simp, by simp⟩ (by simp only [keys, List.map]; decide)
    (by exact hg)) ?_
  refine Tr.skip 11 rfl fun _ => Tr.st11 (r1 := 528) rfl ((outP_rows hv hx).cast _) ?_
  clear * - hC hQ hw hb hx ht
  refine Tr.ld11 (by decide) fun _ k1 => Tr.ld10 (by decide) fun _ k2 => ?_
  refine Tr.done ?_
  refine Tr.bind ?_
  rw [k0_part82_eq_skeleton]; unfold k0_part82_skel
  refine Tr.ld9 (by decide) fun _ k3 => Tr.ld7 (by decide) fun _ k4 => Tr.ld11 (by decide) fun _ k5 =>
      Tr.ld10 (by decide) fun _ k6 => Tr.ld9 (by decide) fun _ k7 => Tr.ld7 (by decide) fun _ k8 => Tr.ld11 (by decide) fun _ k9 =>
      Tr.ld10 (by decide) fun _ k10 => Tr.ld9 (by decide) fun _ k11 => Tr.ld7 (by decide) fun _ k12 => Tr.ld11 (by decide) fun _ k13 =>
      Tr.ld10 (by decide) fun _ k14 => Tr.ld9 (by decide) fun _ k15 => Tr.ld7 (by decide) fun _ k16 => Tr.ld11 (by decide) fun _ k17 =>
      Tr.ld10 (by decide) fun _ k18 => Tr.ld9 (by decide) fun _ k19 => ?_
  refine Tr.done ?_
  refine Tr.bind ?_
  rw [k0_part83_eq_skeleton]; unfold k0_part83_skel
  refine Tr.ld7 (by decide) fun _ k20 => Tr.ld11 (by decide) fun _ k21 => Tr.ld10 (by decide) fun _ k22 =>
      Tr.ld9 (by decide) fun _ k23 => Tr.ld7 (by decide) fun _ k24 => Tr.ld11 (by decide) fun _ k25 => Tr.ld10 (by decide) fun _ k26 =>
      Tr.ld9 (by decide) fun _ k27 => Tr.ld7 (by decide) fun _ k28 => Tr.ld11 (by decide) fun _ k29 => Tr.ld10 (by decide) fun _ k30 =>
      Tr.ld9 (by decide) fun _ k31 => Tr.ld7 (by decide) fun _ k32 => Tr.ld11 (by decide) fun _ k33 => Tr.ld10 (by decide) fun _ k34 =>
      Tr.ld9 (by decide) fun _ k35 => Tr.ld7 (by decide) fun _ k36 => ?_
  refine Tr.done ?_
  refine Tr.bind ?_
  rw [k0_part84_eq_skeleton]; unfold k0_part84_skel
  refine Tr.ld11 (by decide) fun _ k37 => Tr.ld10 (by decide) fun _ k38 => Tr.ld9 (by decide) fun _ k39 =>
      Tr.ld7 (by decide) fun _ k40 => Tr.ld11 (by decide) fun _ k41 => Tr.ld10 (by decide) fun _ k42 => Tr.ld9 (by decide) fun _ k43 =>
      Tr.ld7 (by decide) fun _ k44 => Tr.ld11 (by decide) fun _ k45 => Tr.ld10 (by decide) fun _ k46 => Tr.ld9 (by decide) fun _ k47 =>
      Tr.ld7 (by decide) fun _ k48 => Tr.ld11 (by decide) fun _ k49 => Tr.ld10 (by decide) fun _ k50 => Tr.ld9 (by decide) fun _ k51 =>
      Tr.ld7 (by decide) fun _ k52 => Tr.ld11 (by decide) fun _ k53 => ?_
  refine Tr.done ?_
  refine Tr.bind ?_
  rw [k0_part85_eq_skeleton]; unfold k0_part85_skel
  refine Tr.ld10 (by decide) fun _ k54 => Tr.ld9 (by decide) fun _ k55 => Tr.ld7 (by decide) fun _ k56 =>
      Tr.ld11 (by decide) fun _ k57 => Tr.ld10 (by decide) fun _ k58 => Tr.ld9 (by decide) fun _ k59 => Tr.ld7 (by decide) fun _ k60 =>
      Tr.ld11 (by decide) fun _ k61 => Tr.ld10 (by decide) fun _ k62 => Tr.ld9 (by decide) fun _ k63 => Tr.ld7 (by decide) fun _ k64 =>
      Tr.ld11 (by decide) fun _ k65 => Tr.ld10 (by decide) fun _ k66 => Tr.ld9 (by decide) fun _ k67 => Tr.ld7 (by decide) fun _ k68 =>
      Tr.ld11 (by decide) fun _ k69 => Tr.ld10 (by decide) fun _ k70 => Tr.ld9 (by decide) fun _ k71 => ?_
  refine Tr.done ?_
  refine Tr.bind ?_
  rw [k0_part86_eq_skeleton]; unfold k0_part86_skel
  refine Tr.ld7 (by decide) fun _ k72 => ?_
  refine Tr.done ?_
  refine Tr.bind ?_
  rw [k0_part87_eq_skeleton]; unfold k0_part87_skel
  refine Tr.done ?_
  refine Tr.bind ?_
  rw [k0_part88_eq_skeleton]; unfold k0_part88_skel
  refine Tr.done ?_
  refine Tr.bind ?_
  rw [k0_part89_eq_skeleton]; unfold k0_part89_skel
  refine Tr.done ?_
  refine Tr.bind ?_
  rw [k0_part90_eq_skeleton]; unfold k0_part90_skel
  have hg := AllGood.outer k1 k2 k3 k4 <| .outer k5 k6 k7 k8 <| .outer k9 k10 k11 k12 <| .outer k13 k14 k15 k16 <|
    .outer k17 k18 k19 k20 <| .outer k21 k22 k23 k24 <| .outer k25 k26 k27 k28 <| .outer k29 k30 k31 k32 <|
    .outer k33 k34 k35 k36 <| .outer k37 k38 k39 k40 <| .outer k41 k42 k43 k44 <| .outer k45 k46 k47 k48 <|
    .outer k49 k50 k51 k52 <| .outer k53 k54 k55 k56 <| .outer k57 k58 k59 k60 <| .outer k61 k62 k63 k64 <|
    .outer k65 k66 k67 k68 <| .outer k69 k70 k71 k72 <| .nil
  refine Tr.skip 8 rfl fun _ => Tr.st8 (r1 := 368) rfl (hC.outV_rows hw hb 3 (c := 9) (n := 160) (N := 1440) (ps :=
    [⟨16, _, _, _, _, 1232, 1136⟩, ⟨144, _, _, _, _, 528, 0⟩, ⟨32, _, _, _, _, 1200, 1056⟩,
    ⟨128, _, _, _, _, 672, 192⟩, ⟨48, _, _, _, _, 1152, 960⟩, ⟨112, _, _, _, _, 800, 368⟩,
    ⟨64, _, _, _, _, 1088, 848⟩, ⟨96, _, _, _, _, 912, 528⟩, ⟨80, _, _, _, _, 1008, 720⟩,
    ⟨80, _, _, _, _, 1008, 672⟩, ⟨96, _, _, _, _, 912, 576⟩, ⟨64, _, _, _, _, 1088, 800⟩,
    ⟨112, _, _, _, _, 800, 416⟩, ⟨48, _, _, _, _, 1152, 912⟩, ⟨128, _, _, _, _, 672, 240⟩,
    ⟨32, _, _, _, _, 1200, 1008⟩, ⟨144, _, _, _, _, 528, 48⟩, ⟨16, _, _, _, _, 1232, 1088⟩]) (by decide) ⟨by simp, by simp⟩ (by simp only [keys, List.map]; decide)
    (by exact hg)) fun hv => ?_
  refine Tr.skip 9 rfl fun _ => Tr.st9 (r1 := 368) rfl (hC.outS_rows 3 (c := 9) (n := 160) (N := 1440) (ps :=
    [⟨16, _, _, _, _, 1232, 1136⟩, ⟨144, _, _, _, _, 528, 0⟩, ⟨32, _, _, _, _, 1200, 1056⟩,
    ⟨128, _, _, _, _, 672, 192⟩, ⟨48, _, _, _, _, 1152, 960⟩, ⟨112, _, _, _, _, 800, 368⟩,
    ⟨64, _, _, _, _, 1088, 848⟩, ⟨96, _, _, _, _, 912, 528⟩, ⟨80, _, _, _, _, 1008, 720⟩,
    ⟨80, _, _, _, _, 1008, 672⟩, ⟨96, _, _, _, _, 912, 576⟩, ⟨64, _, _, _, _, 1088, 800⟩,
    ⟨112, _, _, _, _, 800, 416⟩, ⟨48, _, _, _, _, 1152, 912⟩, ⟨128, _, _, _, _, 672, 240⟩,
    ⟨32, _, _, _, _, 1200, 1008⟩, ⟨144, _, _, _, _, 528, 48⟩, ⟨16, _, _, _, _, 1232, 1088⟩]) (by decide) ⟨by simp, by simp⟩ (by simp only [keys, List.map]; decide)
    (by exact hg)) ?_
  refine Tr.skip 11 rfl fun _ => Tr.st11 (r1 := 368) rfl ((outP_rows hv hx).cast _) ?_
  clear * - hC hQ hw hb hx ht
  refine Tr.ld11 (by decide) fun _ k1 => Tr.ld10 (by decide) fun _ k2 => Tr.ld9 (by decide) fun _ k3 => ?_
  refine Tr.done ?_
  refine Tr.bind ?_
  rw [k0_part91_eq_skeleton]; unfold k0_part91_skel
  refine Tr.ld7 (by decide) fun _ k4 => Tr.ld11 (by decide) fun _ k5 => Tr.ld10 (by decide) fun _ k6 =>
      Tr.ld9 (by decide) fun _ k7 => Tr.ld7 (by decide) fun _ k8 => Tr.ld11 (by decide) fun _ k9 => Tr.ld10 (by decide) fun _ k10 =>
      Tr.ld9 (by decide) fun _ k11 => Tr.ld7 (by decide) fun _ k12 => Tr.ld11 (by decide) fun _ k13 => Tr.ld10 (by decide) fun _ k14 =>
      Tr.ld9 (by decide) fun _ k15 => Tr.ld7 (by decide) fun _ k16 => Tr.ld11 (by decide) fun _ k17 => Tr.ld10 (by decide) fun _ k18 =>
      Tr.ld9 (by decide) fun _ k19 => Tr.ld7 (by decide) fun _ k20 => ?_
  refine Tr.done ?_
  refine Tr.bind ?_
  rw [k0_part92_eq_skeleton]; unfold k0_part92_skel
  refine Tr.ld11 (by decide) fun _ k21 => Tr.ld10 (by decide) fun _ k22 => Tr.ld9 (by decide) fun _ k23 =>
      Tr.ld7 (by decide) fun _ k24 => Tr.ld11 (by decide) fun _ k25 => Tr.ld10 (by decide) fun _ k26 => Tr.ld9 (by decide) fun _ k27 =>
      Tr.ld7 (by decide) fun _ k28 => Tr.ld11 (by decide) fun _ k29 => Tr.ld10 (by decide) fun _ k30 => Tr.ld9 (by decide) fun _ k31 =>
      Tr.ld7 (by decide) fun _ k32 => Tr.ld11 (by decide) fun _ k33 => Tr.ld10 (by decide) fun _ k34 => Tr.ld9 (by decide) fun _ k35 =>
      Tr.ld7 (by decide) fun _ k36 => Tr.ld11 (by decide) fun _ k37 => ?_
  refine Tr.done ?_
  refine Tr.bind ?_
  rw [k0_part93_eq_skeleton]; unfold k0_part93_skel
  refine Tr.ld10 (by decide) fun _ k38 => Tr.ld9 (by decide) fun _ k39 => Tr.ld7 (by decide) fun _ k40 =>
      Tr.ld11 (by decide) fun _ k41 => Tr.ld10 (by decide) fun _ k42 => Tr.ld9 (by decide) fun _ k43 => Tr.ld7 (by decide) fun _ k44 =>
      Tr.ld11 (by decide) fun _ k45 => Tr.ld10 (by decide) fun _ k46 => Tr.ld9 (by decide) fun _ k47 => Tr.ld7 (by decide) fun _ k48 =>
      Tr.ld11 (by decide) fun _ k49 => Tr.ld10 (by decide) fun _ k50 => Tr.ld9 (by decide) fun _ k51 => Tr.ld7 (by decide) fun _ k52 =>
      Tr.ld11 (by decide) fun _ k53 => Tr.ld10 (by decide) fun _ k54 => ?_
  refine Tr.done ?_
  refine Tr.bind ?_
  rw [k0_part94_eq_skeleton]; unfold k0_part94_skel
  refine Tr.ld9 (by decide) fun _ k55 => Tr.ld7 (by decide) fun _ k56 => Tr.ld11 (by decide) fun _ k57 =>
      Tr.ld10 (by decide) fun _ k58 => Tr.ld9 (by decide) fun _ k59 => Tr.ld7 (by decide) fun _ k60 => Tr.ld11 (by decide) fun _ k61 =>
      Tr.ld10 (by decide) fun _ k62 => Tr.ld9 (by decide) fun _ k63 => Tr.ld7 (by decide) fun _ k64 => Tr.ld11 (by decide) fun _ k65 =>
      Tr.ld10 (by decide) fun _ k66 => Tr.ld9 (by decide) fun _ k67 => Tr.ld7 (by decide) fun _ k68 => Tr.ld11 (by decide) fun _ k69 =>
      Tr.ld10 (by decide) fun _ k70 => Tr.ld9 (by decide) fun _ k71 => ?_
  refine Tr.done ?_
  refine Tr.bind ?_
  rw [k0_part95_eq_skeleton]; unfold k0_part95_skel
  refine Tr.ld7 (by decide) fun _ k72 => Tr.ld11 (by decide) fun _ k73 => Tr.ld10 (by decide) fun _ k74 =>
      Tr.ld9 (by decide) fun _ k75 => Tr.ld7 (by decide) fun _ k76 => Tr.ld11 (by decide) fun _ k77 => Tr.ld10 (by decide) fun _ k78 =>
      Tr.ld9 (by decide) fun _ k79 => Tr.ld7 (by decide) fun _ k80 => ?_
  refine Tr.done ?_
  refine Tr.bind ?_
  rw [k0_part96_eq_skeleton]; unfold k0_part96_skel
  refine Tr.done ?_
  refine Tr.bind ?_
  rw [k0_part97_eq_skeleton]; unfold k0_part97_skel
  refine Tr.done ?_
  refine Tr.bind ?_
  rw [k0_part98_eq_skeleton]; unfold k0_part98_skel
  refine Tr.done ?_
  refine Tr.bind ?_
  rw [k0_part99_eq_skeleton]; unfold k0_part99_skel
  refine Tr.done ?_
  refine Tr.bind ?_
  rw [k0_part100_eq_skeleton]; unfold k0_part100_skel
  have hg := AllGood.outer k1 k2 k3 k4 <| .outer k5 k6 k7 k8 <| .outer k9 k10 k11 k12 <| .outer k13 k14 k15 k16 <|
    .outer k17 k18 k19 k20 <| .outer k21 k22 k23 k24 <| .outer k25 k26 k27 k28 <| .outer k29 k30 k31 k32 <|
    .outer k33 k34 k35 k36 <| .outer k37 k38 k39 k40 <| .outer k41 k42 k43 k44 <| .outer k45 k46 k47 k48 <|
    .outer k49 k50 k51 k52 <| .outer k53 k54 k55 k56 <| .outer k57 k58 k59 k60 <| .outer k61 k62 k63 k64 <|
    .outer k65 k66 k67 k68 <| .outer k69 k70 k71 k72 <| .outer k73 k74 k75 k76 <| .outer k77 k78 k79 k80 <| .nil
  refine Tr.skip 8 rfl fun _ => Tr.st8 (r1 := 192) rfl (hC.outV_rows hw hb 2 (c := 10) (n := 176) (N := 1760) (ps :=
    [⟨16, _, _, _, _, 1232, 1184⟩, ⟨160, _, _, _, _, 368, 0⟩, ⟨32, _, _, _, _, 1200, 1120⟩,
    ⟨144, _, _, _, _, 528, 192⟩, ⟨48, _, _, _, _, 1152, 1040⟩, ⟨128, _, _, _, _, 672, 368⟩,
    ⟨64, _, _, _, _, 1088, 944⟩, ⟨112, _, _, _, _, 800, 528⟩, ⟨80, _, _, _, _, 1008, 832⟩,
    ⟨96, _, _, _, _, 912, 672⟩, ⟨96, _, _, _, _, 912, 704⟩, ⟨80, _, _, _, _, 1008, 800⟩,
    ⟨112, _, _, _, _, 800, 560⟩, ⟨64, _, _, _, _, 1088, 912⟩, ⟨128, _, _, _, _, 672, 400⟩,
    ⟨48, _, _, _, _, 1152, 1008⟩, ⟨144, _, _, _, _, 528, 224⟩, ⟨32, _, _, _, _, 1200, 1088⟩,
    ⟨160, _, _, _, _, 368, 32⟩, ⟨16, _, _, _, _, 1232, 1152⟩]) (by decide) ⟨by simp, by simp⟩ (by simp only [keys, List.map]; decide)
    (by exact hg)) fun hv => ?_
  refine Tr.skip 9 rfl fun _ => Tr.st9 (r1 := 192) rfl (hC.outS_rows 2 (c := 10) (n := 176) (N := 1760) (ps :=
    [⟨16, _, _, _, _, 1232, 1184⟩, ⟨160, _, _, _, _, 368, 0⟩, ⟨32, _, _, _, _, 1200, 1120⟩,
    ⟨144, _, _, _, _, 528, 192⟩, ⟨48, _, _, _, _, 1152, 1040⟩, ⟨128, _, _, _, _, 672, 368⟩,
    ⟨64, _, _, _, _, 1088, 944⟩, ⟨112, _, _, _, _, 800, 528⟩, ⟨80, _, _, _, _, 1008, 832⟩,
    ⟨96, _, _, _, _, 912, 672⟩, ⟨96, _, _, _, _, 912, 704⟩, ⟨80, _, _, _, _, 1008, 800⟩,
    ⟨112, _, _, _, _, 800, 560⟩, ⟨64, _, _, _, _, 1088, 912⟩, ⟨128, _, _, _, _, 672, 400⟩,
    ⟨48, _, _, _, _, 1152, 1008⟩, ⟨144, _, _, _, _, 528, 224⟩, ⟨32, _, _, _, _, 1200, 1088⟩,
    ⟨160, _, _, _, _, 368, 32⟩, ⟨16, _, _, _, _, 1232, 1152⟩]) (by decide) ⟨by simp, by simp⟩ (by simp only [keys, List.map]; decide)
    (by exact hg)) ?_
  refine Tr.skip 11 rfl fun _ => Tr.st11 (r1 := 192) rfl ((outP_rows hv hx).cast _) ?_
  clear * - hC hQ hw hb hx ht
  refine Tr.ld11 (by decide) fun _ k1 => Tr.ld10 (by decide) fun _ k2 => Tr.ld9 (by decide) fun _ k3 =>
      Tr.ld7 (by decide) fun _ k4 => Tr.ld11 (by decide) fun _ k5 => ?_
  refine Tr.done ?_
  refine Tr.bind ?_
  rw [k0_part101_eq_skeleton]; unfold k0_part101_skel
  refine Tr.ld10 (by decide) fun _ k6 => Tr.ld9 (by decide) fun _ k7 => Tr.ld7 (by decide) fun _ k8 =>
      Tr.ld11 (by decide) fun _ k9 => Tr.ld10 (by decide) fun _ k10 => Tr.ld9 (by decide) fun _ k11 => Tr.ld7 (by decide) fun _ k12 =>
      Tr.ld11 (by decide) fun _ k13 => Tr.ld10 (by decide) fun _ k14 => Tr.ld9 (by decide) fun _ k15 => Tr.ld7 (by decide) fun _ k16 =>
      Tr.ld11 (by decide) fun _ k17 => Tr.ld10 (by decide) fun _ k18 => Tr.ld9 (by decide) fun _ k19 => Tr.ld7 (by decide) fun _ k20 =>
      Tr.ld11 (by decide) fun _ k21 => Tr.ld10 (by decide) fun _ k22 => Tr.ld9 (by decide) fun _ k23 => ?_
  refine Tr.done ?_
  refine Tr.bind ?_
  rw [k0_part102_eq_skeleton]; unfold k0_part102_skel
  refine Tr.ld7 (by decide) fun _ k24 => Tr.ld11 (by decide) fun _ k25 => Tr.ld10 (by decide) fun _ k26 =>
      Tr.ld9 (by decide) fun _ k27 => Tr.ld7 (by decide) fun _ k28 => Tr.ld11 (by decide) fun _ k29 => Tr.ld10 (by decide) fun _ k30 =>
      Tr.ld9 (by decide) fun _ k31 => Tr.ld7 (by decide) fun _ k32 => Tr.ld11 (by decide) fun _ k33 => Tr.ld10 (by decide) fun _ k34 =>
      Tr.ld9 (by decide) fun _ k35 => Tr.ld7 (by decide) fun _ k36 => Tr.ld11 (by decide) fun _ k37 => Tr.ld10 (by decide) fun _ k38 =>
      Tr.ld9 (by decide) fun _ k39 => Tr.ld7 (by decide) fun _ k40 => ?_
  refine Tr.done ?_
  refine Tr.bind ?_
  rw [k0_part103_eq_skeleton]; unfold k0_part103_skel
  refine Tr.ld11 (by decide) fun _ k41 => Tr.ld10 (by decide) fun _ k42 => Tr.ld9 (by decide) fun _ k43 =>
      Tr.ld7 (by decide) fun _ k44 => Tr.ld11 (by decide) fun _ k45 => Tr.ld10 (by decide) fun _ k46 => Tr.ld9 (by decide) fun _ k47 =>
      Tr.ld7 (by decide) fun _ k48 => Tr.ld11 (by decide) fun _ k49 => Tr.ld10 (by decide) fun _ k50 => Tr.ld9 (by decide) fun _ k51 =>
      Tr.ld7 (by decide) fun _ k52 => Tr.ld11 (by decide) fun _ k53 => Tr.ld10 (by decide) fun _ k54 => Tr.ld9 (by decide) fun _ k55 =>
      Tr.ld7 (by decide) fun _ k56 => Tr.ld11 (by decide) fun _ k57 => ?_
  refine Tr.done ?_
  refine Tr.bind ?_
  rw [k0_part104_eq_skeleton]; unfold k0_part104_skel
  refine Tr.ld10 (by decide) fun _ k58 => Tr.ld9 (by decide) fun _ k59 => Tr.ld7 (by decide) fun _ k60 =>
      Tr.ld11 (by decide) fun _ k61 => Tr.ld10 (by decide) fun _ k62 => Tr.ld9 (by decide) fun _ k63 => Tr.ld7 (by decide) fun _ k64 =>
      Tr.ld11 (by decide) fun _ k65 => Tr.ld10 (by decide) fun _ k66 => Tr.ld9 (by decide) fun _ k67 => Tr.ld7 (by decide) fun _ k68 =>
      Tr.ld11 (by decide) fun _ k69 => Tr.ld10 (by decide) fun _ k70 => Tr.ld9 (by decide) fun _ k71 => Tr.ld7 (by decide) fun _ k72 =>
      Tr.ld11 (by decide) fun _ k73 => Tr.ld10 (by decide) fun _ k74 => ?_
  refine Tr.done ?_
  refine Tr.bind ?_
  rw [k0_part105_eq_skeleton]; unfold k0_part105_skel
  refine Tr.ld9 (by decide) fun _ k75 => Tr.ld7 (by decide) fun _ k76 => Tr.ld11 (by decide) fun _ k77 =>
      Tr.ld10 (by decide) fun _ k78 => Tr.ld9 (by decide) fun _ k79 => Tr.ld7 (by decide) fun _ k80 => Tr.ld11 (by decide) fun _ k81 =>
      Tr.ld10 (by decide) fun _ k82 => Tr.ld9 (by decide) fun _ k83 => Tr.ld7 (by decide) fun _ k84 => Tr.ld11 (by decide) fun _ k85 =>
      Tr.ld10 (by decide) fun _ k86 => Tr.ld9 (by decide) fun _ k87 => Tr.ld7 (by decide) fun _ k88 => ?_
  refine Tr.done ?_
  refine Tr.bind ?_
  rw [k0_part106_eq_skeleton]; unfold k0_part106_skel
  refine Tr.done ?_
  refine Tr.bind ?_
  rw [k0_part107_eq_skeleton]; unfold k0_part107_skel
  refine Tr.done ?_
  refine Tr.bind ?_
  rw [k0_part108_eq_skeleton]; unfold k0_part108_skel
  refine Tr.done ?_
  refine Tr.bind ?_
  rw [k0_part109_eq_skeleton]; unfold k0_part109_skel
  refine Tr.done ?_
  refine Tr.bind ?_
  rw [k0_part110_eq_skeleton]; unfold k0_part110_skel
  refine Tr.done ?_
  refine Tr.done ?_
  have hg := AllGood.outer k1 k2 k3 k4 <| .outer k5 k6 k7 k8 <| .outer k9 k10 k11 k12 <| .outer k13 k14 k15 k16 <|
    .outer k17 k18 k19 k20 <| .outer k21 k22 k23 k24 <| .outer k25 k26 k27 k28 <| .outer k29 k30 k31 k32 <|
    .outer k33 k34 k35 k36 <| .outer k37 k38 k39 k40 <| .outer k41 k42 k43 k44 <| .outer k45 k46 k47 k48 <|
    .outer k49 k50 k51 k52 <| .outer k53 k54 k55 k56 <| .outer k57 k58 k59 k60 <| .outer k61 k62 k63 k64 <|
    .outer k65 k66 k67 k68 <| .outer k69 k70 k71 k72 <| .outer k73 k74 k75 k76 <| .outer k77 k78 k79 k80 <|
    .outer k81 k82 k83 k84 <| .outer k85 k86 k87 k88 <| .nil
  refine Tr.skip 8 rfl fun _ => Tr.st8 (r1 := 0) rfl (hC.outV_rows hw hb 1 (c := 11) (n := 192) (N := 2112) (ps :=
    [⟨16, _, _, _, _, 1232, 1216⟩, ⟨176, _, _, _, _, 192, 0⟩, ⟨32, _, _, _, _, 1200, 1168⟩,
    ⟨160, _, _, _, _, 368, 192⟩, ⟨48, _, _, _, _, 1152, 1104⟩, ⟨144, _, _, _, _, 528, 368⟩,
    ⟨64, _, _, _, _, 1088, 1024⟩, ⟨128, _, _, _, _, 672, 528⟩, ⟨80, _, _, _, _, 1008, 928⟩,
    ⟨112, _, _, _, _, 800, 672⟩, ⟨96, _, _, _, _, 912, 816⟩, ⟨96, _, _, _, _, 912, 800⟩,
    ⟨112, _, _, _, _, 800, 688⟩, ⟨80, _, _, _, _, 1008, 912⟩, ⟨128, _, _, _, _, 672, 544⟩,
    ⟨64, _, _, _, _, 1088, 1008⟩, ⟨144, _, _, _, _, 528, 384⟩, ⟨48, _, _, _, _, 1152, 1088⟩,
    ⟨160, _, _, _, _, 368, 208⟩, ⟨32, _, _, _, _, 1200, 1152⟩, ⟨176, _, _, _, _, 192, 16⟩,
    ⟨16, _, _, _, _, 1232, 1200⟩]) (by decide) ⟨by simp, by simp⟩ (by simp only [keys, List.map]; decide)
    (by exact hg)) fun hv => ?_
  refine Tr.skip 9 rfl fun _ => Tr.st9 (r1 := 0) rfl (hC.outS_rows 1 (c := 11) (n := 192) (N := 2112) (ps :=
    [⟨16, _, _, _, _, 1232, 1216⟩, ⟨176, _, _, _, _, 192, 0⟩, ⟨32, _, _, _, _, 1200, 1168⟩,
    ⟨160, _, _, _, _, 368, 192⟩, ⟨48, _, _, _, _, 1152, 1104⟩, ⟨144, _, _, _, _, 528, 368⟩,
    ⟨64, _, _, _, _, 1088, 1024⟩, ⟨128, _, _, _, _, 672, 528⟩, ⟨80, _, _, _, _, 1008, 928⟩,
    ⟨112, _, _, _, _, 800, 672⟩, ⟨96, _, _, _, _, 912, 816⟩, ⟨96, _, _, _, _, 912, 800⟩,
    ⟨112, _, _, _, _, 800, 688⟩, ⟨80, _, _, _, _, 1008, 912⟩, ⟨128, _, _, _, _, 672, 544⟩,
    ⟨64, _, _, _, _, 1088, 1008⟩, ⟨144, _, _, _, _, 528, 384⟩, ⟨48, _, _, _, _, 1152, 1088⟩,
    ⟨160, _, _, _, _, 368, 208⟩, ⟨32, _, _, _, _, 1200, 1152⟩, ⟨176, _, _, _, _, 192, 16⟩,
    ⟨16, _, _, _, _, 1232, 1200⟩]) (by decide) ⟨by simp, by simp⟩ (by simp only [keys, List.map]; decide)
    (by exact hg)) ?_
  refine Tr.skip 11 rfl fun _ => Tr.st11 (r1 := 0) rfl ((outP_rows hv hx).cast _) ?_
  clear * - hC hQ hw hb hx ht
  exact hQ

end Chart
-- ==== Proof.Chart.Comb.lean ====
/-
  The softmax-weighted sum of a cell: it does not depend on the order of the cell's slots, and slots past the last pair
  can be masked out instead of left out.
-/
module

public import proofs.«01_k».proof.Proof.Chart.Level

@[expose] public section

noncomputable section

namespace Chart

open Idealize.ShloMosaic

/-- A mixture reads only its slots. -/
theorem comb_congr {c : ℕ} {x x' v v' : ℕ → EReal} (hx : ∀ s < c, x s = x' s) (hv : ∀ s < c, v s = v' s) :
    comb c x v = comb c x' v' := by
  have hf : (fun t : Fin c => x t) = fun t : Fin c => x' t := funext fun t => hx t t.2
  have hm : ∀ s : Fin c, smx c x s = smx c x' s := fun s => by
    unfold smx
    rw [hf, hx s s.2]
    congr 1
    exact Finset.sum_congr rfl fun u _ => by rw [hx u u.2]
  unfold comb
  exact Finset.sum_congr rfl fun s _ => by rw [hm s, hv s s.2]

/-- The order of the slots does not matter. -/
theorem comb_perm {c : ℕ} (e : Equiv.Perm (Fin c)) {x x' v v' : ℕ → EReal} (hx : ∀ s : Fin c, x' s = x (e s))
    (hv : ∀ s : Fin c, v' s = v (e s)) : comb c x' v' = comb c x v := by
  have hf : (Finset.univ : Finset (Fin c)).fold max ⊥ (fun t : Fin c => x' t)
      = (Finset.univ : Finset (Fin c)).fold max ⊥ fun t : Fin c => x t := by
    show (Finset.univ : Finset (Fin c)).sup (fun t : Fin c => x' t) = Finset.univ.sup fun t : Fin c => x t
    simp only [Finset.sup_univ_eq_iSup, hx]
    exact e.iSup_comp (g := fun t : Fin c => x t)
  have hm : ∀ s : Fin c, smx c x' s = smx c x (e s) := fun s => by
    unfold smx
    rw [hf, hx s]
    congr 1
    simp only [hx]
    exact Equiv.sum_comp e fun u : Fin c => Ideal.exp (x u - (Finset.univ : Finset (Fin c)).fold max ⊥ fun t : Fin c => x t)
  unfold comb
  simp only [hm, hv]
  exact Equiv.sum_comp e fun s : Fin c => smx c x s * v s

/-- A sum of which the terms from `c` on are masked. -/
theorem sum_masked {n c : ℕ} (hc : c ≤ n) (f : ℕ → EReal) :
    (∑ i : Fin n, if i.val < c then f i else 0) = ∑ i : Fin c, f i := by
  rw [Fin.sum_univ_eq_sum_range (fun i => if i < c then f i else 0) n, Fin.sum_univ_eq_sum_range f c]
  rw [← Finset.sum_subset (s₁ := Finset.range c) (by simpa using hc)
    fun i _ hi => if_neg (by simpa using hi)]
  exact Finset.sum_congr rfl fun i hi => if_pos (by simpa using hi)

/-- A maximum of which the terms from `c` on are masked. -/
theorem fold_masked {n c : ℕ} (hc : c ≤ n) (f : ℕ → EReal) :
    ((Finset.univ : Finset (Fin n)).fold max ⊥ fun i : Fin n => if i.val < c then f i else ⊥)
      = (Finset.univ : Finset (Fin c)).fold max ⊥ fun i : Fin c => f i := by
  show (Finset.univ : Finset (Fin n)).sup (fun i : Fin n => if i.val < c then f i else ⊥)
    = (Finset.univ : Finset (Fin c)).sup fun i : Fin c => f i
  refine le_antisymm (Finset.sup_le fun i _ => ?_) (Finset.sup_le fun i _ => ?_)
  · split
    · exact Finset.le_sup (f := fun i : Fin c => f i) (Finset.mem_univ (⟨i.val, by assumption⟩ : Fin c))
    · exact bot_le
  · refine le_trans ?_ (Finset.le_sup (f := fun i : Fin n => if i.val < c then f i else ⊥)
      (Finset.mem_univ (⟨i.val, by omega⟩ : Fin n)))
    exact (if_pos i.2).ge

/-- The weighted sum over `n` slots of which those from `c` on are masked. -/
theorem comb_masked {n c : ℕ} (hc : c ≤ n) (x v : ℕ → EReal) :
    (∑ s : Fin n, (if s.val < c then
        Ideal.div (Ideal.exp ((if s.val < c then x s else ⊥)
            - (Finset.univ : Finset (Fin n)).fold max ⊥ fun t : Fin n => if t.val < c then x t else ⊥))
          (∑ u : Fin n, if u.val < c then Ideal.exp ((if u.val < c then x u else ⊥)
            - (Finset.univ : Finset (Fin n)).fold max ⊥ fun t : Fin n => if t.val < c then x t else ⊥) else 0)
        else 0) * v s) = comb c x v := by
  rw [fold_masked hc]
  generalize hM : ((Finset.univ : Finset (Fin c)).fold max ⊥ fun i : Fin c => x i) = M
  have h1 : (∑ u : Fin n, if u.val < c then Ideal.exp ((if u.val < c then x u else ⊥) - M) else 0)
      = ∑ u : Fin c, Ideal.exp (x u - M) := by
    rw [← sum_masked hc fun u => Ideal.exp (x u - M)]
    refine Finset.sum_congr rfl fun u _ => ?_
    split <;> rfl
  rw [h1]
  unfold comb smx
  rw [hM, ← sum_masked hc fun s => Ideal.div (Ideal.exp (x s - M)) (∑ u : Fin c, Ideal.exp (x u - M)) * v s]
  refine Finset.sum_congr rfl fun s _ => ?_
  split
  · rfl
  · exact zero_mul _

end Chart
-- ==== Proof.Chart.Order.lean ====
/-
  The order in which the reference computes the cells: what its tables hold, level by level.
-/
module

public import proofs.«01_k».proof.Proof.Gen.ReferenceIdeal
public import proofs.«01_k».proof.Proof.Chart.Rec

@[expose] public section

set_option maxRecDepth 65536

noncomputable section

namespace Chart

open Cert.ReferenceIdeal

/-- The row trip `t` computes. -/
def rowT (t : ℕ) : ℕ := if h : t < 143 then (lit0 ⟨t, h⟩).toNat else 0

/-- How many pairs trip `t` has. -/
def cntT (t : ℕ) : ℕ := if h : t < 143 then (lit3 ⟨t, h⟩).toNat else 0

/-- The row of the first member of pair `s` of trip `t`. -/
def fstT (t s : ℕ) : ℕ := if h : t * 11 + s < 1573 then (lit1 ⟨t * 11 + s, h⟩).toNat else 0

/-- The row of the second member of pair `s` of trip `t`. -/
def sndT (t s : ℕ) : ℕ := if h : t * 11 + s < 1573 then (lit2 ⟨t * 11 + s, h⟩).toNat else 0

/-- The trip that computes the inside cell of length `L` at `b`. -/
def tIn (L b : ℕ) : ℕ := 66 - (14 - L) * (13 - L) / 2 + b

/-- The trip that computes the outside cell of length `L` at `b`. -/
def tOut (L b : ℕ) : ℕ := 65 + (12 - L) * (13 - L) / 2 + b

/-- The slot of an outside cell at `b` with `P` slots that the kernel's slot `p` is in the reference. -/
def slot (P b p : ℕ) : ℕ := if p < b then b - 1 - p else b + P - 1 - p

/-- Inside cells: their trip and the rows it reads. -/
theorem inside_table : ∀ L < 13, 2 ≤ L → ∀ i < (13 - L) * 16,
    (tIn L (i / 16) < 143 ∧ off L + i = 16 * rowT (tIn L (i / 16)) + i % 16 ∧ cntT (tIn L (i / 16)) = L - 1)
    ∧ ∀ s < L - 1, rowA (inT L) (s * ((13 - L) * 16) + i) = 16 * fstT (tIn L (i / 16)) s + i % 16
      ∧ rowB (inT L) (s * ((13 - L) * 16) + i) = 16 * sndT (tIn L (i / 16)) s + i % 16 := by
  decide +kernel

/-- Outside cells: their trip and the rows it reads. -/
theorem outside_table : ∀ L < 12, 1 ≤ L → ∀ i < (13 - L) * 16,
    (tOut L (i / 16) < 143 ∧ 1248 + (off L + i) = 16 * rowT (tOut L (i / 16)) + i % 16 ∧ cntT (tOut L (i / 16)) = 12 - L)
    ∧ ∀ p < 12 - L,
      1248 + rowA (outT L) (p * ((13 - L) * 16) + i) = 16 * fstT (tOut L (i / 16)) (slot (12 - L) (i / 16) p) + i % 16
      ∧ rowB (outT L) (p * ((13 - L) * 16) + i) = 16 * sndT (tOut L (i / 16)) (slot (12 - L) (i / 16) p) + i % 16 := by
  decide +kernel

/-- Rows a trip `t` may write: a row read by it was written before it, or never is. -/
def made (r : ℕ) : ℕ :=
  if r < 12 then 0 else if r < 78 then r - 11 else if r < 155 then
    (fun L => tOut L (r - 78 - off L / 16) + 1) ((List.range 12).countP fun l => decide (off (l + 1) / 16 ≤ r - 78))
  else 0

/-- Trip `t` makes the row that the order gives place `t + 1`, from one to eleven pairs. -/
theorem made_row : ∀ t < 143, made (rowT t) = t + 1 ∧ rowT t < 156 ∧ 1 ≤ cntT t ∧ cntT t ≤ 11 := by decide +kernel

/-- Every pair of trip `t` reads rows that are made before it. -/
theorem made_read : ∀ t < 143, ∀ s < 11, (s < cntT t → made (fstT t s) ≤ t ∧ made (sndT t s) ≤ t)
    ∧ fstT t s < 156 ∧ sndT t s < 156 := by
  decide +kernel

end Chart
-- ==== Proof.Chart.Cell.lean ====
/-
  The recurrence cell by cell, as the reference runs it, and that a chart which satisfies it also satisfies it level by
  level, as the kernel runs it.
-/
module

public import proofs.«01_k».proof.Proof.Chart.Comb
public import proofs.«01_k».proof.Proof.Chart.Order

@[expose] public section

noncomputable section

namespace Chart

/-- The reference's parameters, as tables. -/
structure Inputs where
  we : ℕ → ℕ → EReal
  w1 : ℕ → ℕ → EReal
  b1 : ℕ → EReal
  w2 : ℕ → ℕ → EReal
  b2 : ℕ → EReal
  bil : ℕ → ℕ → EReal
  rb : ℕ → EReal

/-- The parameters as the kernel takes them: the three matrices that multiply a row, side by side. -/
def Inputs.weights (I : Inputs) : Weights where
  we := I.we
  wf k j := if j < 768 then I.w1 j k else if j < 1536 then I.bil k (j - 768) else I.w1 (j - 1536) (768 + k)
  b1 := I.b1
  w2 k j := I.w2 j k
  b2 := I.b2
  rb := I.rb

variable (I : Inputs) (v : ℕ → ℕ → EReal) (s : ℕ → EReal)

/-- The score of row `a` with row `b`. -/
def Inputs.score (a b : ℕ) : EReal :=
  (∑ j : Fin 768, (∑ q : Fin 768, v a q * I.bil q j) * v b j) + s a + s b

/-- The hidden layer on rows `a` and `b` one after the other. -/
def Inputs.hid (a b k : ℕ) : EReal :=
  max ((∑ q : Fin 1536, (if q.val < 768 then v a q else v b (q - 768)) * I.w1 k q) + I.b1 k) 0

/-- The vector composed of row `a` and row `b`. -/
def Inputs.vec (a b j : ℕ) : EReal := max ((∑ k : Fin 768, I.hid v a b k * I.w2 j k) + I.b2 j) 0

/-- Trip `t` of the reference on the charts `v` and `s`: the vector of its cell. -/
def Inputs.cellV (t b j : ℕ) : EReal :=
  comb (cntT t) (fun k => I.score v s (16 * fstT t k + b) (16 * sndT t k + b))
    (fun k => I.vec v (16 * fstT t k + b) (16 * sndT t k + b) j)

/-- Trip `t` of the reference on the charts `v` and `s`: the score of its cell. -/
def Inputs.cellS (t b : ℕ) : EReal :=
  comb (cntT t) (fun k => I.score v s (16 * fstT t k + b) (16 * sndT t k + b))
    (fun k => I.score v s (16 * fstT t k + b) (16 * sndT t k + b))

/-- The charts hold the words, the root and, of every other cell, what its trip makes of them. -/
structure Inputs.Fixed : Prop where
  leafV : ∀ i < 192, ∀ j < 768, v i j = I.we i j
  leafS : ∀ i < 192, s i = 0
  rootV : ∀ i < 16, ∀ j < 768, v (2480 + i) j = I.rb j
  rootS : ∀ i < 16, s (2480 + i) = 0
  vec : ∀ t < 143, ∀ b < 16, ∀ j < 768, v (16 * rowT t + b) j = I.cellV v s t b j
  sco : ∀ t < 143, ∀ b < 16, s (16 * rowT t + b) = I.cellS v s t b

/-- The charts as the kernel holds them: inside and outside apart. -/
def Inputs.toRec : Rec where
  toWeights := I.weights
  iv := v
  ix := s
  ov i := v (1248 + i)
  ox i := s (1248 + i)

/-- What a level reads at rows `a` and `b` is what the reference reads at rows `a'` and `b'`. -/
structure Inputs.Reads (S : Source) (a b a' b' : ℕ) : Prop where
  left : ∀ k < 768, S.gL a (0 + (0 + k)) = ∑ q : Fin 768, v a' q * I.w1 k q
  bil : ∀ k < 768, S.gL a (0 + (768 + k)) = ∑ q : Fin 768, v a' q * I.bil q k
  right : ∀ k < 768, S.gR b (1536 + (0 + k)) = (∑ q : Fin 768, v b' q * I.w1 k (768 + q)) + I.b1 k
  row : ∀ k < 768, S.gR b (1536 + (768 + k)) = v b' k
  kL : S.kL a = s a'
  kR : S.kR b = s b'

variable {I v s}

/-- A sum over the two halves. -/
theorem sum_halves (f : ℕ → EReal) : (∑ q : Fin 1536, f q) = (∑ q : Fin 768, f q) + ∑ q : Fin 768, f (768 + q) := by
  rw [Fin.sum_univ_eq_sum_range f 1536, Fin.sum_univ_eq_sum_range f 768,
    Fin.sum_univ_eq_sum_range (fun q => f (768 + q)) 768]
  exact Finset.sum_range_add f 768 768

/-- The score of a pair that the kernel reads is the reference's score of that pair. -/
theorem Inputs.Reads.score_eq {S : Source} {a b a' b' : ℕ} (h : I.Reads v s S a b a' b') :
    S.score a b = I.score v s a' b' := by
  unfold Source.score Inputs.score
  rw [h.kL, h.kR]
  congr 2
  exact Finset.sum_congr rfl fun k _ => by rw [h.bil k k.2, h.row k k.2]

/-- The hidden layer of a pair that the kernel reads is the reference's. -/
theorem Inputs.Reads.hid_eq {S : Source} {a b a' b' : ℕ} (h : I.Reads v s S a b a' b') (k : ℕ) (hk : k < 768) :
    S.hid a b k = I.hid v a' b' k := by
  unfold Source.hid Inputs.hid
  rw [h.left k hk, h.right k hk, sum_halves fun q => (if q < 768 then v a' q else v b' (q - 768)) * I.w1 k q, ← add_assoc]
  congr 3

/-- The composed vector of a pair that the kernel reads is the reference's. -/
theorem Inputs.Reads.vec_eq {S : Source} {a b a' b' : ℕ} (h : I.Reads v s S a b a' b') (j : ℕ) :
    S.vec I.weights.w2 I.weights.b2 a b j = I.vec v a' b' j := by
  unfold Source.vec Inputs.vec
  congr 2
  exact Finset.sum_congr rfl fun k _ => by rw [h.hid_eq k k.2]; rfl

/-- The first 768 columns of the joined weights. -/
theorem wf_left (k j : ℕ) (hj : j < 768) : I.weights.wf k j = I.w1 j k := if_pos hj

/-- The middle 768 columns of the joined weights. -/
theorem wf_bil (k j : ℕ) (hj : j < 768) : I.weights.wf k (768 + j) = I.bil k j :=
  (if_neg (by omega)).trans ((if_pos (by omega)).trans (by rw [Nat.add_sub_cancel_left]))

/-- The last 768 columns of the joined weights. -/
theorem wf_right (k j : ℕ) : I.weights.wf k (1536 + j) = I.w1 j (768 + k) :=
  (if_neg (by omega)).trans ((if_neg (by omega)).trans (by rw [Nat.add_sub_cancel_left]))

/-- The first two thirds of the projections of an inside row. -/
theorem ip_low (i j : ℕ) (hj : j < 1536) :
    (I.toRec v s).ip i j = ∑ k : Fin 768, v i k * I.weights.wf k j := by
  unfold Rec.ip
  rw [if_pos (show j < 2304 by omega), show (I.toRec v s).bc j = 0 from if_pos hj, add_zero]
  rfl

/-- The third part of the projections of an inside row. -/
theorem ip_right (i k : ℕ) (hk : k < 768) :
    (I.toRec v s).ip i (1536 + (0 + k)) = (∑ q : Fin 768, v i q * I.w1 k (768 + q)) + I.b1 k := by
  unfold Rec.ip
  rw [Nat.zero_add, if_pos (show 1536 + k < 2304 by omega), show (I.toRec v s).bc (1536 + k) = I.b1 k from
    (if_neg (by omega)).trans (by rw [Nat.add_sub_cancel_left]; rfl)]
  congr 1
  exact Finset.sum_congr rfl fun q _ => congrArg (v i q * ·) (wf_right (I := I) q k)

/-- The last part of the projections of an inside row is the row itself. -/
theorem ip_row (i k : ℕ) : (I.toRec v s).ip i (1536 + (768 + k)) = v i k := by
  unfold Rec.ip
  rw [if_neg (by omega), show 1536 + (768 + k) - 2304 = k by omega]
  rfl

/-- An inside pair reads two inside rows. -/
theorem inner_reads (a b : ℕ) : I.Reads v s (I.toRec v s).inner a b a b where
  left k hk := by
    show (I.toRec v s).ip a (0 + (0 + k)) = _
    rw [Nat.zero_add, Nat.zero_add, ip_low a k (by omega)]
    exact Finset.sum_congr rfl fun q _ => by rw [wf_left q k hk]
  bil k hk := by
    show (I.toRec v s).ip a (0 + (768 + k)) = _
    rw [Nat.zero_add, ip_low a (768 + k) (by omega)]
    exact Finset.sum_congr rfl fun q _ => by rw [wf_bil q k hk]
  right k hk := ip_right b k hk
  row k _ := ip_row b k
  kL := rfl
  kR := rfl

/-- An outside pair reads an outside row and an inside row. -/
theorem outer_reads (a b : ℕ) : I.Reads v s (I.toRec v s).outer a b (1248 + a) b where
  left k hk := by
    show (I.toRec v s).op a (0 + (0 + k)) = _
    rw [Nat.zero_add, Nat.zero_add]
    exact Finset.sum_congr rfl fun q _ => congrArg (v (1248 + a) q * ·) (wf_left (I := I) q k hk)
  bil k hk := by
    show (I.toRec v s).op a (0 + (768 + k)) = _
    rw [Nat.zero_add]
    exact Finset.sum_congr rfl fun q _ => congrArg (v (1248 + a) q * ·) (wf_bil (I := I) q k hk)
  right k hk := ip_right b k hk
  row k _ := ip_row b k
  kL := rfl
  kR := rfl

/-! ### The order of an outside cell's slots -/

/-- The reordered slots are slots. -/
theorem slot_lt {P b p : ℕ} (hb : b ≤ P) (hp : p < P) : slot P b p < P := by unfold slot; split <;> omega

/-- The reordering of the slots is its own inverse. -/
theorem slot_slot {P b p : ℕ} (hb : b ≤ P) (hp : p < P) : slot P b (slot P b p) = p := by
  unfold slot
  by_cases h : p < b
  · rw [if_pos h, if_pos (by omega)]; omega
  · rw [if_neg h, if_neg (by omega)]; omega

/-- The order of the slots, as a permutation. -/
def slotPerm (P b : ℕ) (hb : b ≤ P) : Equiv.Perm (Fin P) where
  toFun p := ⟨slot P b p, slot_lt hb p.2⟩
  invFun p := ⟨slot P b p, slot_lt hb p.2⟩
  left_inv p := Fin.ext (slot_slot hb p.2)
  right_inv p := Fin.ext (slot_slot hb p.2)

/-! ### Level by level -/

/-- A chart that the reference's equations fix satisfies the kernel's level equations. -/
theorem Inputs.Fixed.holds (h : I.Fixed v s) : (I.toRec v s).Holds where
  leafV := h.leafV
  leafS := h.leafS
  rootV i hi j hj := by
    show v (1248 + (1232 + i)) j = I.rb j
    rw [← h.rootV i hi j hj, ← Nat.add_assoc]
  rootS i hi := by
    show s (1248 + (1232 + i)) = 0
    rw [← h.rootS i hi, ← Nat.add_assoc]
  inV L h2 h12 i hi j hj := by
    obtain ⟨⟨ht, hr, hc⟩, hp⟩ := inside_table L (by omega) h2 i hi
    show v (off L + i) j = _
    rw [hr, h.vec _ ht _ (Nat.mod_lt _ (by decide)) j hj]
    unfold Inputs.cellV Source.outV
    rw [hc]
    refine comb_congr (fun k hk => ?_) fun k hk => ?_
    · rw [(hp k hk).1, (hp k hk).2, (inner_reads _ _).score_eq]
    · rw [(hp k hk).1, (hp k hk).2]; exact ((inner_reads _ _).vec_eq j).symm
  inS L h2 h12 i hi := by
    obtain ⟨⟨ht, hr, hc⟩, hp⟩ := inside_table L (by omega) h2 i hi
    show s (off L + i) = _
    rw [hr, h.sco _ ht _ (Nat.mod_lt _ (by decide))]
    unfold Inputs.cellS Source.outS
    rw [hc]
    refine comb_congr (fun k hk => ?_) fun k hk => ?_ <;>
    · rw [(hp k hk).1, (hp k hk).2, (inner_reads _ _).score_eq]
  outV L h1 h11 i hi j hj := by
    obtain ⟨⟨ht, hr, hc⟩, hp⟩ := outside_table L (by omega) h1 i hi
    have hb : i / 16 ≤ 12 - L := by omega
    show v (1248 + (off L + i)) j = _
    rw [hr, h.vec _ ht _ (Nat.mod_lt _ (by decide)) j hj]
    unfold Inputs.cellV Source.outV
    rw [hc]
    refine (comb_perm (slotPerm _ _ hb) (fun k => ?_) fun k => ?_).symm
    · rw [(outer_reads _ _).score_eq, (hp k k.2).1, (hp k k.2).2]; rfl
    · refine ((outer_reads _ _).vec_eq j).trans ?_
      rw [(hp k k.2).1, (hp k k.2).2]; rfl
  outS L h1 h11 i hi := by
    obtain ⟨⟨ht, hr, hc⟩, hp⟩ := outside_table L (by omega) h1 i hi
    have hb : i / 16 ≤ 12 - L := by omega
    show s (1248 + (off L + i)) = _
    rw [hr, h.sco _ ht _ (Nat.mod_lt _ (by decide))]
    unfold Inputs.cellS Source.outS
    rw [hc]
    refine (comb_perm (slotPerm _ _ hb) (fun k => ?_) fun k => ?_).symm <;>
    · rw [(outer_reads _ _).score_eq, (hp k k.2).1, (hp k k.2).2]; rfl

end Chart
-- ==== Proof.Chart.Args.lean ====
/-
  The seven arguments as tables, and the result as made of tables.
-/
module

public import Idealize.ShloMosaic.Lib.Pointwise
public import proofs.«01_k».proof.Proof.Chart.Cell

@[expose] public section

noncomputable section

namespace Chart

open Idealize.ShloMosaic Idealize.ShloMosaic.Pointwise

/-- A vector as a table. -/
def tab1 {n : ℕ} (x : (⟨1, ![n]⟩ : Shape).Idx → EReal) (i : ℕ) : EReal := if h : i < n then x (ix1 ⟨i, h⟩) else 0

/-- A matrix as a table. -/
def tab2 {m n : ℕ} (x : (⟨2, ![m, n]⟩ : Shape).Idx → EReal) (i j : ℕ) : EReal :=
  if h : i < m ∧ j < n then x (ix2 ⟨i, h.1⟩ ⟨j, h.2⟩) else 0

/-- Planes of sixteen lines as rows. -/
def rows {m n : ℕ} (x : (⟨3, ![m, 16, n]⟩ : Shape).Idx → EReal) (i j : ℕ) : EReal :=
  if h : i / 16 < m ∧ j < n then x (ix3 ⟨i / 16, h.1⟩ ⟨i % 16, Nat.mod_lt _ (by omega)⟩ ⟨j, h.2⟩) else 0

/-- A vector argument as a table, by its entries. -/
theorem tab1_at {n : ℕ} (x : (⟨1, ![n]⟩ : Shape).Idx → EReal) (i : Fin n) : tab1 x i = x (ix1 i) := dif_pos i.2

/-- A matrix argument as a table, by its entries. -/
theorem tab2_at {m n : ℕ} (x : (⟨2, ![m, n]⟩ : Shape).Idx → EReal) (i : Fin m) (j : Fin n) : tab2 x i j = x (ix2 i j) :=
  dif_pos ⟨i.2, j.2⟩

/-- A stack of batches as rows, by its entries. -/
theorem rows_at {m n : ℕ} (x : (⟨3, ![m, 16, n]⟩ : Shape).Idx → EReal) (r : Fin m) (b : Fin 16) (j : Fin n) :
    rows x (16 * r + b) j = x (ix3 r b j) := by
  unfold rows
  rw [dif_pos ⟨by omega, j.2⟩]
  congr 1
  exact congrArg₂ (fun p q => ix3 p q j) (Fin.ext (by show (16 * r.val + b.val) / 16 = r.val; omega))
    (Fin.ext (by show (16 * r.val + b.val) % 16 = b.val; omega))

/-- A row number as a plane and a line of it. -/
theorem rows_split {m n : ℕ} (x : (⟨3, ![m, 16, n]⟩ : Shape).Idx → EReal) (i j : ℕ) (hi : i / 16 < m) (hj : j < n) :
    rows x i j = x (ix3 ⟨i / 16, hi⟩ ⟨i % 16, Nat.mod_lt _ (by omega)⟩ ⟨j, hj⟩) := dif_pos ⟨hi, hj⟩

/-- The tables of the arguments. -/
def inputsOf (a0 : (⟨3, ![12, 16, 768]⟩ : Shape).Idx → EReal) (a1 : (⟨2, ![768, 1536]⟩ : Shape).Idx → EReal)
    (a2 : (⟨1, ![768]⟩ : Shape).Idx → EReal) (a3 : (⟨2, ![768, 768]⟩ : Shape).Idx → EReal)
    (a4 : (⟨1, ![768]⟩ : Shape).Idx → EReal) (a5 : (⟨3, ![1, 768, 768]⟩ : Shape).Idx → EReal)
    (a6 : (⟨1, ![768]⟩ : Shape).Idx → EReal) : Inputs where
  we := rows a0
  w1 := tab2 a1
  b1 := tab1 a2
  w2 := tab2 a3
  b2 := tab1 a4
  bil i j := if h : i < 768 ∧ j < 768 then a5 (ix3 0 ⟨i, h.1⟩ ⟨j, h.2⟩) else 0
  rb := tab1 a6

/-- The result the charts make: inside vector, inside score, outside vector and outside score of a cell side by side. -/
def resultOf (v : ℕ → ℕ → EReal) (s : ℕ → EReal) : (⟨3, ![78, 16, 1538]⟩ : Shape).Idx → EReal := fun i =>
  (fun r b j : ℕ => if j < 768 then v (16 * r + b) j else if j < 769 then s (16 * r + b)
    else if j < 1537 then v (1248 + (16 * r + b)) (j - 769) else s (1248 + (16 * r + b)))
    (i 0).val (i 1).val (i 2).val

/-- The result's entry by cell, sentence and column. -/
theorem resultOf_at (v : ℕ → ℕ → EReal) (s : ℕ → EReal) (r : Fin 78) (b : Fin 16) (j : Fin 1538) :
    resultOf v s (ix3 r b j) = if j.val < 768 then v (16 * r + b) j else if j.val < 769 then s (16 * r + b)
      else if j.val < 1537 then v (1248 + (16 * r + b)) (j - 769) else s (1248 + (16 * r + b)) := rfl

end Chart
-- ==== Proof.Chart.Host.lean ====
/-
  The operations around the kernel's call: what they hand to it, and what they make of its four results.
-/
module

public import proofs.«01_k».proof.Proof.Chart.Args
public import proofs.«01_k».proof.Proof.Gen.KernelIdeal.Frame
public import Idealize.ShloMosaic.Lib.StableHlo.RunRead

@[expose] public section

set_option maxRecDepth 16384

noncomputable section

namespace Chart

open Idealize.ShloMosaic Idealize.ShloMosaic.TcCoe Idealize.ShloMosaic.Tactic Idealize.ShloMosaic.Pointwise
open Idealize.ShloMosaic.StableHlo
open Cert.KernelIdeal Cert.KernelIdeal.Gen

/-! ### After the call -/

/-- One entry of the joined result, read piece by piece. -/
theorem joined_at {X0 : S1248x768.Idx → EReal} {X1 : S1248x1.Idx → EReal} {X2 : S1248x768.Idx → EReal} {X3 : S1248x1.Idx → EReal}
    {v : ℕ → ℕ → EReal} {s : ℕ → EReal} (h0 : Rows X0 v) (h1 : Rows X1 fun i _ => s i)
    (h2 : Rows X2 fun i => v (1248 + i)) (h3 : Rows X3 fun i _ => s (1248 + i)) {p j k : ℕ} (hp : p < 1248) (hk : k = p) (hj : j < 1538) :
    (if h : j < 768 then X0 (ix2 ⟨p, hp⟩ ⟨j, h⟩) else if _ : j - 768 < 1 then X1 (ix2 ⟨p, hp⟩ 0)
      else if h : j - 768 - 1 < 768 then X2 (ix2 ⟨p, hp⟩ ⟨j - 768 - 1, h⟩) else X3 (ix2 ⟨p, hp⟩ 0))
    = if j < 768 then v k j else if j < 769 then s k else if j < 1537 then v (1248 + k) (j - 769) else s (1248 + k) := by
  subst hk
  by_cases p1 : j < 768
  · exact (dif_pos p1).trans ((h0 _ _).trans (if_pos p1).symm)
  refine (dif_neg p1).trans (Eq.trans ?_ (if_neg p1).symm)
  by_cases p2 : j < 769
  · exact (dif_pos (by omega)).trans ((h1 _ _).trans (if_pos p2).symm)
  refine (dif_neg (by omega)).trans (Eq.trans ?_ (if_neg p2).symm)
  by_cases p3 : j < 1537
  · refine (dif_pos (by omega)).trans ((h2 _ _).trans (Eq.trans ?_ (if_pos p3).symm))
    exact congrArg (v (1248 + k)) (Nat.sub_sub j 768 1)
  · exact (dif_neg (by omega)).trans ((h3 _ _).trans (if_neg p3).symm)

/-- The four results as planes of sixteen lines, side by side. -/
def joined (X0 : S1248x768.Idx → EReal) (X1 : S1248x1.Idx → EReal) (X2 : S1248x768.Idx → EReal) (X3 : S1248x1.Idx → EReal) :
    S78x16x1538.Idx → EReal :=
  concatenate S78x16x1538 2 [⟨S78x16x768, fun i => shapeCast S78x16x768 X0 shapeCasts_S1248x768_S78x16x768 i⟩,
    ⟨S78x16x1, fun i => shapeCast S78x16x1 X1 shapeCasts_S1248x1_S78x16x1 i⟩,
    ⟨S78x16x768, fun i => shapeCast S78x16x768 X2 shapeCasts_S1248x768_S78x16x768 i⟩,
    ⟨S78x16x1, fun i => shapeCast S78x16x1 X3 shapeCasts_S1248x1_S78x16x1 i⟩]
    concatenates_S78x16x768_S78x16x1_S78x16x768_S78x16x1_S78x16x1538_d2

/-- The four results of the call, reshaped and joined, are the chart's rows cut by cell and sentence. -/
theorem joined_rows {X0 : S1248x768.Idx → EReal} {X1 : S1248x1.Idx → EReal} {X2 : S1248x768.Idx → EReal} {X3 : S1248x1.Idx → EReal}
    {v : ℕ → ℕ → EReal} {s : ℕ → EReal} (h0 : Rows X0 v) (h1 : Rows X1 fun i _ => s i)
    (h2 : Rows X2 fun i => v (1248 + i)) (h3 : Rows X3 fun i _ => s (1248 + i)) : joined X0 X1 X2 X3 = resultOf v s := by
  funext i
  obtain ⟨r, b, j, rfl⟩ : ∃ (r : Fin 78) (b : Fin 16) (j : Fin 1538), i = ix3 r b j := ⟨i 0, i 1, i 2, by
    funext a; match a with | ⟨0, _⟩ => rfl | ⟨1, _⟩ => rfl | ⟨2, _⟩ => rfl⟩
  unfold joined
  pointwise
  have e : 16 * r.val + b.val = r.val * 16 + b.val := by omega
  exact joined_at (j := j.val) h0 h1 h2 h3 (by omega) e j.isLt

set_option maxHeartbeats 4000000 in
/-- The last host lines make the result out of the call's four results. -/
theorem tail_v15 (U : Valuation τ sig (Elt Ideal)) :
    StableHlo.after (List.flatten [hostOps1]) U (Proc.devRef .tc main_v15)
      = joined (U (Proc.devRef .tc main_v10_0)) (U (Proc.devRef .tc main_v10_1)) (U (Proc.devRef .tc main_v10_2))
        (U (Proc.devRef .tc main_v10_3)) := by
  after_reads_simp
  have e0 : upto [hostOps1].flatten U 4 (Proc.devRef .tc main_v11)
      = fun i => shapeCast S78x16x768 (U (Proc.devRef .tc main_v10_0) : S1248x768.Idx → EReal) shapeCasts_S1248x768_S78x16x768 i := by
    after_reads_simp
    rfl
  have e1 : upto [hostOps1].flatten U 4 (Proc.devRef .tc main_v12)
      = fun i => shapeCast S78x16x1 (U (Proc.devRef .tc main_v10_1) : S1248x1.Idx → EReal) shapeCasts_S1248x1_S78x16x1 i := by
    after_reads_simp
    rfl
  have e2 : upto [hostOps1].flatten U 4 (Proc.devRef .tc main_v13)
      = fun i => shapeCast S78x16x768 (U (Proc.devRef .tc main_v10_2) : S1248x768.Idx → EReal) shapeCasts_S1248x768_S78x16x768 i := by
    after_reads_simp
    rfl
  have e3 : upto [hostOps1].flatten U 4 (Proc.devRef .tc main_v14)
      = fun i => shapeCast S78x16x1 (U (Proc.devRef .tc main_v10_3) : S1248x1.Idx → EReal) shapeCasts_S1248x1_S78x16x1 i := by
    after_reads_simp
    rfl
  unfold joined
  rw [← e0, ← e1, ← e2, ← e3]
  rfl

/-! ### Before the call -/

/-- The leaf vectors as rows: sentence after sentence within a cell. -/
theorem cast_rows {x : S12x16x768.Idx → EReal} : Rows (shapeCast S192x768 x shapeCasts_S12x16x768_S192x768) (rows x) := by
  intro i j
  pointwise
  exact (rows_split x i j (by omega) j.2).symm

/-- A vector reshaped to one row. -/
theorem cast_line {x : S768.Idx → EReal} : Rows (shapeCast S1x768 x shapeCasts_S768_S1x768) fun _ j => tab1 x j := by
  intro i j
  pointwise
  exact (tab1_at x j).symm

/-- A square matrix transposed, by its entries. -/
theorem flip_rows {x : S768x768.Idx → EReal} :
    Rows (transpose S768x768 [1, 0] x transposes_S768x768_S768x768_1_0) fun i j => tab2 x j i := by
  intro i j
  pointwise
  exact (tab2_at x j i).symm

/-- The three weight matrices side by side. -/
def wide (x : S768x1536.Idx → EReal) (y : S1x768x768.Idx → EReal) : S768x2304.Idx → EReal :=
  concatenate S768x2304 1 [⟨S768x768, extractStridedSlice S768x768 ![0, 0]
      (transpose S1536x768 [1, 0] x transposes_S768x1536_S1536x768_1_0) slices_S1536x768_S768x768_0_0⟩,
    ⟨S768x768, fun i => shapeCast S768x768 y shapeCasts_S1x768x768_S768x768 i⟩,
    ⟨S768x768, extractStridedSlice S768x768 ![768, 0]
      (transpose S1536x768 [1, 0] x transposes_S768x1536_S1536x768_1_0) slices_S1536x768_S768x768_768_0⟩]
    concatenates_S768x768_S768x768_S768x768_S768x2304_d1

/-- A table's entry at two equal places. -/
theorem tab2_eq {m n : ℕ} (x : (⟨2, ![m, n]⟩ : Shape).Idx → EReal) {p q p' q' : ℕ} (hp : p < m) (hq : q < n) (ep : p' = p) (eq' : q' = q) :
    x (ix2 ⟨p, hp⟩ ⟨q, hq⟩) = tab2 x p' q' := by
  subst ep eq'
  unfold tab2
  rw [dif_pos (And.intro hp hq)]

/-- One entry of the three weight matrices side by side. -/
theorem wide_at {x : S768x1536.Idx → EReal} {y : S1x768x768.Idx → EReal} {i j : ℕ} (hi : i < 768) (hi' : 768 + i < 1536)
    (h2 : j - 768 - 768 < 768) :
    (if h : j < 768 then x (ix2 ⟨j, by omega⟩ ⟨i, by omega⟩) else if h : j - 768 < 768 then y (ix3 0 ⟨i, hi⟩ ⟨j - 768, h⟩)
      else x (ix2 ⟨j - 768 - 768, h2⟩ ⟨768 + i, hi'⟩))
    = if j < 768 then tab2 x j i else if j < 1536 then (if h : i < 768 ∧ j - 768 < 768 then y (ix3 0 ⟨i, h.1⟩ ⟨j - 768, h.2⟩) else 0)
      else tab2 x (j - 1536) (768 + i) := by
  by_cases p1 : j < 768
  · exact (dif_pos p1).trans ((tab2_eq x _ _ rfl rfl).trans (if_pos p1).symm)
  refine (dif_neg p1).trans (Eq.trans ?_ (if_neg p1).symm)
  by_cases p2 : j < 1536
  · have p3 : j - 768 < 768 := by omega
    refine (dif_pos p3).trans (Eq.trans ?_ (if_pos p2).symm)
    rw [dif_pos (And.intro hi p3)]
  · exact (dif_neg (by omega)).trans ((tab2_eq x _ _ (by omega) rfl).trans (if_neg p2).symm)

/-- The joined weights by their entries: left half, bilinear form, right half. -/
theorem wide_rows {x : S768x1536.Idx → EReal} {y : S1x768x768.Idx → EReal} : Rows (wide x y) fun k j =>
    if j < 768 then tab2 x j k else if j < 1536 then (if h : k < 768 ∧ j - 768 < 768 then y (ix3 0 ⟨k, h.1⟩ ⟨j - 768, h.2⟩) else 0)
    else tab2 x (j - 1536) (768 + k) := by
  intro i j
  refine Eq.trans ?_ (wide_at (x := x) (y := y) (i := i.val) (j := j.val) (by omega) (by omega) (by omega))
  unfold wide
  pointwise

variable (m : (ℓ : Loc nD τ sig) → Buf (Elt Ideal) ℓ) (c : Dev nD)

/-- The tables of the arguments the kernel is launched on. -/
def kerInputs : Inputs :=
  inputsOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

set_option maxHeartbeats 4000000 in
/-- The call's leaf vectors are the word embeddings as rows. -/
theorem head_v0 : Rows (V m c main_v0 : S192x768.Idx → EReal) (kerInputs m c).we := by
  have h : V m c main_v0 = shapeCast S192x768 (m ((c.tc : Thread nD τ).loc main_arg0) : S12x16x768.Idx → EReal)
      shapeCasts_S12x16x768_S192x768 := by
    unfold V V0
    after_reads_simp
    rfl
  rw [h]
  exact cast_rows

set_option maxHeartbeats 4000000 in
/-- The call's first bias is the argument `b1`. -/
theorem head_v6 : Rows (V m c main_v6 : S1x768.Idx → EReal) fun _ j => (kerInputs m c).b1 j := by
  have h : V m c main_v6 = shapeCast S1x768 (m ((c.tc : Thread nD τ).loc main_arg2) : S768.Idx → EReal) shapeCasts_S768_S1x768 := by
    unfold V V0
    after_reads_simp
    rfl
  rw [h]
  exact cast_line

set_option maxHeartbeats 4000000 in
/-- The call's second bias is the argument `b2`. -/
theorem head_v8 : Rows (V m c main_v8 : S1x768.Idx → EReal) fun _ j => (kerInputs m c).b2 j := by
  have h : V m c main_v8 = shapeCast S1x768 (m ((c.tc : Thread nD τ).loc main_arg4) : S768.Idx → EReal) shapeCasts_S768_S1x768 := by
    unfold V V0
    after_reads_simp
    rfl
  rw [h]
  exact cast_line

set_option maxHeartbeats 4000000 in
/-- The call's root vector is the argument `root_bias`. -/
theorem head_v9 : Rows (V m c main_v9 : S1x768.Idx → EReal) fun _ j => (kerInputs m c).rb j := by
  have h : V m c main_v9 = shapeCast S1x768 (m ((c.tc : Thread nD τ).loc main_arg6) : S768.Idx → EReal) shapeCasts_S768_S1x768 := by
    unfold V V0
    after_reads_simp
    rfl
  rw [h]
  exact cast_line

set_option maxHeartbeats 4000000 in
/-- The call's second-layer weights are `W2` transposed. -/
theorem head_v7 : Rows (V m c main_v7 : S768x768.Idx → EReal) (kerInputs m c).weights.w2 := by
  have h : V m c main_v7 = transpose S768x768 [1, 0] (m ((c.tc : Thread nD τ).loc main_arg3) : S768x768.Idx → EReal)
      transposes_S768x768_S768x768_1_0 := by
    unfold V V0
    after_reads_simp
    try rfl
  rw [h]
  exact flip_rows

set_option maxHeartbeats 4000000 in
/-- The call's joined weights are made of `W1` and the bilinear form. -/
theorem head_v5 : Rows (V m c main_v5 : S768x2304.Idx → EReal) (kerInputs m c).weights.wf := by
  have h : V m c main_v5 = wide (m ((c.tc : Thread nD τ).loc main_arg1)) (m ((c.tc : Thread nD τ).loc main_arg5)) := by
    unfold V V0
    after_reads_simp
    have e0 : upto [hostOps0].flatten (fun b => m (c, b)) 5 (Proc.devRef .tc main_v2) = extractStridedSlice S768x768 ![0, 0]
        (transpose S1536x768 [1, 0] (m ((c.tc : Thread nD τ).loc main_arg1) : S768x1536.Idx → EReal) transposes_S768x1536_S1536x768_1_0)
        slices_S1536x768_S768x768_0_0 := by
      after_reads_simp
      try rfl
    have e1 : upto [hostOps0].flatten (fun b => m (c, b)) 5 (Proc.devRef .tc main_v3)
        = fun i => shapeCast S768x768 (m ((c.tc : Thread nD τ).loc main_arg5) : S1x768x768.Idx → EReal) shapeCasts_S1x768x768_S768x768 i := by
      after_reads_simp
      try rfl
    have e2 : upto [hostOps0].flatten (fun b => m (c, b)) 5 (Proc.devRef .tc main_v4) = extractStridedSlice S768x768 ![768, 0]
        (transpose S1536x768 [1, 0] (m ((c.tc : Thread nD τ).loc main_arg1) : S768x1536.Idx → EReal) transposes_S768x1536_S1536x768_1_0)
        slices_S1536x768_S768x768_768_0 := by
      after_reads_simp
      try rfl
    unfold wide
    rw [← e0, ← e1, ← e2]
    rfl
  rw [h]
  exact wide_rows

end Chart
-- ==== Proof.Chart.Call.lean ====
/-
  The kernel's call: on whole buffers it leaves the four charts in the results.
-/
module

public import proofs.«01_k».proof.Proof.Chart.Held
public import proofs.«01_k».proof.Proof.Chart.Host

@[expose] public section

set_option maxRecDepth 16384

noncomputable section

namespace Chart

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

local notation "𝕄" => MT nD τ sig Unit (Elt Ideal) ℕ (UR sig nD τ) ℕ

/-! ### Filled buffers -/

/-- A matrix filled from a table. -/
def filled {n k : ℕ} (f : ℕ → ℕ → EReal) : (mat n k).Idx → EReal := fun i => f (i 0).val (i 1).val

/-- A filled matrix holds its table. -/
theorem filled_rows {n k : ℕ} (f : ℕ → ℕ → EReal) : Rows (filled f : (mat n k).Idx → EReal) f := fun _ _ => rfl

/-- A matrix known everywhere is the filled one. -/
theorem known_all {n k : ℕ} {D : ℕ → ℕ → Prop} {f : ℕ → ℕ → EReal} {X : (mat n k).Idx → EReal} (h : Known D f X)
    (hD : ∀ i < n, ∀ j < k, D i j) : X = filled f := by
  funext i
  obtain ⟨a, b, rfl⟩ : ∃ (a : Fin n) (b : Fin k), i = ix2 a b := ⟨i 0, i 1, by
    funext x; match x with | ⟨0, _⟩ => rfl | ⟨1, _⟩ => rfl⟩
  exact h a b (hD a a.2 b b.2)

/-- Of a matrix nothing need be known. -/
theorem known_none {n k : ℕ} {D : ℕ → ℕ → Prop} {f : ℕ → ℕ → EReal} (X : (mat n k).Idx → EReal)
    (hD : ∀ i < n, ∀ j < k, ¬ D i j) : Known D f X := fun i j h => absurd h (hD i i.2 j j.2)

/-! ### The body -/

/-- The body leaves the charts, whatever the results and the scratch held before. -/
def Leaves (C : Rec) : Prop :=
  ∀ (c : Dev nD) (A : Args) (E : Set ℕ) (h0 : A.a0.IsWhole) (h1 : A.a1.IsWhole) (h2 : A.a2.IsWhole) (h3 : A.a3.IsWhole)
    (h4 : A.a4.IsWhole) (h5 : A.a5.IsWhole) (h6 : A.a6.IsWhole) (h7 : A.a7.IsWhole) (h8 : A.a8.IsWhole) (h9 : A.a9.IsWhole)
    (h10 : A.a10.IsWhole) (h11 : A.a11.IsWhole) (Q : PUnit → sProp 𝕄),
    Tr c A C E ⟨1248, 1248, 1248, 1248, 0, 0, 0⟩ (pure ⟨⟩) Q →
    Tr c A C E ⟨0, 0, 0, 0, 1248, 1248, 1248⟩
      (cc0__body (F := Ideal) A.a0 h0 A.a1 h1 A.a2 h2 A.a3 h3 A.a4 h4 A.a5 h5 A.a6 h6 A.a7 h7 A.a8 h8 A.a9 h9 A.a10 h10 A.a11 h11) Q

/-- What the body is called on: its parameters, and the results and the scratch at anything. -/
def given (c : Dev nD) (A : Args) (X0 : S192x768.Idx → EReal) (X1 : S768x2304.Idx → EReal) (X2 : S1x768.Idx → EReal)
    (X3 : S768x768.Idx → EReal) (X4 : S1x768.Idx → EReal) (X5 : S1x768.Idx → EReal) : sProp 𝕄 :=
  iprop(owns (c : Thread nD τ) A.a0 fullShare (X0 : S192x768.Idx → Elt Ideal .f32)
    ∗ owns (c : Thread nD τ) A.a1 fullShare (X1 : S768x2304.Idx → Elt Ideal .f32)
    ∗ owns (c : Thread nD τ) A.a2 fullShare (X2 : S1x768.Idx → Elt Ideal .f32)
    ∗ owns (c : Thread nD τ) A.a3 fullShare (X3 : S768x768.Idx → Elt Ideal .f32)
    ∗ owns (c : Thread nD τ) A.a4 fullShare (X4 : S1x768.Idx → Elt Ideal .f32)
    ∗ owns (c : Thread nD τ) A.a5 fullShare (X5 : S1x768.Idx → Elt Ideal .f32)
    ∗ (∃ d, owns (c : Thread nD τ) A.a6 fullShare d) ∗ (∃ d, owns (c : Thread nD τ) A.a7 fullShare d)
    ∗ (∃ d, owns (c : Thread nD τ) A.a8 fullShare d) ∗ (∃ d, owns (c : Thread nD τ) A.a9 fullShare d)
    ∗ (∃ d, owns (c : Thread nD τ) A.a10 fullShare d) ∗ (∃ d, owns (c : Thread nD τ) A.a11 fullShare d))

/-- What the body returns: its parameters, the four charts, and the scratch at anything. -/
def returned (c : Dev nD) (A : Args) (C : Rec) (X0 : S192x768.Idx → EReal) (X1 : S768x2304.Idx → EReal) (X2 : S1x768.Idx → EReal)
    (X3 : S768x768.Idx → EReal) (X4 : S1x768.Idx → EReal) (X5 : S1x768.Idx → EReal) : sProp 𝕄 :=
  iprop(owns (c : Thread nD τ) A.a0 fullShare (X0 : S192x768.Idx → Elt Ideal .f32)
    ∗ owns (c : Thread nD τ) A.a1 fullShare (X1 : S768x2304.Idx → Elt Ideal .f32)
    ∗ owns (c : Thread nD τ) A.a2 fullShare (X2 : S1x768.Idx → Elt Ideal .f32)
    ∗ owns (c : Thread nD τ) A.a3 fullShare (X3 : S768x768.Idx → Elt Ideal .f32)
    ∗ owns (c : Thread nD τ) A.a4 fullShare (X4 : S1x768.Idx → Elt Ideal .f32)
    ∗ owns (c : Thread nD τ) A.a5 fullShare (X5 : S1x768.Idx → Elt Ideal .f32)
    ∗ owns (c : Thread nD τ) A.a6 fullShare (filled C.iv : S1248x768.Idx → Elt Ideal .f32)
    ∗ owns (c : Thread nD τ) A.a7 fullShare (filled fun i _ => C.ix i : S1248x1.Idx → Elt Ideal .f32)
    ∗ owns (c : Thread nD τ) A.a8 fullShare (filled C.ov : S1248x768.Idx → Elt Ideal .f32)
    ∗ owns (c : Thread nD τ) A.a9 fullShare (filled fun i _ => C.ox i : S1248x1.Idx → Elt Ideal .f32)
    ∗ (∃ d, owns (c : Thread nD τ) A.a10 fullShare d) ∗ (∃ d, owns (c : Thread nD τ) A.a11 fullShare d))

/-- A buffer that can only hold `X` holds it. -/
theorem owns_of_sat {c : Thread nD τ} {sp : Space} {sh : Shape} {e : EltTy} {m : Memref sig c.2.kind sp sh e}
    {Φ : (sh.Idx → Elt Ideal e) → Prop} {X : sh.Idx → Elt Ideal e} (h : ∀ Y, Φ Y → Y = X) :
    (ownsSat c m fullShare Φ : sProp 𝕄) ⊢ owns c m fullShare X :=
  ownsSat_mono c m fullShare h

/-- A buffer of which something is known is held at some contents. -/
theorem owns_of_any {c : Thread nD τ} {sp : Space} {sh : Shape} {e : EltTy} {m : Memref sig c.2.kind sp sh e}
    {Φ : (sh.Idx → Elt Ideal e) → Prop} : (ownsSat c m fullShare Φ : sProp 𝕄) ⊢ iprop(∃ X, owns c m fullShare X) :=
  ownsSat_any c m fullShare

/-- Two matrices holding the same table are the same. -/
theorem rows_unique {n k : ℕ} {f : ℕ → ℕ → EReal} {X Y : (mat n k).Idx → EReal} (hX : Rows X f) (hY : Rows Y f) : X = Y :=
  (known_all (D := fun _ _ => True) (fun i j _ => hX i j) fun _ _ _ _ => trivial).trans
    (known_all (D := fun _ _ => True) (fun i j _ => hY i j) fun _ _ _ _ => trivial).symm

variable {C : Rec} {c : Dev nD} {A : Args} {X0 : S192x768.Idx → EReal} {X1 : S768x2304.Idx → EReal} {X2 : S1x768.Idx → EReal}
  {X3 : S768x768.Idx → EReal} {X4 : S1x768.Idx → EReal} {X5 : S1x768.Idx → EReal}

/-- At the start only the parameters are known. -/
theorem parts_start (r0 : Rows X0 C.we) (r1 : Rows X1 C.wf) (r2 : Rows X2 fun _ j => C.b1 j)
    (r3 : Rows X3 C.w2) (r4 : Rows X4 fun _ j => C.b2 j) (r5 : Rows X5 fun _ j => C.rb j) :
    given c A X0 X1 X2 X3 X4 X5 ⊢ all (parts c A C ⟨0, 0, 0, 0, 1248, 1248, 1248⟩) := by
  unfold given parts all all all all all all all all all all all all all
  iintro ⟨H0, H1, H2, H3, H4, H5, ⟨%d6, H6⟩, ⟨%d7, H7⟩, ⟨%d8, H8⟩, ⟨%d9, H9⟩, ⟨%d10, H10⟩, ⟨%d11, H11⟩⟩
  isplitl [H0]; · iapply (ownsSat_intro (c : Thread nD τ) A.a0 fullShare r0); iexact H0
  isplitl [H1]; · iapply (ownsSat_intro (c : Thread nD τ) A.a1 fullShare r1); iexact H1
  isplitl [H2]; · iapply (ownsSat_intro (c : Thread nD τ) A.a2 fullShare r2); iexact H2
  isplitl [H3]; · iapply (ownsSat_intro (c : Thread nD τ) A.a3 fullShare r3); iexact H3
  isplitl [H4]; · iapply (ownsSat_intro (c : Thread nD τ) A.a4 fullShare r4); iexact H4
  isplitl [H5]; · iapply (ownsSat_intro (c : Thread nD τ) A.a5 fullShare r5); iexact H5
  isplitl [H6]; · iapply (ownsSat_intro (c : Thread nD τ) A.a6 fullShare (known_none d6 fun i _ j _ => Nat.not_lt_zero i)); iexact H6
  isplitl [H7]; · iapply (ownsSat_intro (c : Thread nD τ) A.a7 fullShare (known_none d7 fun i _ j _ => Nat.not_lt_zero i)); iexact H7
  isplitl [H8]; · iapply (ownsSat_intro (c : Thread nD τ) A.a8 fullShare (known_none d8 fun i hi j _ => Nat.not_le.mpr hi)); iexact H8
  isplitl [H9]; · iapply (ownsSat_intro (c : Thread nD τ) A.a9 fullShare (known_none d9 fun i hi j _ => Nat.not_le.mpr hi)); iexact H9
  isplitl [H10]
  · iapply (ownsSat_intro (c : Thread nD τ) A.a10 fullShare (known_none d10 fun i _ j _ h => by
      rcases h with h | h <;> exact Nat.not_lt_zero i h.2)); iexact H10
  isplitl [H11]; · iapply (ownsSat_intro (c : Thread nD τ) A.a11 fullShare (known_none d11 fun i hi j _ => Nat.not_le.mpr hi)); iexact H11
  iempintro

/-- At the end everything is known of the results. -/
theorem parts_end (r0 : Rows X0 C.we) (r1 : Rows X1 C.wf) (r2 : Rows X2 fun _ j => C.b1 j)
    (r3 : Rows X3 C.w2) (r4 : Rows X4 fun _ j => C.b2 j) (r5 : Rows X5 fun _ j => C.rb j) :
    all (parts c A C ⟨1248, 1248, 1248, 1248, 0, 0, 0⟩) ⊢ returned c A C X0 X1 X2 X3 X4 X5 := by
  unfold returned parts all all all all all all all all all all all all all
  iintro ⟨H0, H1, H2, H3, H4, H5, H6, H7, H8, H9, H10, H11, He⟩
  isplitl [H0]; · iapply (owns_of_sat fun Y hY => rows_unique hY r0); iexact H0
  isplitl [H1]; · iapply (owns_of_sat fun Y hY => rows_unique hY r1); iexact H1
  isplitl [H2]; · iapply (owns_of_sat fun Y hY => rows_unique hY r2); iexact H2
  isplitl [H3]; · iapply (owns_of_sat fun Y hY => rows_unique hY r3); iexact H3
  isplitl [H4]; · iapply (owns_of_sat fun Y hY => rows_unique hY r4); iexact H4
  isplitl [H5]; · iapply (owns_of_sat fun Y hY => rows_unique hY r5); iexact H5
  isplitl [H6]; · iapply (owns_of_sat fun Y hY => known_all hY fun i hi j _ => hi); iexact H6
  isplitl [H7]; · iapply (owns_of_sat fun Y hY => known_all hY fun i hi j _ => hi); iexact H7
  isplitl [H8]; · iapply (owns_of_sat fun Y hY => known_all hY fun i _ j _ => Nat.zero_le i); iexact H8
  isplitl [H9]; · iapply (owns_of_sat fun Y hY => known_all hY fun i _ j _ => Nat.zero_le i); iexact H9
  isplitl [H10]; · iapply owns_of_any; iexact H10
  iapply owns_of_any; iexact H11

/-- The body, from what it is called on to what it returns, whatever else there is. -/
theorem body_spec (hL : Leaves C) (E : Set ℕ) (h0 : A.a0.IsWhole) (h1 : A.a1.IsWhole)
    (h2 : A.a2.IsWhole) (h3 : A.a3.IsWhole) (h4 : A.a4.IsWhole) (h5 : A.a5.IsWhole) (h6 : A.a6.IsWhole) (h7 : A.a7.IsWhole)
    (h8 : A.a8.IsWhole) (h9 : A.a9.IsWhole) (h10 : A.a10.IsWhole) (h11 : A.a11.IsWhole)
    (r0 : Rows X0 C.we) (r1 : Rows X1 C.wf) (r2 : Rows X2 fun _ j => C.b1 j)
    (r3 : Rows X3 C.w2) (r4 : Rows X4 fun _ j => C.b2 j) (r5 : Rows X5 fun _ j => C.rb j) (R : sProp 𝕄)
    (p : Prog (TpuEff nD τ sig (Elt Ideal) Λ₀ .tc) PUnit) (hp : cc0__body (F := Ideal) A.a0 h0 A.a1 h1 A.a2 h2 A.a3 h3 A.a4 h4
      A.a5 h5 A.a6 h6 A.a7 h7 A.a8 h8 A.a9 h9 A.a10 h10 A.a11 h11 = p) :
    iprop(given c A X0 X1 X2 X3 X4 X5 ∗ R) ⊢ wp frame (wpE (defs₀ (F := Ideal)) Variants.none (c : Thread nD τ) none) E p
      fun _ => iprop(returned c A C X0 X1 X2 X3 X4 X5 ∗ R) := by
  have key := hL c A E h0 h1 h2 h3 h4 h5 h6 h7 h8 h9 h10 h11
    (fun _ => returned c A C X0 X1 X2 X3 X4 X5) (by
      unfold Tr
      rw [wp_pure]
      exact (parts_end r0 r1 r2 r3 r4 r5).trans fupd_intro)
  unfold Tr at key
  rw [hp] at key
  clear hp
  exact (sep_mono_left ((parts_start r0 r1 r2 r3 r4 r5).trans key)).trans (wp_frame_r _ _ _)

end Chart
-- ==== Proof.Chart.Launch.lean ====
/-
  The launch of the kernel: each window is the whole of its array, so the call's result arrays end as the four charts, and
  the kernel's result is the one made of them.
-/
module

public import proofs.«01_k».proof.Proof.Chart.Call
public import proofs.«01_k».proof.Proof.Chart.Host

@[expose] public section

set_option maxRecDepth 16384

noncomputable section

namespace Chart

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

local notation "𝕄" => MT nD τ sig Unit (Elt Ideal) ℕ (UR sig nD τ) ℕ

/-! ### The windows -/

/-- Every window's block begins at zero on every axis. -/
theorem offset_zero : ∀ (w : Fin cfg0.W) (t : Fin cfg0.N) (a : Fin (cfg0.win w).shape.rank),
    (cfg0.win w).kind.off ((cfg0.win w).index t a) ((cfg0.win w).size a) = 0 :=
  (by decide +kernel : ∀ (w : Fin 10) (t : Fin grid0.N) (a : Fin (cfg0.win w).shape.rank),
    (cfg0.win w).kind.off ((cfg0.win w).index t a) ((cfg0.win w).size a) = 0)

/-- So an index of a window's block is the same index of its array. -/
theorem block_val (w : Fin cfg0.W) (t : Fin cfg0.N) (j : ((cfg0.win w).xblock (cfg0.grid.coords t)).Idx)
    (a : Fin (cfg0.win w).shape.rank) : ((((cfg0.win w).rect t).emb j) a).val = (j a).val := by
  show (cfg0.win w).kind.off ((cfg0.win w).index t a) ((cfg0.win w).size a) + 1 * (j a).val = (j a).val
  rw [offset_zero, Nat.zero_add, Nat.one_mul]

variable (m : (ℓ : Loc nD τ sig) → Buf (Elt Ideal) ℓ) (ρ : Dev nD → PrngReg)

/-- The block of operand 0 is the whole operand, the leaf vectors. -/
theorem block0 (c : Dev nD) (t : Fin cfg0.N) : iblk m c 0 t = V m c main_v0 := by
  funext j
  show V m c main_v0 (((cfg0.win 0).blk t).view.emb j) = V m c main_v0 j
  exact congrArg (V m c main_v0) (funext fun a => Fin.ext (block_val 0 t j a))

/-- The block of operand 1 is the whole operand, the joined first-layer and bilinear weights. -/
theorem block1 (c : Dev nD) (t : Fin cfg0.N) : iblk m c 1 t = V m c main_v5 := by
  funext j
  show V m c main_v5 (((cfg0.win 1).blk t).view.emb j) = V m c main_v5 j
  exact congrArg (V m c main_v5) (funext fun a => Fin.ext (block_val 1 t j a))

/-- The block of operand 2 is the whole operand, the first bias. -/
theorem block2 (c : Dev nD) (t : Fin cfg0.N) : iblk m c 2 t = V m c main_v6 := by
  funext j
  show V m c main_v6 (((cfg0.win 2).blk t).view.emb j) = V m c main_v6 j
  exact congrArg (V m c main_v6) (funext fun a => Fin.ext (block_val 2 t j a))

/-- The block of operand 3 is the whole operand, the second-layer weights. -/
theorem block3 (c : Dev nD) (t : Fin cfg0.N) : iblk m c 3 t = V m c main_v7 := by
  funext j
  show V m c main_v7 (((cfg0.win 3).blk t).view.emb j) = V m c main_v7 j
  exact congrArg (V m c main_v7) (funext fun a => Fin.ext (block_val 3 t j a))

/-- The block of operand 4 is the whole operand, the second bias. -/
theorem block4 (c : Dev nD) (t : Fin cfg0.N) : iblk m c 4 t = V m c main_v8 := by
  funext j
  show V m c main_v8 (((cfg0.win 4).blk t).view.emb j) = V m c main_v8 j
  exact congrArg (V m c main_v8) (funext fun a => Fin.ext (block_val 4 t j a))

/-- The block of operand 5 is the whole operand, the root vector. -/
theorem block5 (c : Dev nD) (t : Fin cfg0.N) : iblk m c 5 t = V m c main_v9 := by
  funext j
  show V m c main_v9 (((cfg0.win 5).blk t).view.emb j) = V m c main_v9 j
  exact congrArg (V m c main_v9) (funext fun a => Fin.ext (block_val 5 t j a))

/-- The chart's parameters are what the call is handed. -/
structure Params (c : Dev nD) (C : Rec) : Prop where
  r0 : Rows (V m c main_v0 : S192x768.Idx → EReal) C.we
  r1 : Rows (V m c main_v5 : S768x2304.Idx → EReal) C.wf
  r2 : Rows (V m c main_v6 : S1x768.Idx → EReal) fun _ j => C.b1 j
  r3 : Rows (V m c main_v7 : S768x768.Idx → EReal) C.w2
  r4 : Rows (V m c main_v8 : S1x768.Idx → EReal) fun _ j => C.b2 j
  r5 : Rows (V m c main_v9 : S1x768.Idx → EReal) fun _ j => C.rb j

/-! ### The data of the run -/

variable (C : Dev nD → Rec)

/-- What every window's buffer holds after the body: an input's its block, a result's its chart. -/
def data (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (filled (C c).iv : S1248x768.Idx → EReal)
    | ⟨7, _⟩ => (filled fun i _ => (C c).ix i : S1248x1.Idx → EReal)
    | ⟨8, _⟩ => (filled (C c).ov : S1248x768.Idx → EReal)
    | ⟨9, _⟩ => (filled fun i _ => (C c).ox i : S1248x1.Idx → EReal)
  Φ _ := Pipeline.ΦA spec0 c
  q _ := fullShare
  owed _ := 0

/-- Every operand enters the call with the value that the host lines give it. -/
theorem data_A (c : Dev nD) (w : Fin cfg0.W) : (data m C 0 c).A w = V m c (Pipeline.arrRef spec0 w) := by
  dsimp only [data]

/-- The body leaves the buffer of operand 0, the leaf vectors, as it found it. -/
theorem after0 (c : Dev nD) (t : Fin cfg0.N) : (data m C 0 c).after 0 t = iblk m c 0 t := by dsimp only [data]
/-- The body leaves the buffer of operand 1, the joined first-layer and bilinear weights, as it found it. -/
theorem after1 (c : Dev nD) (t : Fin cfg0.N) : (data m C 0 c).after 1 t = iblk m c 1 t := by dsimp only [data]
/-- The body leaves the buffer of operand 2, the first bias, as it found it. -/
theorem after2 (c : Dev nD) (t : Fin cfg0.N) : (data m C 0 c).after 2 t = iblk m c 2 t := by dsimp only [data]
/-- The body leaves the buffer of operand 3, the second-layer weights, as it found it. -/
theorem after3 (c : Dev nD) (t : Fin cfg0.N) : (data m C 0 c).after 3 t = iblk m c 3 t := by dsimp only [data]
/-- The body leaves the buffer of operand 4, the second bias, as it found it. -/
theorem after4 (c : Dev nD) (t : Fin cfg0.N) : (data m C 0 c).after 4 t = iblk m c 4 t := by dsimp only [data]
/-- The body leaves the buffer of operand 5, the root vector, as it found it. -/
theorem after5 (c : Dev nD) (t : Fin cfg0.N) : (data m C 0 c).after 5 t = iblk m c 5 t := by dsimp only [data]
/-- The body leaves the chart's inside vectors in the buffer of result 0. -/
theorem after6 (c : Dev nD) (t : Fin cfg0.N) : (data m C 0 c).after 6 t = (filled (C c).iv : S1248x768.Idx → EReal) := by dsimp only [data]
/-- The body leaves the chart's inside scores in the buffer of result 1. -/
theorem after7 (c : Dev nD) (t : Fin cfg0.N) : (data m C 0 c).after 7 t = (filled fun i _ => (C c).ix i : S1248x1.Idx → EReal) := by dsimp only [data]
/-- The body leaves the chart's outside vectors in the buffer of result 2. -/
theorem after8 (c : Dev nD) (t : Fin cfg0.N) : (data m C 0 c).after 8 t = (filled (C c).ov : S1248x768.Idx → EReal) := by dsimp only [data]
/-- The body leaves the chart's outside scores in the buffer of result 3. -/
theorem after9 (c : Dev nD) (t : Fin cfg0.N) : (data m C 0 c).after 9 t = (filled fun i _ => (C c).ox i : S1248x1.Idx → EReal) := by dsimp only [data]

/-- The body finds the leaf vectors in the buffer of operand 0. -/
theorem before0 (c : Dev nD) (t : Fin cfg0.N) (d) : (data m C 0 c).before 0 t d = V m c main_v0 :=
  (before0_0_of m (data m C 0 c) (data_A m C c 0) (after0 m C c) t d).trans (block0 m c t)
/-- The body finds the joined first-layer and bilinear weights in the buffer of operand 1. -/
theorem before1 (c : Dev nD) (t : Fin cfg0.N) (d) : (data m C 0 c).before 1 t d = V m c main_v5 :=
  (before0_1_of m (data m C 0 c) (data_A m C c 1) (after1 m C c) t d).trans (block1 m c t)
/-- The body finds the first bias in the buffer of operand 2. -/
theorem before2 (c : Dev nD) (t : Fin cfg0.N) (d) : (data m C 0 c).before 2 t d = V m c main_v6 :=
  (before0_2_of m (data m C 0 c) (data_A m C c 2) (after2 m C c) t d).trans (block2 m c t)
/-- The body finds the second-layer weights in the buffer of operand 3. -/
theorem before3 (c : Dev nD) (t : Fin cfg0.N) (d) : (data m C 0 c).before 3 t d = V m c main_v7 :=
  (before0_3_of m (data m C 0 c) (data_A m C c 3) (after3 m C c) t d).trans (block3 m c t)
/-- The body finds the second bias in the buffer of operand 4. -/
theorem before4 (c : Dev nD) (t : Fin cfg0.N) (d) : (data m C 0 c).before 4 t d = V m c main_v8 :=
  (before0_4_of m (data m C 0 c) (data_A m C c 4) (after4 m C c) t d).trans (block4 m c t)
/-- The body finds the root vector in the buffer of operand 5. -/
theorem before5 (c : Dev nD) (t : Fin cfg0.N) (d) : (data m C 0 c).before 5 t d = V m c main_v9 :=
  (before0_5_of m (data m C 0 c) (data_A m C c 5) (after5 m C c) t d).trans (block5 m c t)

/-- The buffers the body is called on at a grid point. -/
def args (t : Fin cfg0.N) : Args :=
  ⟨ms0_0 t, ms0_1 t, ms0_2 t, ms0_3 t, ms0_4 t, ms0_5 t, ms0_6 t, ms0_7 t, ms0_8 t, ms0_9 t, scM0_0, scM0_1⟩

/-- What the body is called with at a grid point. -/
def before (c : Dev nD) (t : Fin cfg0.N) : sProp 𝕄 :=
  iprop((data m C 0 c).Φ t.castSucc ∗ (data m C 0 c).owesAt () t.castSucc
    ∗ (∃ d, owns (c : Thread nD τ) (ms0_0 t) fullShare ((data m C 0 c).before 0 t d))
    ∗ (∃ d, owns (c : Thread nD τ) (ms0_1 t) fullShare ((data m C 0 c).before 1 t d))
    ∗ (∃ d, owns (c : Thread nD τ) (ms0_2 t) fullShare ((data m C 0 c).before 2 t d))
    ∗ (∃ d, owns (c : Thread nD τ) (ms0_3 t) fullShare ((data m C 0 c).before 3 t d))
    ∗ (∃ d, owns (c : Thread nD τ) (ms0_4 t) fullShare ((data m C 0 c).before 4 t d))
    ∗ (∃ d, owns (c : Thread nD τ) (ms0_5 t) fullShare ((data m C 0 c).before 5 t d))
    ∗ (∃ d, owns (c : Thread nD τ) (ms0_6 t) fullShare ((data m C 0 c).before 6 t d))
    ∗ (∃ d, owns (c : Thread nD τ) (ms0_7 t) fullShare ((data m C 0 c).before 7 t d))
    ∗ (∃ d, owns (c : Thread nD τ) (ms0_8 t) fullShare ((data m C 0 c).before 8 t d))
    ∗ (∃ d, owns (c : Thread nD τ) (ms0_9 t) fullShare ((data m C 0 c).before 9 t d)))

/-- What it returns. -/
def after (c : Dev nD) (t : Fin cfg0.N) : sProp 𝕄 :=
  iprop((data m C 0 c).Φ t.succ ∗ (data m C 0 c).owesAt () t.succ
    ∗ owns (c : Thread nD τ) (ms0_0 t) fullShare ((data m C 0 c).after 0 t)
    ∗ owns (c : Thread nD τ) (ms0_1 t) fullShare ((data m C 0 c).after 1 t)
    ∗ owns (c : Thread nD τ) (ms0_2 t) fullShare ((data m C 0 c).after 2 t)
    ∗ owns (c : Thread nD τ) (ms0_3 t) fullShare ((data m C 0 c).after 3 t)
    ∗ owns (c : Thread nD τ) (ms0_4 t) fullShare ((data m C 0 c).after 4 t)
    ∗ owns (c : Thread nD τ) (ms0_5 t) fullShare ((data m C 0 c).after 5 t)
    ∗ owns (c : Thread nD τ) (ms0_6 t) fullShare ((data m C 0 c).after 6 t)
    ∗ owns (c : Thread nD τ) (ms0_7 t) fullShare ((data m C 0 c).after 7 t)
    ∗ owns (c : Thread nD τ) (ms0_8 t) fullShare ((data m C 0 c).after 8 t)
    ∗ owns (c : Thread nD τ) (ms0_9 t) fullShare ((data m C 0 c).after 9 t))

variable {C} (hL : ∀ c, Leaves (C c)) (hp : ∀ c, Params m c (C c))
include hL hp

/-- The body takes the windows' buffers from their blocks to the charts. -/
theorem body_at (c : Dev nD) (t : Fin cfg0.N) :
    before m C c t ⊢ wp frame (wpE (defs₀ (F := Ideal)) Variants.none c none) Set.univ (bodyAt0 t) (fun _ => after m C c t) := by
  have spec := body_spec (c := c) (A := args t) (hL c) Set.univ (hs0_0 t) (hs0_1 t) (hs0_2 t) (hs0_3 t) (hs0_4 t) (hs0_5 t) (hs0_6 t) (hs0_7 t)
    (hs0_8 t) (hs0_9 t) (Memref.isWhole_whole _) (Memref.isWhole_whole _) (hp c).r0 (hp c).r1 (hp c).r2 (hp c).r3 (hp c).r4 (hp c).r5
    (iprop((∃ r, prngReg c r) ∗ (data m C 0 c).owesAt () t.castSucc)) (bodyAt0 (F := Ideal) t) rfl
  generalize bodyAt0 (F := Ideal) t = p at spec ⊢
  refine BIBase.Entails.trans ?_ (spec.trans (wp_mono _ _ _ fun _ => ?_))
  · unfold before given args
    simp only [before0, before1, before2, before3, before4, before5]
    rw [show (data m C 0 c).Φ t.castSucc = Pipeline.ΦA spec0 c from rfl, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    isplitr [Hg Ho]
    swap
    · isplitl [Hg]; · iexact Hg
      iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iexact HS1
  · unfold after returned args
    rw [show (data m C 0 c).Φ t.succ = Pipeline.ΦA spec0 c from rfl, PhiA0_eq,
      show (data m C 0 c).owesAt () t.succ = (data m C 0 c).owesAt () t.castSucc from rfl, after0, after1, after2, after3, after4, after5, after6, after7, after8, after9, block0, block1, block2, block3, block4, block5]
    iintro ⟨⟨H0, H1, H2, H3, H4, H5, H6, H7, H8, H9, HS0, HS1⟩, Hg, Ho⟩
    isplitl [HS0 HS1 Hg]
    · isplitr [Hg]
      swap; · iexact Hg
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body keeps its part of the call's contract. -/
theorem obligation (c : Dev nD) : BodyObligation (data m C 0 c) (defs₀ (F := Ideal)) Variants.none () Set.univ := fun t => by
  rw [bigSep_W0, bigSep_W0, defs₀_row]
  exact triple_restated (body_at m hL hp c t) rfl .rfl fun _ => .rfl

omit hL hp

/-- The block of the inside vectors is the whole array: each place stands for itself. -/
theorem emb6 (t : Fin cfg0.N) (i : S1248x768.Idx) : ((cfg0.win 6).blk t).view.emb i = i :=
  funext fun a => Fin.ext (block_val 6 t i a)

/-- Every place of the inside vectors is written back. -/
theorem covered6 (i : S1248x768.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

/-- After the call the array of the inside vectors holds the chart's inside vectors. -/
theorem final6 (c : Dev nD) : (data m C 0 c).arrAt 6 cfg0.N = (filled (C c).iv : S1248x768.Idx → EReal) := by
  refine (data m C 0 c).arrAt_eq_of_cover 6 (filled (C c).iv : S1248x768.Idx → EReal) (fun t _ => ?_) covered6
  show (cfg0.win 6).cut (cfg0.grid.coords t) ((data m C 0 c).after 6 t) = _
  rw [after6]
  funext j
  show (filled (C c).iv : S1248x768.Idx → EReal) j = (filled (C c).iv : S1248x768.Idx → EReal) (((cfg0.win 6).blk t).view.emb j)
  rw [emb6]

/-- The block of the inside scores is the whole array: each place stands for itself. -/
theorem emb7 (t : Fin cfg0.N) (i : S1248x1.Idx) : ((cfg0.win 7).blk t).view.emb i = i :=
  funext fun a => Fin.ext (block_val 7 t i a)

/-- Every place of the inside scores is written back. -/
theorem covered7 (i : S1248x1.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

/-- After the call the array of the inside scores holds the chart's inside scores. -/
theorem final7 (c : Dev nD) : (data m C 0 c).arrAt 7 cfg0.N = (filled fun i _ => (C c).ix i : S1248x1.Idx → EReal) := by
  refine (data m C 0 c).arrAt_eq_of_cover 7 (filled fun i _ => (C c).ix i : S1248x1.Idx → EReal) (fun t _ => ?_) covered7
  show (cfg0.win 7).cut (cfg0.grid.coords t) ((data m C 0 c).after 7 t) = _
  rw [after7]
  funext j
  show (filled fun i _ => (C c).ix i : S1248x1.Idx → EReal) j = (filled fun i _ => (C c).ix i : S1248x1.Idx → EReal) (((cfg0.win 7).blk t).view.emb j)
  rw [emb7]

/-- The block of the outside vectors is the whole array: each place stands for itself. -/
theorem emb8 (t : Fin cfg0.N) (i : S1248x768.Idx) : ((cfg0.win 8).blk t).view.emb i = i :=
  funext fun a => Fin.ext (block_val 8 t i a)

/-- Every place of the outside vectors is written back. -/
theorem covered8 (i : S1248x768.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩

/-- After the call the array of the outside vectors holds the chart's outside vectors. -/
theorem final8 (c : Dev nD) : (data m C 0 c).arrAt 8 cfg0.N = (filled (C c).ov : S1248x768.Idx → EReal) := by
  refine (data m C 0 c).arrAt_eq_of_cover 8 (filled (C c).ov : S1248x768.Idx → EReal) (fun t _ => ?_) covered8
  show (cfg0.win 8).cut (cfg0.grid.coords t) ((data m C 0 c).after 8 t) = _
  rw [after8]
  funext j
  show (filled (C c).ov : S1248x768.Idx → EReal) j = (filled (C c).ov : S1248x768.Idx → EReal) (((cfg0.win 8).blk t).view.emb j)
  rw [emb8]

/-- The block of the outside scores is the whole array: each place stands for itself. -/
theorem emb9 (t : Fin cfg0.N) (i : S1248x1.Idx) : ((cfg0.win 9).blk t).view.emb i = i :=
  funext fun a => Fin.ext (block_val 9 t i a)

/-- Every place of the outside scores is written back. -/
theorem covered9 (i : S1248x1.Idx) : ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩

/-- After the call the array of the outside scores holds the chart's outside scores. -/
theorem final9 (c : Dev nD) : (data m C 0 c).arrAt 9 cfg0.N = (filled fun i _ => (C c).ox i : S1248x1.Idx → EReal) := by
  refine (data m C 0 c).arrAt_eq_of_cover 9 (filled fun i _ => (C c).ox i : S1248x1.Idx → EReal) (fun t _ => ?_) covered9
  show (cfg0.win 9).cut (cfg0.grid.coords t) ((data m C 0 c).after 9 t) = _
  rw [after9]
  funext j
  show (filled fun i _ => (C c).ox i : S1248x1.Idx → EReal) j = (filled fun i _ => (C c).ox i : S1248x1.Idx → EReal) (((cfg0.win 9).blk t).view.emb j)
  rw [emb9]

include hL hp

-- the implicit arguments of the run rule are found by unfolding plain definitions in a metavariable's type
set_option backward.isDefEq.respectTransparency.types false in
set_option maxHeartbeats 800000 in
/-- The whole program from any memory: every array ends as the data says. -/
theorem run_data : θ_run defs (onTc (τ := τ) (main (F := Ideal))) (s₀ m ρ)
    (fun r => (Pipeline.FramePost cfgs (data m C) 0 (Pipeline.afterTail₀ cfgs (data m C) 0 (V0 m) [hostOps1])) r ∧ r.2.sem = fun _ => 0) :=
  Pipeline.θ_run_frame_around (Q' := _) cfgs (data m C) (0 : Fin 1) launch0 defs₀ Variants.none m ρ main
    (hbody := fun c => (obligation m hL hp c).loose) (hshare := fun c => (data m C 0 c).share_full fun _ => rfl)
    (howed := fun _ _ => rfl) (V₀ := V0 m) (opss := [hostOps1]) (hsub := sfx_sub) (hfresh := sfx_fresh) (hkeep := sfx_keeps)
    (hmain := hmain m Variants.none) (hA := data_A m C) (hΦ := fun _ _ => rfl)

omit hL hp in
/-- No two operands or results of the call are the same array. -/
theorem windows_distinct : Function.Injective (Pipeline.arrRef spec0) := by decide

omit hL hp in
/-- What the lines after the call make of the four charts. -/
theorem result_eq {v : Dev nD → ℕ → ℕ → EReal} {s : Dev nD → ℕ → EReal} (hiv : ∀ c, (C c).iv = v c) (hix : ∀ c, (C c).ix = s c)
    (hov : ∀ c, (C c).ov = fun i => v c (1248 + i)) (hox : ∀ c, (C c).ox = fun i => s c (1248 + i)) (c : Dev nD) :
    Pipeline.afterTail₀ cfgs (data m C) 0 (V0 m) [hostOps1] c main_v15 = resultOf (v c) (s c) := by
  have a (w) := Pipeline.withArrays_arr spec0 windows_distinct c (V0 m c) (fun w => (data m C 0 c).arrAt w cfg0.N) w
  unfold Pipeline.afterTail₀
  rw [tail_v15]
  refine joined_rows ?_ ?_ ?_ ?_
  · intro i j
    refine (congrFun ((a 6).trans (final6 m c)) (ix2 i j)).trans ?_
    show (C c).iv i j = _
    rw [hiv]
  · intro i j
    refine (congrFun ((a 7).trans (final7 m c)) (ix2 i j)).trans ?_
    show (C c).ix i = _
    rw [hix]
  · intro i j
    refine (congrFun ((a 8).trans (final8 m c)) (ix2 i j)).trans ?_
    show (C c).ov i j = _
    rw [hov]
  · intro i j
    refine (congrFun ((a 9).trans (final9 m c)) (ix2 i j)).trans ?_
    show (C c).ox i = _
    rw [hox]

/-- The kernel from any memory: the result is made of the charts, and the arguments are unchanged. -/
theorem kernel_value {v : Dev nD → ℕ → ℕ → EReal} {s : Dev nD → ℕ → EReal} (hiv : ∀ c, (C c).iv = v c) (hix : ∀ c, (C c).ix = s c)
    (hov : ∀ c, (C c).ov = fun i => v c (1248 + i)) (hox : ∀ c, (C c).ox = fun i => s c (1248 + i)) :
    θ_run defs (onTc (τ := τ) (main (F := Ideal))) ⟨m, fun _ => 0, ρ⟩ fun r =>
      ∀ c : Dev nD, r.2.mem ((c.tc : Thread nD τ).loc main_v15) = resultOf (v c) (s c) :=
  (θ_run defs _ _).mono (fun _ h c => ((h.1 c).2 main_v15 (Pipeline.mem_restRefs_of main_v15 (by decide) (by decide))).trans
    (result_eq m hiv hix hov hox c)) (run_data m ρ hL hp)

end Chart
-- ==== Proof.Chart.Gather.lean ====
/-
  A gather of whole planes of a rank-3 array, and an update of one plane, read at an index.
-/
module

public import Idealize.ShloMosaic.Lib.Pointwise
public import Idealize.ShloMosaic.Lib.ValueIdxCore

@[expose] public section

noncomputable section

namespace Chart

open Idealize.ShloMosaic Idealize.ShloMosaic.Pointwise

variable {α : Type}

/-- The dimension numbers of `x[rows]` for an `x` of `N` planes and `R` row numbers. -/
abbrev planeDims (N R B C : ℕ)
    (wf : GatherDims.WF ⟨3, ![N, B, C]⟩ ⟨2, ![R, 1]⟩ ⟨3, ![R, B, C]⟩ [1, 2] [0] [] [0] [] 1 ![1, B, C]) :
    GatherDims ⟨3, ![N, B, C]⟩ ⟨2, ![R, 1]⟩ ⟨3, ![R, B, C]⟩ where
  offsetDims := [1, 2]
  collapsedSliceDims := [0]
  operandBatchingDims := []
  startIndicesBatchingDims := []
  startIndexMap := [0]
  indexVectorDim := 1
  sliceSizes := ![1, B, C]
  wf := wf

/-- Plane `k` of `x[rows]` is the plane of `x` that row number `k` names. -/
theorem gather_plane {N R B C w : ℕ}
    (wf : GatherDims.WF ⟨3, ![N, B, C]⟩ ⟨2, ![R, 1]⟩ ⟨3, ![R, B, C]⟩ [1, 2] [0] [] [0] [] 1 ![1, B, C])
    (x : (⟨3, ![N, B, C]⟩ : Shape).Idx → α) (idx : IVec ⟨2, ![R, 1]⟩ w) (k : Fin R) (b : Fin B) (j : Fin C)
    (r : Fin N) (hr : (idx (ix2 k 0)).toInt = (r.val : ℤ)) :
    Host.gather (planeDims N R B C wf) x idx (ix3 k b j) = x (ix3 r b j) := by
  unfold Host.gather
  congr 1
  have hsi : (planeDims N R B C wf).siIdx (ix3 k b j) ⟨List.idxOf (0 : Fin 3) (planeDims N R B C wf).startIndexMap,
      List.idxOf_lt_length_iff.2 (List.mem_singleton.mpr rfl)⟩ = ix2 k 0 := by
    funext a
    refine Fin.ext ?_
    match a with
    | ⟨0, _⟩ => rfl
    | ⟨1, _⟩ => rfl
  funext a
  refine Fin.ext ?_
  show (planeDims N R B C wf).start (ix3 k b j) idx a + (planeDims N R B C wf).batchCoord (ix3 k b j) a
      + (planeDims N R B C wf).offCoord (ix3 k b j) a = _
  rw [GatherDims.batchCoord_eq_zero _ _ _ List.not_mem_nil]
  match a with
  | ⟨0, _⟩ =>
    show (planeDims N R B C wf).start (ix3 k b j) idx 0 + 0 + (planeDims N R B C wf).offCoord (ix3 k b j) 0 = r.val
    rw [GatherDims.offCoord_eq_zero _ _ _ (fun h => ((GatherDims.mem_sKept _ _).mp h).1 (List.mem_singleton.mpr rfl))]
    unfold GatherDims.start
    rw [dif_pos (show (0 : Fin 3) ∈ (planeDims N R B C wf).startIndexMap from List.mem_singleton.mpr rfl), hsi, hr]
    show min r.val (N - 1) + 0 + 0 = r.val
    omega
  | ⟨1, _⟩ => exact (show 0 + 0 + b.val = b.val by omega)
  | ⟨2, _⟩ => exact (show 0 + 0 + j.val = j.val by omega)

/-- An array with plane `n` put anew. -/
theorem put_plane {N B C : ℕ} (x : (⟨3, ![N, B, C]⟩ : Shape).Idx → α) (u : (⟨3, ![1, B, C]⟩ : Shape).Idx → α)
    (f : Fin 3 → ℤ) (h : (⟨3, ![N, B, C]⟩ : Shape).Slices (fun _ => 0) ⟨3, ![1, B, C]⟩) (n : ℕ) (hn : n < N)
    (h0 : f 0 = (n : ℤ)) (h1 : f 1 = ((0 : ℕ) : ℤ)) (h2 : f 2 = ((0 : ℕ) : ℤ)) (r : Fin N) (b : Fin B) (j : Fin C) :
    Host.dynamicUpdateSlice x u f h (ix3 r b j) = if r.val = n then u (ix3 0 b j) else x (ix3 r b j) := by
  have e0 := Host.clampedStart_of_le (s := ⟨3, ![N, B, C]⟩) (t := ⟨3, ![1, B, C]⟩) rfl f 0 n h0 (by show n + 1 ≤ N; omega)
  have e1 := Host.clampedStart_of_le (s := ⟨3, ![N, B, C]⟩) (t := ⟨3, ![1, B, C]⟩) rfl f 1 0 h1 (by show 0 + B ≤ B; omega)
  have e2 := Host.clampedStart_of_le (s := ⟨3, ![N, B, C]⟩) (t := ⟨3, ![1, B, C]⟩) rfl f 2 0 h2 (by show 0 + C ≤ C; omega)
  rw [Host.dynamicUpdateSlice_apply]
  by_cases hr : r.val = n
  · rw [if_pos hr, dif_pos]
    · refine congrArg u ?_
      funext a
      refine Fin.ext ?_
      match a with
      | ⟨0, _⟩ => exact (show r.val - Host.clampedStart ⟨3, ![N, B, C]⟩ ⟨3, ![1, B, C]⟩ rfl f 0 = 0 by rw [e0]; omega)
      | ⟨1, _⟩ => exact (show b.val - Host.clampedStart ⟨3, ![N, B, C]⟩ ⟨3, ![1, B, C]⟩ rfl f 1 = b.val by rw [e1]; omega)
      | ⟨2, _⟩ => exact (show j.val - Host.clampedStart ⟨3, ![N, B, C]⟩ ⟨3, ![1, B, C]⟩ rfl f 2 = j.val by rw [e2]; omega)
    · intro a
      match a with
      | ⟨0, _⟩ =>
        show Host.clampedStart ⟨3, ![N, B, C]⟩ ⟨3, ![1, B, C]⟩ rfl f 0 ≤ r.val ∧ r.val < Host.clampedStart ⟨3, ![N, B, C]⟩ ⟨3, ![1, B, C]⟩ rfl f 0 + 1
        rw [e0]; omega
      | ⟨1, _⟩ =>
        show Host.clampedStart ⟨3, ![N, B, C]⟩ ⟨3, ![1, B, C]⟩ rfl f 1 ≤ b.val ∧ b.val < Host.clampedStart ⟨3, ![N, B, C]⟩ ⟨3, ![1, B, C]⟩ rfl f 1 + B
        rw [e1]; omega
      | ⟨2, _⟩ =>
        show Host.clampedStart ⟨3, ![N, B, C]⟩ ⟨3, ![1, B, C]⟩ rfl f 2 ≤ j.val ∧ j.val < Host.clampedStart ⟨3, ![N, B, C]⟩ ⟨3, ![1, B, C]⟩ rfl f 2 + C
        rw [e2]; omega
  · rw [if_neg hr, dif_neg]
    intro hin
    have hin0 : Host.clampedStart ⟨3, ![N, B, C]⟩ ⟨3, ![1, B, C]⟩ rfl f 0 ≤ r.val
      ∧ r.val < Host.clampedStart ⟨3, ![N, B, C]⟩ ⟨3, ![1, B, C]⟩ rfl f 0 + 1 := hin 0
    rw [e0] at hin0
    omega

end Chart
-- ==== Proof.Chart.Trip.lean ====
/-
  What one trip of the reference reads of its tables.
-/
module

public import proofs.«01_k».proof.Proof.Gen.ReferenceIdeal.Run
public import proofs.«01_k».proof.Proof.Chart.Args
public import proofs.«01_k».proof.Proof.Chart.Gather
public import Idealize.ShloMosaic.Lib.IdealHost

@[expose] public section

set_option maxRecDepth 65536

noncomputable section

namespace Chart

open Idealize.ShloMosaic Idealize.ShloMosaic.TcCoe Idealize.SL.Sem Idealize.ShloMosaic.StableHlo Idealize.ShloMosaic.Pointwise
open Cert.ReferenceIdeal Cert.ReferenceIdeal.Gen Cert.ReferenceIdeal.Value

/-- The buffers that no trip writes, and the counter, before trip `t`. -/
structure At (I : Inputs) (t : ℕ) (V0 : Valuation τ sig (Elt Ideal)) : Prop where
  row : ∀ n : Fin 143, V0 (Proc.devRef .tc main_v4_0) (ix1 n) = lit0 n
  fst : ∀ (n : Fin 143) (k : Fin 11), V0 (Proc.devRef .tc main_v4_1) (ix2 n k) = lit1 ⟨n * 11 + k, by omega⟩
  snd : ∀ (n : Fin 143) (k : Fin 11), V0 (Proc.devRef .tc main_v4_2) (ix2 n k) = lit2 ⟨n * 11 + k, by omega⟩
  cnt : ∀ n : Fin 143, V0 (Proc.devRef .tc main_v4_3) (ix1 n) = lit3 n
  bil : ∀ q j : Fin 768, V0 (Proc.devRef .tc main_v4_4) (ix3 0 q j) = (I.bil q j : EReal)
  w1 : ∀ (k : Fin 768) (q : Fin 1536), V0 (Proc.devRef .tc main_v4_5) (ix2 k q) = (I.w1 k q : EReal)
  b1 : ∀ k : Fin 768, V0 (Proc.devRef .tc main_v4_6) (ix1 k) = (I.b1 k : EReal)
  w2 : ∀ j k : Fin 768, V0 (Proc.devRef .tc main_v4_7) (ix2 j k) = (I.w2 j k : EReal)
  b2 : ∀ k : Fin 768, V0 (Proc.devRef .tc main_v4_8) (ix1 k) = (I.b2 k : EReal)
  ctr : V0 (Proc.devRef .tc main_v4_9) = constantI S_ 32 (BitVec.ofNat 32 t)

/-- A counter of `t`, read as a start. -/
theorem toInt_ctr {t : ℕ} (ht : t < 143) : (BitVec.ofNat 32 t).toInt = (t : ℤ) := by
  rw [BitVec.toInt_ofNat', Int.bmod_def]
  omega

/-- A short word read signed is the word read unsigned. -/
theorem toInt_short {w : BitVec 32} {n : ℕ} (h : w.toNat = n) (hn : n < 156) : w.toInt = (n : ℤ) := by
  rw [BitVec.toInt_eq_toNat_cond]
  omega

/-- Place `t` of a table of one column is entry `t` of the list. -/
theorem rowMajor_143 {t : ℕ} (ht : t < 143) : S143.rowMajor (ix1 ⟨t, ht⟩) = ⟨t, ht⟩ :=
  Fin.ext (rowMajor_val1 (d := ![143]) (ix1 ⟨t, ht⟩))

/-- Place `(t, k)` of a table of eleven columns is entry `11 t + k` of the list. -/
theorem rowMajor_143x11 {t : ℕ} (ht : t < 143) (k : Fin 11) (h : t * 11 + k < 1573) :
    S143x11.rowMajor (ix2 ⟨t, ht⟩ k) = ⟨t * 11 + k, h⟩ :=
  Fin.ext (rowMajor_val2 (d := ![143, 11]) (ix2 ⟨t, ht⟩ k) 11 rfl)

/-- Entry `t` of a table, as a trip cuts it out. -/
theorem pick_one (x : IVec S143 32) (f : Fin 1 → ℤ) {t : ℕ} (ht : t < 143) (hf : f 0 = (t : ℤ)) (i : S_.Idx) :
    shapeCast S_ (Host.dynamicSlice S1 x f sliceFits_S143_S1) shapeCasts_S1_S_ i = x (ix1 ⟨t, ht⟩) := by
  pointwise
  refine congrArg (fun a => x (ix1 a)) (Fin.ext ?_)
  exact Host.clampedStart_of_le (s := S143) (t := S1) rfl f 0 t hf (by show t + 1 ≤ 143; omega)

/-- Entry `k` of line `t` of a table, as a trip cuts it out. -/
theorem pick_line (x : IVec S143x11 32) (f : Fin 2 → ℤ) {t : ℕ} (ht : t < 143) (hf : f 0 = (t : ℤ)) (hf' : f 1 = ((0 : ℕ) : ℤ))
    (k : Fin 11) :
    shapeCast S11 (Host.dynamicSlice S1x11 x f sliceFits_S143x11_S1x11) shapeCasts_S1x11_S11 (ix1 k)
      = x (ix2 ⟨t, ht⟩ k) := by
  pointwise
  refine congrArg₂ (fun a b => x (ix2 a b)) (Fin.ext ?_) (Fin.ext ?_)
  · exact Host.clampedStart_of_le (s := S143x11) (t := S1x11) rfl f 0 t hf (by show t + 1 ≤ 143; omega)
  · have e := Host.clampedStart_of_le (s := S143x11) (t := S1x11) rfl f 1 0 hf' (by show 0 + 11 ≤ 11; omega)
    show Host.clampedStart S143x11 S1x11 _ f 1 + k.val = k.val
    rw [e, Nat.zero_add]

variable {V0 : Valuation τ sig (Elt Ideal)} {I : Inputs} {t : ℕ}

/-- The trip starts from the counter `t`. -/
theorem At.start (h : At I t V0) (ht : t < 143) :
    BitVec.toInt (V0 (Proc.devRef .tc main_v4_9) (Shape.Idx.first h_S_)) = (t : ℤ) := by
  rw [h.ctr]
  exact toInt_ctr ht

/-- The row that trip `t` writes. -/
theorem At.row_at (h : At I t V0) (ht : t < 143) (i : S_.Idx) : (res_main_while0b_v10 V0 i).toInt = (rowT t : ℤ) := by
  refine toInt_short ?_ (made_row t ht).2.1
  refine (congrArg BitVec.toNat (pick_one (V0 (Proc.devRef .tc main_v4_0)) _ ht (h.start ht) i)).trans ?_
  exact (congrArg BitVec.toNat (h.row ⟨t, ht⟩)).trans (by rw [rowT, dif_pos ht])

/-- The row of the first member of pair `k` in trip `t`. -/
theorem At.fst_at (h : At I t V0) (ht : t < 143) (k : Fin 11) :
    (res_main_while0b_v11 V0 (ix1 k)).toInt = (fstT t k : ℤ) := by
  refine toInt_short ?_ (made_read t ht k k.2).2.1
  refine (congrArg BitVec.toNat (pick_line (V0 (Proc.devRef .tc main_v4_1)) _ ht (h.start ht)
    (show BitVec.toInt 0#32 = ((0 : ℕ) : ℤ) by decide) k)).trans ?_
  exact (congrArg BitVec.toNat (h.fst ⟨t, ht⟩ k)).trans (by rw [fstT, dif_pos])

/-- The row of the second member of pair `k` in trip `t`. -/
theorem At.snd_at (h : At I t V0) (ht : t < 143) (k : Fin 11) :
    (res_main_while0b_v12 V0 (ix1 k)).toInt = (sndT t k : ℤ) := by
  refine toInt_short ?_ (made_read t ht k k.2).2.2
  refine (congrArg BitVec.toNat (pick_line (V0 (Proc.devRef .tc main_v4_2)) _ ht (h.start ht)
    (show BitVec.toInt 0#32 = ((0 : ℕ) : ℤ) by decide) k)).trans ?_
  exact (congrArg BitVec.toNat (h.snd ⟨t, ht⟩ k)).trans (by rw [sndT, dif_pos])

/-- The mask lets slot `k` through where the trip has that many pairs. -/
theorem At.mask_at (h : At I t V0) (ht : t < 143) (k : Fin 11) (b : Fin 16) (o : Fin 1) :
    (res_main_while0b_v44 V0 (ix3 k b o) = 1#1) ↔ k.val < cntT t := by
  have hc : (lit3 ⟨t, ht⟩).toInt = (cntT t : ℤ) :=
    toInt_short (by rw [cntT, dif_pos ht]) (by have := (made_row t ht).2.2.2; omega)
  have hk : (BitVec.ofNat 32 k.val).toInt = (k.val : ℤ) := toInt_ctr (by omega)
  have hp := pick_one (V0 (Proc.devRef .tc main_v4_3))
    (fun k => (((![V0 (Proc.devRef .tc main_v4_9)] : Fin 1 → (⟨S_, .i32⟩ : BufTy).Contents (Elt Ideal))) k
      (Shape.Idx.first h_S_)).toInt) ht (h.start ht)
  have hw := fun i => (hp i).trans (h.cnt ⟨t, ht⟩)
  have e : res_main_while0b_v44 V0 (ix3 k b o)
      = IntOp.cmpi CmpIPredicate.slt (BitVec.ofNat 32 k.val) (lit3 ⟨t, ht⟩) := by
    unfold res_main_while0b_v44
    exact congrArg (IntOp.cmpi CmpIPredicate.slt (BitVec.ofNat 32 k.val)) (hw _)
  rw [e]
  rw [← Int.ofNat_lt, ← hc, ← hk]
  by_cases hlt : (BitVec.ofNat 32 k.val).toInt < (lit3 ⟨t, ht⟩).toInt
  · exact ⟨fun _ => hlt, fun _ => by
      show BitVec.ofBool (decide _) = _
      rw [decide_eq_true hlt]
      rfl⟩
  · refine ⟨fun hh => absurd hh ?_, fun hh => absurd hh hlt⟩
    show ¬ BitVec.ofBool (decide _) = _
    rw [decide_eq_false hlt]
    decide

/-- A masked choice. -/
theorem At.select_at (h : At I t V0) (ht : t < 143) (k : Fin 11) (b : Fin 16) (o : Fin 1) (x d : EReal) :
    Scalar.select (res_main_while0b_v44 V0 (ix3 k b o)) x d = if k.val < cntT t then x else d :=
  if_congr (h.mask_at ht k b o) rfl rfl

variable (V0) in
/-- The vectors the trip finds. -/
abbrev oldV : ℕ → ℕ → EReal := rows (m := 156) (n := 768) (V0 (Proc.devRef .tc main_v4_10))
variable (V0) in
/-- The scores the trip finds. -/
abbrev oldS (i : ℕ) : EReal := rows (m := 156) (n := 1) (V0 (Proc.devRef .tc main_v4_11)) i 0

/-- A gathered vector is the table's row. -/
theorem gatherV_at (x : S156x16x768.Idx → EReal) (idx : IVec S11 32) (k : Fin 11) (b : Fin 16) (j : Fin 768) (r : ℕ)
    (hr : (idx (ix1 k)).toInt = (r : ℤ)) (hlt : r < 156) :
    Host.gather gather_S156x16x768_S11x1_S11x16x768_12_0_n_n_0_1_116768 x (broadcastInDim S11x1 ![0] bcast_S11_S11x1_0 idx)
      (ix3 k b j) = rows (m := 156) (n := 768) x (16 * r + b) j :=
  (gather_plane _ x _ k b j ⟨r, hlt⟩ (by pointwise; exact hr)).trans (rows_at (m := 156) (n := 768) x ⟨r, hlt⟩ b j).symm

/-- A gathered score is the table's row. -/
theorem gatherS_at (x : S156x16x1.Idx → EReal) (idx : IVec S11 32) (k : Fin 11) (b : Fin 16) (o : Fin 1) (r : ℕ)
    (hr : (idx (ix1 k)).toInt = (r : ℤ)) (hlt : r < 156) :
    Host.gather gather_S156x16x1_S11x1_S11x16x1_12_0_n_n_0_1_1161 x (broadcastInDim S11x1 ![0] bcast_S11_S11x1_0 idx)
      (ix3 k b o) = rows (m := 156) (n := 1) x (16 * r + b) 0 :=
  (gather_plane _ x _ k b o ⟨r, hlt⟩ (by pointwise; exact hr)).trans (by
    obtain rfl : o = 0 := Subsingleton.elim _ _
    exact (rows_at (m := 156) (n := 1) x ⟨r, hlt⟩ b 0).symm)

/-- The vector of the first member of pair `k` in trip `t`. -/
theorem At.left_at (h : At I t V0) (ht : t < 143) (k : Fin 11) (b : Fin 16) (j : Fin 768) :
    res_main_while0b_v15 V0 (ix3 k b j) = oldV V0 (16 * fstT t k + b) j :=
  gatherV_at _ _ k b j _ (h.fst_at ht k) (made_read t ht k k.2).2.1

/-- The vector of the second member of pair `k` in trip `t`. -/
theorem At.right_at (h : At I t V0) (ht : t < 143) (k : Fin 11) (b : Fin 16) (j : Fin 768) :
    res_main_while0b_v17 V0 (ix3 k b j) = oldV V0 (16 * sndT t k + b) j :=
  gatherV_at _ _ k b j _ (h.snd_at ht k) (made_read t ht k k.2).2.2

/-- The score of a slot. -/
theorem At.score_at (h : At I t V0) (ht : t < 143) (k : Fin 11) (b : Fin 16) (o : Fin 1) :
    res_main_while0b_v28 V0 (ix3 k b o)
      = I.score (oldV V0) (oldS V0) (16 * fstT t k + b) (16 * sndT t k + b) := by
  unfold res_main_while0b_v28
  pointwise
  rw [gatherS_at _ _ k b o _ (h.fst_at ht k) (made_read t ht k k.2).2.1,
    gatherS_at _ _ k b o _ (h.snd_at ht k) (made_read t ht k k.2).2.2]
  simp only [h.left_at ht, h.right_at ht, h.bil]
  rfl

variable (I V0 t) in
/-- The scores of the trip's slots at batch row `b`. -/
abbrev slotS (b k : ℕ) : EReal := I.score (oldV V0) (oldS V0) (16 * fstT t k + b) (16 * sndT t k + b)

/-- The exponential of a slot: its score less the greatest, the slots without a pair at the bottom. -/
theorem At.exp_at (h : At I t V0) (ht : t < 143) (k : Fin 11) (b : Fin 16) (o : Fin 1) :
    res_main_while0b_v53 V0 (ix3 k b o)
      = Ideal.exp ((if k.val < cntT t then slotS V0 I t b k else ⊥)
        - (Finset.univ : Finset (Fin 11)).fold max ⊥ fun q : Fin 11 => if q.val < cntT t then slotS V0 I t b q else ⊥) := by
  have hs : ∀ (q : Fin 11) (o' : Fin 1) (d : EReal), d = ⊥ →
      Scalar.select (res_main_while0b_v44 V0 (ix3 q b o')) (res_main_while0b_v28 V0 (ix3 q b o')) d
        = if q.val < cntT t then slotS V0 I t b q else ⊥ := fun q o' d hd =>
    (h.select_at ht q b o' _ d).trans (by rw [hd, h.score_at ht q b o'])
  unfold res_main_while0b_v53
  pointwise
  refine congrArg Ideal.exp (congrArg₂ (fun p q : EReal => p - q) (hs k o _ ofBits_negInf) ?_)
  have hb : Ideal.ofBits FTy.f32 0xFF800000#32 = (⊥ : EReal) := ofBits_negInf
  rw [hb, max_eq_right bot_le]
  refine (Shape.ReducesTo.fold_fiber_r3_a0 (n0 := 11) (n1 := 16) (n2 := 1) reducesTo_S11x16x1_S16x1_d0 (ix2 b 0) max ⊥
    _).trans ?_
  exact Finset.fold_congr fun q _ => hs q 0 ⊥ rfl

/-- The weight of a slot. -/
theorem At.weight_at (h : At I t V0) (ht : t < 143) (k : Fin 11) (b : Fin 16) (o : Fin 1) :
    res_main_while0b_v59 V0 (ix3 k b o)
      = (if k.val < cntT t then
        Ideal.div (Ideal.exp ((if k.val < cntT t then slotS V0 I t b k else ⊥)
            - (Finset.univ : Finset (Fin 11)).fold max ⊥ fun q : Fin 11 => if q.val < cntT t then slotS V0 I t b q else ⊥))
          (∑ u : Fin 11, if u.val < cntT t then Ideal.exp ((if u.val < cntT t then slotS V0 I t b u else ⊥)
            - (Finset.univ : Finset (Fin 11)).fold max ⊥ fun q : Fin 11 => if q.val < cntT t then slotS V0 I t b q else ⊥) else 0)
        else (0 : EReal)) := by
  unfold res_main_while0b_v59
  pointwise
  rw [h.select_at ht k b o, h.exp_at ht k b o]
  simp only [h.select_at ht _ b 0, h.exp_at ht _ b 0]
  refine if_congr Iff.rfl rfl ?_
  show (((0#32 : BitVec 32).toInt : ℝ) : EReal) = 0
  simp

/-- The scores after the trip: its cell's anew. -/
theorem At.stepS (h : At I t V0) (ht : t < 143) (r : Fin 156) (b : Fin 16) (o : Fin 1) :
    step_main_v4_11 V0 (ix3 r b o)
      = if r.val = rowT t then I.cellS (oldV V0) (oldS V0) t b else V0 (Proc.devRef .tc main_v4_11) (ix3 r b o) := by
  unfold step_main_v4_11
  rw [id_eq]
  refine (put_plane _ _ _ _ (rowT t) (made_row t ht).2.1 (h.row_at ht _)
    (show BitVec.toInt 0#32 = ((0 : ℕ) : ℤ) by decide) (show BitVec.toInt 0#32 = ((0 : ℕ) : ℤ) by decide) r b o).trans ?_
  refine if_congr Iff.rfl ?_ rfl
  pointwise
  simp only [h.weight_at ht, h.score_at ht]
  exact comb_masked (made_row t ht).2.2.2 (slotS V0 I t b) (slotS V0 I t b)

/-- The composed vector with the two halves of the hidden layer apart. -/
theorem vec_split (I : Inputs) (v : ℕ → ℕ → EReal) (a b j : ℕ) :
    I.vec v a b j = max ((∑ k : Fin 768, max ((∑ q : Fin 768, v a q * I.w1 k q)
      + (∑ q : Fin 768, v b q * I.w1 k (768 + q)) + I.b1 k) 0 * I.w2 j k) + I.b2 j) 0 := by
  unfold Inputs.vec Inputs.hid
  refine congrArg (fun z => max (z + _) _) (Finset.sum_congr rfl fun k _ => ?_)
  rw [sum_halves fun q => (if q < 768 then v a q else v b (q - 768)) * I.w1 k q]
  simp

/-- The vectors after the trip: its cell's anew. -/
theorem At.stepV (h : At I t V0) (ht : t < 143) (r : Fin 156) (b : Fin 16) (j : Fin 768) :
    step_main_v4_10 V0 (ix3 r b j)
      = if r.val = rowT t then I.cellV (oldV V0) (oldS V0) t b j else V0 (Proc.devRef .tc main_v4_10) (ix3 r b j) := by
  unfold step_main_v4_10
  rw [id_eq]
  refine (put_plane _ _ _ _ (rowT t) (made_row t ht).2.1 (h.row_at ht _)
    (show BitVec.toInt 0#32 = ((0 : ℕ) : ℤ) by decide) (show BitVec.toInt 0#32 = ((0 : ℕ) : ℤ) by decide) r b j).trans ?_
  refine if_congr Iff.rfl ?_ rfl
  pointwise
  simp only [h.weight_at ht, h.left_at ht, h.right_at ht, h.w1, h.b1, h.w2, h.b2]
  have e := (comb_masked (made_row t ht).2.2.2 (slotS V0 I t b)
    fun k => I.vec (oldV V0) (16 * fstT t k + b) (16 * sndT t k + b) j).trans
      (show _ = I.cellV (oldV V0) (oldS V0) t b j from rfl)
  simp only [vec_split] at e
  exact e

end Chart
-- ==== Proof.Chart.Loop.lean ====
/-
  All trips of the reference: the charts they leave satisfy the recurrence cell by cell.
-/
module

public import proofs.«01_k».proof.Proof.Chart.Trip

@[expose] public section

set_option maxRecDepth 65536

noncomputable section

namespace Chart

open Idealize.ShloMosaic Idealize.ShloMosaic.TcCoe Idealize.SL.Sem Idealize.ShloMosaic.StableHlo Idealize.ShloMosaic.Pointwise
open Cert.ReferenceIdeal Cert.ReferenceIdeal.Gen Cert.ReferenceIdeal.Value

variable {V0 : Valuation τ sig (Elt Ideal)} {I : Inputs} {t : ℕ}

/-- The next trip finds the same tables and the counter one on. -/
theorem At.next (h : At I t V0) : At I (t + 1) (STEP V0) where
  row n := by rw [STEP_main_v4_0]; exact h.row n
  fst n k := by rw [STEP_main_v4_1]; exact h.fst n k
  snd n k := by rw [STEP_main_v4_2]; exact h.snd n k
  cnt n := by rw [STEP_main_v4_3]; exact h.cnt n
  bil q j := by rw [STEP_main_v4_4]; exact h.bil q j
  w1 k q := by rw [STEP_main_v4_5]; exact h.w1 k q
  b1 k := by rw [STEP_main_v4_6]; exact h.b1 k
  w2 j k := by rw [STEP_main_v4_7]; exact h.w2 j k
  b2 k := by rw [STEP_main_v4_8]; exact h.b2 k
  ctr := by
    rw [STEP_main_v4_9]
    unfold step_main_v4_9
    rw [h.ctr]
    funext i
    show BitVec.ofNat 32 t + 1#32 = BitVec.ofNat 32 (t + 1)
    rw [BitVec.ofNat_add]

/-- The vectors one trip on. -/
theorem At.nextV (h : At I t V0) (ht : t < 143) (r b j : ℕ) (hr : r < 156) (hb : b < 16) (hj : j < 768) :
    oldV (STEP V0) (16 * r + b) j = if r = rowT t then I.cellV (oldV V0) (oldS V0) t b j else oldV V0 (16 * r + b) j := by
  have e := rows_at (m := 156) (n := 768) (STEP V0 (Proc.devRef .tc main_v4_10)) ⟨r, hr⟩ ⟨b, hb⟩ ⟨j, hj⟩
  have e' := rows_at (m := 156) (n := 768) (V0 (Proc.devRef .tc main_v4_10)) ⟨r, hr⟩ ⟨b, hb⟩ ⟨j, hj⟩
  rw [STEP_main_v4_10] at e
  have e2 := e.trans (h.stepV ht ⟨r, hr⟩ ⟨b, hb⟩ ⟨j, hj⟩)
  rw [← e', ← STEP_main_v4_10] at e2
  exact e2

/-- The scores one trip on. -/
theorem At.nextS (h : At I t V0) (ht : t < 143) (r b : ℕ) (hr : r < 156) (hb : b < 16) :
    oldS (STEP V0) (16 * r + b) = if r = rowT t then I.cellS (oldV V0) (oldS V0) t b else oldS V0 (16 * r + b) := by
  have e := rows_at (m := 156) (n := 1) (STEP V0 (Proc.devRef .tc main_v4_11)) ⟨r, hr⟩ ⟨b, hb⟩ 0
  have e' := rows_at (m := 156) (n := 1) (V0 (Proc.devRef .tc main_v4_11)) ⟨r, hr⟩ ⟨b, hb⟩ 0
  rw [STEP_main_v4_11] at e
  have e2 := e.trans (h.stepS ht ⟨r, hr⟩ ⟨b, hb⟩ 0)
  rw [← e', ← STEP_main_v4_11] at e2
  exact e2

/-- After `n` trips from the start the state is the one before trip `n`. -/
theorem At.iterate (h : At I 0 V0) : ∀ n, At I n (STEP^[n] V0)
  | 0 => h
  | n + 1 => by
    rw [Function.iterate_succ_apply']
    exact (At.iterate h n).next

variable (V0) in
/-- The vectors before trip `n`. -/
abbrev atV (n : ℕ) : ℕ → ℕ → EReal := oldV (STEP^[n] V0)
variable (V0) in
/-- The scores before trip `n`. -/
abbrev atS (n : ℕ) : ℕ → EReal := oldS (STEP^[n] V0)

/-- A row is final from the trip on that makes it. -/
theorem At.final (h : At I 0 V0) (r b : ℕ) (hr : r < 156) (hb : b < 16) :
    ∀ d n, n + d = 143 → made r ≤ n →
      (∀ j < 768, atV V0 n (16 * r + b) j = atV V0 143 (16 * r + b) j) ∧ atS V0 n (16 * r + b) = atS V0 143 (16 * r + b)
  | 0, n, hn, _ => by
    obtain rfl : n = 143 := by omega
    exact ⟨fun _ _ => rfl, rfl⟩
  | d + 1, n, hn, hm => by
    have hne : r ≠ rowT n := fun e => by
      have := (made_row n (by omega)).1
      rw [← e] at this
      omega
    have ih := At.final h r b hr hb d (n + 1) (by omega) (by omega)
    have hA := h.iterate n
    refine ⟨fun j hj => ?_, ?_⟩
    · rw [← ih.1 j hj]
      show _ = oldV (STEP^[n + 1] V0) _ _
      rw [Function.iterate_succ_apply', hA.nextV (by omega) r b j hr hb hj, if_neg hne]
    · rw [← ih.2]
      show _ = oldS (STEP^[n + 1] V0) _
      rw [Function.iterate_succ_apply', hA.nextS (by omega) r b hr hb, if_neg hne]

/-- A pair's score reads only its two rows. -/
theorem Inputs.score_congr {v v' : ℕ → ℕ → EReal} {s s' : ℕ → EReal} {a b : ℕ} (hva : ∀ j < 768, v a j = v' a j)
    (hvb : ∀ j < 768, v b j = v' b j) (hsa : s a = s' a) (hsb : s b = s' b) : I.score v s a b = I.score v' s' a b := by
  unfold Inputs.score
  rw [hsa, hsb]
  refine congrArg (· + _ + _) (Finset.sum_congr rfl fun j _ => ?_)
  rw [hvb j j.2]
  exact congrArg (· * _) (Finset.sum_congr rfl fun q _ => by rw [hva q q.2])

/-- A pair's vector reads only its two rows. -/
theorem Inputs.vec_congr {v v' : ℕ → ℕ → EReal} {a b : ℕ} (hva : ∀ j < 768, v a j = v' a j)
    (hvb : ∀ j < 768, v b j = v' b j) (j : ℕ) : I.vec v a b j = I.vec v' a b j := by
  rw [vec_split, vec_split]
  refine congrArg (fun z => max (z + _) _) (Finset.sum_congr rfl fun k _ => ?_)
  rw [Finset.sum_congr rfl fun (q : Fin 768) _ => show v a q * I.w1 k q = v' a q * I.w1 k q by rw [hva q q.2],
    Finset.sum_congr rfl fun (q : Fin 768) _ => show v b q * I.w1 k (768 + q) = v' b q * I.w1 k (768 + q) by rw [hvb q q.2]]

/-- Rows a trip reads are final when it reads them. -/
theorem At.reads (h : At I 0 V0) (ht : t < 143) (b : ℕ) (hb : b < 16) (k : ℕ) (hk : k < cntT t) :
    ((∀ j < 768, atV V0 t (16 * fstT t k + b) j = atV V0 143 (16 * fstT t k + b) j)
      ∧ atS V0 t (16 * fstT t k + b) = atS V0 143 (16 * fstT t k + b))
    ∧ (∀ j < 768, atV V0 t (16 * sndT t k + b) j = atV V0 143 (16 * sndT t k + b) j)
      ∧ atS V0 t (16 * sndT t k + b) = atS V0 143 (16 * sndT t k + b) := by
  have hc := (made_row t ht).2.2.2
  obtain ⟨hm, h1, h2⟩ := made_read t ht k (by omega)
  exact ⟨h.final _ b h1 hb (143 - t) t (by omega) (hm hk).1, h.final _ b h2 hb (143 - t) t (by omega) (hm hk).2⟩

/-- The charts after all trips. -/
theorem At.fixed (h : At I 0 V0) (leafV : ∀ r < 12, ∀ b < 16, ∀ j < 768, oldV V0 (16 * r + b) j = I.we (16 * r + b) j)
    (rootV : ∀ b < 16, ∀ j < 768, oldV V0 (16 * 155 + b) j = I.rb j)
    (zero : ∀ r < 156, ∀ b < 16, oldS V0 (16 * r + b) = 0) : I.Fixed (atV V0 143) (atS V0 143) where
  leafV i hi j hj := by
    have := leafV (i / 16) (by omega) (i % 16) (by omega) j hj
    rw [Nat.div_add_mod] at this
    have e := (h.final (i / 16) (i % 16) (by omega) (by omega) 143 0 rfl (by unfold made; rw [if_pos (by omega)])).1 j hj
    rw [Nat.div_add_mod] at e
    exact e.symm.trans this
  leafS i hi := by
    have := zero (i / 16) (by omega) (i % 16) (by omega)
    rw [Nat.div_add_mod] at this
    rw [← this, ← Nat.div_add_mod i 16,
      ← (h.final (i / 16) (i % 16) (by omega) (by omega) 143 0 rfl (by unfold made; rw [if_pos (by omega)])).2]
    rfl
  rootV i hi j hj := by
    rw [← rootV i hi j hj]
    exact ((h.final 155 i (by omega) hi 143 0 rfl (by decide)).1 j hj).symm
  rootS i hi := by
    rw [← zero 155 (by omega) i hi]
    exact (h.final 155 i (by omega) hi 143 0 rfl (by decide)).2.symm
  vec t ht b hb j hj := by
    have hr := made_row t ht
    rw [← (h.final (rowT t) b hr.2.1 hb (142 - t) (t + 1) (by omega) (by omega)).1 j hj]
    show oldV (STEP^[t + 1] V0) _ _ = _
    rw [Function.iterate_succ_apply', (h.iterate t).nextV ht _ b j hr.2.1 hb hj, if_pos rfl]
    exact comb_congr
      (fun k hk => Inputs.score_congr (h.reads ht b hb k hk).1.1 (h.reads ht b hb k hk).2.1 (h.reads ht b hb k hk).1.2
        (h.reads ht b hb k hk).2.2)
      (fun k hk => Inputs.vec_congr (h.reads ht b hb k hk).1.1 (h.reads ht b hb k hk).2.1 j)
  sco t ht b hb := by
    have hr := made_row t ht
    rw [← (h.final (rowT t) b hr.2.1 hb (142 - t) (t + 1) (by omega) (by omega)).2]
    show oldS (STEP^[t + 1] V0) _ = _
    rw [Function.iterate_succ_apply', (h.iterate t).nextS ht _ b hr.2.1 hb, if_pos rfl]
    exact comb_congr
      (fun k hk => Inputs.score_congr (h.reads ht b hb k hk).1.1 (h.reads ht b hb k hk).2.1 (h.reads ht b hb k hk).1.2
        (h.reads ht b hb k hk).2.2)
      (fun k hk => Inputs.score_congr (h.reads ht b hb k hk).1.1 (h.reads ht b hb k hk).2.1 (h.reads ht b hb k hk).1.2
        (h.reads ht b hb k hk).2.2)

end Chart
-- ==== Proof.Chart.Reference.lean ====
/-
  What the reference leaves: the rows of charts that satisfy the recurrence cell by cell.
-/
module

public import proofs.«01_k».proof.Proof.Chart.Loop

@[expose] public section

set_option maxRecDepth 65536

noncomputable section

namespace Chart

open Idealize.ShloMosaic Idealize.ShloMosaic.TcCoe Idealize.SL.Sem Idealize.ShloMosaic.StableHlo Idealize.ShloMosaic.Pointwise
open Cert.ReferenceIdeal Cert.ReferenceIdeal.Gen Cert.ReferenceIdeal.Value

variable (m : (ℓ : Loc nD τ sig) → Buf (Elt Ideal) ℓ) (c : Dev nD)

/-- The tables of the arguments the reference is launched on. -/
def refInputs : Inputs :=
  inputsOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

variable {m c}

set_option maxHeartbeats 4000000 in
/-- What the loop finds at its start in the place of table 0 of the schedule. -/
theorem entry_v4_0 : entryContents preI m c (Proc.devRef .tc main_v4_0) = fun i => lit0 (S143.rowMajor i) := by
  simp only [entryContents, afterL_cons, afterL_nil]
  after_reads_simp
  rfl

set_option maxHeartbeats 4000000 in
/-- What the loop finds at its start in the place of table 1 of the schedule. -/
theorem entry_v4_1 : entryContents preI m c (Proc.devRef .tc main_v4_1) = fun i => lit1 (S143x11.rowMajor i) := by
  simp only [entryContents, afterL_cons, afterL_nil]
  after_reads_simp
  rfl

set_option maxHeartbeats 4000000 in
/-- What the loop finds at its start in the place of table 2 of the schedule. -/
theorem entry_v4_2 : entryContents preI m c (Proc.devRef .tc main_v4_2) = fun i => lit2 (S143x11.rowMajor i) := by
  simp only [entryContents, afterL_cons, afterL_nil]
  after_reads_simp
  rfl

set_option maxHeartbeats 4000000 in
/-- What the loop finds at its start in the place of table 3 of the schedule. -/
theorem entry_v4_3 : entryContents preI m c (Proc.devRef .tc main_v4_3) = fun i => lit3 (S143.rowMajor i) := by
  simp only [entryContents, afterL_cons, afterL_nil]
  after_reads_simp
  rfl

set_option maxHeartbeats 4000000 in
/-- What the loop finds at its start in its weight number 0: an argument as it was given. -/
theorem entry_v4_4 : entryContents preI m c (Proc.devRef .tc main_v4_4) = m ((c.tc : Thread nD τ).loc main_arg5) := by
  simp only [entryContents, afterL_cons, afterL_nil]
  after_reads_simp
  rfl

set_option maxHeartbeats 4000000 in
/-- What the loop finds at its start in its weight number 1: an argument as it was given. -/
theorem entry_v4_5 : entryContents preI m c (Proc.devRef .tc main_v4_5) = m ((c.tc : Thread nD τ).loc main_arg1) := by
  simp only [entryContents, afterL_cons, afterL_nil]
  after_reads_simp
  rfl

set_option maxHeartbeats 4000000 in
/-- What the loop finds at its start in its weight number 2: an argument as it was given. -/
theorem entry_v4_6 : entryContents preI m c (Proc.devRef .tc main_v4_6) = m ((c.tc : Thread nD τ).loc main_arg2) := by
  simp only [entryContents, afterL_cons, afterL_nil]
  after_reads_simp
  rfl

set_option maxHeartbeats 4000000 in
/-- What the loop finds at its start in its weight number 3: an argument as it was given. -/
theorem entry_v4_7 : entryContents preI m c (Proc.devRef .tc main_v4_7) = m ((c.tc : Thread nD τ).loc main_arg3) := by
  simp only [entryContents, afterL_cons, afterL_nil]
  after_reads_simp
  rfl

set_option maxHeartbeats 4000000 in
/-- What the loop finds at its start in its weight number 4: an argument as it was given. -/
theorem entry_v4_8 : entryContents preI m c (Proc.devRef .tc main_v4_8) = m ((c.tc : Thread nD τ).loc main_arg4) := by
  simp only [entryContents, afterL_cons, afterL_nil]
  after_reads_simp
  rfl

set_option maxHeartbeats 4000000 in
/-- The vectors before the first trip: the words, rows not made yet, the root. -/
theorem entry_v4_10 : entryContents preI m c (Proc.devRef .tc main_v4_10)
    = concatenate S156x16x768 0 [⟨S12x16x768, (m ((c.tc : Thread nD τ).loc main_arg0) : S12x16x768.Idx → EReal)⟩,
      ⟨S143x16x768, broadcastInDim S143x16x768 ![] bcast_S_S143x16x768 (constant (F := Ideal) S_ .f32 0x00000000#32)⟩,
      ⟨S1x16x768, broadcastInDim S1x16x768 ![2] bcast_S768_S1x16x768_2 (m ((c.tc : Thread nD τ).loc main_arg6) : S768.Idx → EReal)⟩]
      concatenates_S12x16x768_S143x16x768_S1x16x768_S156x16x768_d0 := by
  simp only [entryContents, afterL_cons, afterL_nil]
  after_reads_simp
  have e0 : upto hostOps0 (launchContents m c) 7 (Proc.devRef .tc main_arg0) = m ((c.tc : Thread nD τ).loc main_arg0) := by
    after_reads_simp
  have e1 : upto hostOps0 (launchContents m c) 7 (Proc.devRef .tc main_v0)
      = broadcastInDim S143x16x768 ![] bcast_S_S143x16x768 (constant (F := Ideal) S_ .f32 0x00000000#32) := by
    after_reads_simp
  have e2 : upto hostOps0 (launchContents m c) 7 (Proc.devRef .tc main_v1)
      = broadcastInDim S1x16x768 ![2] bcast_S768_S1x16x768_2 (m ((c.tc : Thread nD τ).loc main_arg6) : S768.Idx → EReal) := by
    after_reads_simp
  rw [← e0, ← e1, ← e2]
  rfl

set_option maxHeartbeats 4000000 in
/-- What the loop finds at its start as the chart's scores: zeros. -/
theorem entry_v4_11 : entryContents preI m c (Proc.devRef .tc main_v4_11)
    = broadcastInDim S156x16x1 ![] bcast_S_S156x16x1 (constant (F := Ideal) S_ .f32 0x00000000#32) := by
  simp only [entryContents, afterL_cons, afterL_nil]
  after_reads_simp
  rfl

/-- The bilinear form that the loop reads is the first slab of the argument. -/
theorem bil_at (q j : Fin 768) :
    (refInputs m c).bil q j = (m ((c.tc : Thread nD τ).loc main_arg5) : S1x768x768.Idx → EReal) (ix3 0 q j) := by
  unfold refInputs inputsOf
  exact dif_pos ⟨q.2, j.2⟩

/-- The first trip finds the tables and the arguments. -/
theorem entry_at : At (refInputs m c) 0 (entryContents preI m c) where
  row n := by rw [entry_v4_0]; exact congrArg lit0 (Fin.ext (rowMajor_val1 (d := ![143]) (ix1 n)))
  fst n k := by rw [entry_v4_1]; exact congrArg lit1 (Fin.ext (rowMajor_val2 (d := ![143, 11]) (ix2 n k) 11 rfl))
  snd n k := by rw [entry_v4_2]; exact congrArg lit2 (Fin.ext (rowMajor_val2 (d := ![143, 11]) (ix2 n k) 11 rfl))
  cnt n := by rw [entry_v4_3]; exact congrArg lit3 (Fin.ext (rowMajor_val1 (d := ![143]) (ix1 n)))
  bil q j := by rw [entry_v4_4]; exact (bil_at q j).symm
  w1 k q := by rw [entry_v4_5]; exact (tab2_at _ k q).symm
  b1 k := by rw [entry_v4_6]; exact (tab1_at _ k).symm
  w2 j k := by rw [entry_v4_7]; exact (tab2_at _ j k).symm
  b2 k := by rw [entry_v4_8]; exact (tab1_at _ k).symm
  ctr := ctr_entry m c

/-- The first twelve vectors of the chart at the start are the word embeddings. -/
theorem entry_leafV (r b j : ℕ) (hr : r < 12) (hb : b < 16) (hj : j < 768) :
    oldV (entryContents preI m c) (16 * r + b) j = (refInputs m c).we (16 * r + b) j := by
  refine (rows_at (m := 156) (n := 768) _ ⟨r, by omega⟩ ⟨b, hb⟩ ⟨j, hj⟩).trans
    (Eq.trans ?_ (rows_at (m := 12) (n := 768) _ ⟨r, hr⟩ ⟨b, hb⟩ ⟨j, hj⟩).symm)
  rw [entry_v4_10]
  pointwise
  rw [dif_pos hr]

/-- The last vector of the chart at the start is the root bias. -/
theorem entry_rootV (b j : ℕ) (hb : b < 16) (hj : j < 768) :
    oldV (entryContents preI m c) (16 * 155 + b) j = (refInputs m c).rb j := by
  refine (rows_at (m := 156) (n := 768) _ ⟨155, by omega⟩ ⟨b, hb⟩ ⟨j, hj⟩).trans
    (Eq.trans ?_ (tab1_at _ ⟨j, hj⟩).symm)
  rw [entry_v4_10]
  pointwise

/-- All scores of the chart at the start are zero. -/
theorem entry_zero (r b : ℕ) (hr : r < 156) (hb : b < 16) : oldS (entryContents preI m c) (16 * r + b) = 0 := by
  refine (rows_at (m := 156) (n := 1) _ ⟨r, hr⟩ ⟨b, hb⟩ 0).trans ?_
  rw [entry_v4_11]
  pointwise

/-- What the operations after the trips leave. -/
theorem out_eq (V : Valuation τ sig (Elt Ideal)) : out_main_v9 V = resultOf (oldV V) (oldS V) := by
  funext i
  obtain ⟨r, b, j, rfl⟩ : ∃ (r : Fin 78) (b : Fin 16) (j : Fin 1538), i = ix3 r b j := ⟨i 0, i 1, i 2, by
    funext a; match a with | ⟨0, _⟩ => rfl | ⟨1, _⟩ => rfl | ⟨2, _⟩ => rfl⟩
  unfold out_main_v9
  pointwise
  have hv := fun (r' : Fin 156) (j' : Fin 768) =>
    (rows_at (m := 156) (n := 768) (V (Proc.devRef .tc main_v4_10)) r' b j').symm
  have hs := fun (r' : Fin 156) (o : Fin 1) => (rows_at (m := 156) (n := 1) (V (Proc.devRef .tc main_v4_11)) r' b o).symm
  rw [resultOf_at]
  by_cases h1 : j.val < 768
  · rw [dif_pos h1, if_pos h1]
    exact hv ⟨r, by omega⟩ ⟨j, h1⟩
  rw [dif_neg h1, if_neg h1]
  by_cases h2 : j.val < 769
  · rw [dif_pos (by omega), if_pos h2]
    refine (hs ⟨r, by omega⟩ ⟨j - 768, by omega⟩).trans ?_
    show rows _ _ (j.val - 768) = rows _ _ 0
    rw [show j.val - 768 = 0 by omega]
  rw [dif_neg (by omega), if_neg h2]
  have e : 16 * (78 + r.val) + b.val = 1248 + (16 * r.val + b.val) := by omega
  by_cases h3 : j.val < 1537
  · rw [dif_pos (by omega), if_pos h3, ← e]
    exact hv ⟨78 + r, by omega⟩ ⟨j - 768 - 1, by omega⟩
  · rw [dif_neg (by omega), if_neg h3, ← e]
    refine (hs ⟨78 + r, by omega⟩ ⟨j - 768 - 1 - 768, by omega⟩).trans ?_
    show rows _ _ (j.val - 768 - 1 - 768) = rows _ _ 0
    rw [show j.val - 768 - 1 - 768 = 0 by omega]

/-- What the reference leaves is made of charts that satisfy the recurrence cell by cell. -/
theorem reference_value : ∃ v s, (refInputs m c).Fixed v s
    ∧ out_main_v9 (STEP^[143] (entryContents preI m c)) = resultOf v s :=
  ⟨_, _, entry_at.fixed (fun r hr b hb j hj => entry_leafV r b j hr hb hj) (fun b hb j hj => entry_rootV b j hb hj)
    (fun r hr b hb => entry_zero r b hr hb), out_eq _⟩

end Chart
-- ==== Proof.Chart.Value.lean ====
/-
  The kernel and the reference leave the same result: both are made of the same charts.
-/
module

public import proofs.«01_k».proof.Defs
public import proofs.«01_k».proof.Proof.Chart.Launch
public import proofs.«01_k».proof.Proof.Chart.Reference

@[expose] public section

noncomputable section

namespace Chart

open Idealize.ShloMosaic Idealize.ShloMosaic.TcCoe Idealize.SL.Sem Idealize.ShloMosaic.StableHlo
open Cert.ReferenceIdeal Cert.ReferenceIdeal.Gen Cert.ReferenceIdeal.Value

/-- The reference's charts are fixed by the level equations, in tables of the kernel's arguments. -/
theorem charts (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (e : refInputs m' c = kerInputs m c) :
    ∃ v s, (kerInputs m c).Fixed v s ∧
      out_main_v9 (STEP^[143] (entryContents preI m' c)) = resultOf v s := by
  rw [← e]
  exact reference_value

/-- The parameters of the chart made of the arguments' tables are what the call is handed. -/
theorem toRec_params (m : (ℓ : Loc Cert.KernelIdeal.nD Cert.KernelIdeal.τ Cert.KernelIdeal.sig) → Buf (Elt Ideal) ℓ)
    (c : Dev Cert.KernelIdeal.nD) (v : ℕ → ℕ → EReal) (s : ℕ → EReal) : Params m c ((kerInputs m c).toRec v s) where
  r0 := head_v0 m c
  r1 := head_v5 m c
  r2 := head_v6 m c
  r3 := head_v7 m c
  r4 := head_v8 m c
  r5 := head_v9 m c

/-- On equal arguments the two programs leave equal results. -/
theorem algebraic (hL : ∀ C : Rec, C.Holds → Leaves C) : Cert.algebraic_KernelIdeal_ReferenceIdeal := by
  intro m g m' g' _ hargs
  have e (c : Dev Cert.KernelIdeal.nD) : refInputs m' c = kerInputs m c := by
    obtain ⟨e0, e1, e2, e3, e4, e5, e6⟩ := hargs c
    unfold refInputs kerInputs
    rw [e0, e1, e2, e3, e4, e5, e6]
  choose v s hf hr using fun c => charts m m' c (e c)
  refine ⟨fun c => resultOf (v c) (s c), ?_, ?_⟩
  · refine (θ_run _ _ _).mono (fun r h c => ⟨h.1 c, h.2 c⟩) (θ_run_and
      (kernel_value (C := fun c => (kerInputs m c).toRec (v c) (s c)) m g (fun c => hL _ (hf c).holds)
        (fun c => toRec_params m c (v c) (s c)) (fun _ => rfl) (fun _ => rfl) (fun _ => rfl) (fun _ => rfl))
      (Cert.KernelIdeal.Gen.unchanged m g))
  · refine (θ_run _ _ _).mono (fun r h c => ⟨?_, (h c).2⟩) (Cert.ReferenceIdeal.Value.run m' g')
    exact (h c).1.trans (hr c)

end Chart
-- ==== Proof.lean ====
/-
  The claim: the frames of the kernel's print, of its idealized print and of the idealized reference, the (empty) list of
  rewrites between the two prints, and the equality of what the idealized kernel and the idealized reference return.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Chart.Run
public import proofs.«01_k».proof.Proof.Chart.Value
public import Idealize.ShloMosaic.Adequacy
public import Idealize.ShloMosaic.Init

@[expose] public section

noncomputable section

namespace Cert.Proof

open Idealize.ShloMosaic Idealize.SL.Sem

/-- The kernel's body leaves any chart that satisfies the level equations in its parameters. -/
theorem leaves (C : Chart.Rec) (hC : C.Holds) : Chart.Leaves C :=
  fun _ _ _ h0 h1 h2 h3 h4 h5 h6 h7 h8 h9 h10 h11 _ hQ =>
    Chart.body_run h0 h1 h2 h3 h4 h5 h6 h7 h8 h9 h10 h11 hC hQ

/-- The claim of the directory. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run _ _ _).mono (fun r h => ⟨fun c => (h c).2, sem_eq_zero_of_no_sems (by decide) r.2⟩)
      (Cert.ReferenceIdeal.Value.run m ρ),
    trivial, Chart.algebraic leaves⟩

end Cert.Proof

end
